-- ==== Defs.lean ====
def Pre_Kernel [hPre_batch_in_range : Cert.Pre_batch_in_range.Facts] (m : (ℓ : Loc Cert.Kernel.nD Cert.Kernel.τ Cert.Kernel.sig) → Buf (Elt Bits) ℓ) : Prop :=
  ∀ c : Dev Cert.Kernel.nD,
    (Cert.Pre_batch_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_batch_in_range : Cert.Pre_batch_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_batch_in_range : Cert.Pre_batch_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_batch_in_range : Cert.Pre_batch_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_batch_in_range : Cert.Pre_batch_in_range.Facts) (hPre_finite_in_range : Cert.Pre_finite_in_range.Facts),
    quiescent_Kernel (hKernel := hKernel) (hPre_batch_in_range := hPre_batch_in_range)
    ∧ quiescent_KernelIdeal (hKernelIdeal := hKernelIdeal) (hPre_batch_in_range := hPre_batch_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_batch_in_range.lean ====
abbrev S524288x3 : Shape := ⟨2, ![524288, 3]⟩
abbrev S524288 : Shape := ⟨1, ![524288]⟩
abbrev S64x3x3 : Shape := ⟨3, ![64, 3, 3]⟩
abbrev S_ : Shape := ⟨0, ![]⟩

class Facts : Prop where
  bcast_S_S524288 : S_.BroadcastsInDim S524288 (![] : Fin 0 → Fin S524288.rank)
  reducesTo_S524288_S_d0 : S524288.ReducesTo [0] S_
  h_S_ : 0 < S_.numel

variable [Facts]

def fn {F : FTy → Type} [FloatOps F] (main_arg0 : FVec F S524288x3 .f32) (main_arg1 : FVec F S524288 .f32) (main_arg2 : IVec S524288 32) (main_arg3 : FVec F S64x3x3 .f32) : IVec S_ 1 :=
  let main_c : IVec S_ 32 := constantI S_ 32 0#32
  let main_v0 : IVec S524288 32 := broadcastInDim S524288 ![] bcast_S_S524288 main_c
  let main_v1 : IVec S524288 1 := cmpi .sge main_arg2 main_v0
  let main_c_0 : IVec S_ 32 := constantI S_ 32 64#32
  let main_v2 : IVec S524288 32 := broadcastInDim S524288 ![] bcast_S_S524288 main_c_0
  let main_v3 : IVec S524288 1 := cmpi .slt main_arg2 main_v2
  let main_v4 : IVec S524288 1 := andi main_v1 main_v3
  let main_c_1 : IVec S_ 1 := constantI S_ 1 1#1
  let main_v5 : IVec S_ 1 := (fun x v => Host.reduce IntOp.andi x v reducesTo_S524288_S_d0 h_S_) main_v4 main_c_1
  main_v5
-- ==== Pre_finite_in_range.lean ====
abbrev S524288x3 : Shape := ⟨2, ![524288, 3]⟩
abbrev S524288 : Shape := ⟨1, ![524288]⟩
abbrev S64x3x3 : Shape := ⟨3, ![64, 3, 3]⟩
abbrev S_ : Shape := ⟨0, ![]⟩

class Facts : Prop where
  bcast_S_S524288 : S_.BroadcastsInDim S524288 (![] : Fin 0 → Fin S524288.rank)
  reducesTo_S524288_S_d0 : S524288.ReducesTo [0] S_
  h_S_ : 0 < S_.numel
  bcast_S_S524288x3 : S_.BroadcastsInDim S524288x3 (![] : Fin 0 → Fin S524288x3.rank)
  reducesTo_S524288x3_S_d0_1 : S524288x3.ReducesTo [0, 1] S_

variable [Facts]

def fn {F : FTy → Type} [FloatOps F] (main_arg0 : FVec F S524288x3 .f32) (main_arg1 : FVec F S524288 .f32) (main_arg2 : IVec S524288 32) (main_arg3 : FVec F S64x3x3 .f32) : IVec S_ 1 :=
  let main_c : IVec S_ 32 := constantI S_ 32 0#32
  let main_v0 : IVec S524288 32 := broadcastInDim S524288 ![] bcast_S_S524288 main_c
  let main_v1 : IVec S524288 1 := cmpi .sge main_arg2 main_v0
  let main_c_0 : IVec S_ 32 := constantI S_ 32 64#32
  let main_v2 : IVec S524288 32 := broadcastInDim S524288 ![] bcast_S_S524288 main_c_0
  let main_v3 : IVec S524288 1 := cmpi .slt main_arg2 main_v2
  let main_v4 : IVec S524288 1 := andi main_v1 main_v3
  let main_c_1 : IVec S_ 1 := constantI S_ 1 1#1
  let main_v5 : IVec S_ 1 := (fun x v => Host.reduce IntOp.andi x v reducesTo_S524288_S_d0 h_S_) main_v4 main_c_1
  let main_v6 : FVec F S524288x3 .f32 := Host.absf main_arg0
  let main_cst : FVec F S_ .f32 := constant S_ .f32 0x7F800000#32
  let main_v7 : FVec F S524288x3 .f32 := broadcastInDim S524288x3 ![] bcast_S_S524288x3 main_cst
  let main_v8 : IVec S524288x3 1 := cmpf .olt main_v6 main_v7
  let main_c_2 : IVec S_ 1 := constantI S_ 1 1#1
  let main_v9 : IVec S_ 1 := (fun x v => Host.reduce IntOp.andi x v reducesTo_S524288x3_S_d0_1 h_S_) main_v8 main_c_2
  let main_v10 : IVec S_ 1 := andi main_v5 main_v9
  let main_v11 : FVec F S524288 .f32 := Host.absf main_arg1
  let main_cst_3 : FVec F S_ .f32 := constant S_ .f32 0x7F800000#32
  let main_v12 : FVec F S524288 .f32 := broadcastInDim S524288 ![] bcast_S_S524288 main_cst_3
  let main_v13 : IVec S524288 1 := cmpf .olt main_v11 main_v12
  let main_c_4 : IVec S_ 1 := constantI S_ 1 1#1
  let main_v14 : IVec S_ 1 := (fun x v => Host.reduce IntOp.andi x v reducesTo_S524288_S_d0 h_S_) main_v13 main_c_4
  let main_v15 : IVec S_ 1 := andi main_v10 main_v14
  main_v15
-- ==== Kernel.lean ====
abbrev S524288x3 : Shape := ⟨2, ![524288, 3]⟩
abbrev S524288 : Shape := ⟨1, ![524288]⟩
abbrev S64x3x3 : Shape := ⟨3, ![64, 3, 3]⟩
abbrev S3x524288 : Shape := ⟨2, ![3, 524288]⟩
abbrev S1572864 : Shape := ⟨1, ![1572864]⟩
abbrev S32x512 : Shape := ⟨2, ![32, 512]⟩
abbrev S16384 : Shape := ⟨1, ![16384]⟩
abbrev S6144 : Shape := ⟨1, ![6144]⟩
abbrev S512 : Shape := ⟨1, ![512]⟩
abbrev S_ : Shape := ⟨0, ![]⟩
abbrev S8192 : Shape := ⟨1, ![8192]⟩
abbrev S16 : Shape := ⟨1, ![16]⟩
abbrev S1 : Shape := ⟨1, ![1]⟩
abbrev S1x512 : Shape := ⟨2, ![1, 512]⟩
abbrev S8x64 : Shape := ⟨2, ![8, 64]⟩
abbrev S3x64 : Shape := ⟨2, ![3, 64]⟩
abbrev S1x64 : Shape := ⟨2, ![1, 64]⟩
abbrev S64 : Shape := ⟨1, ![64]⟩
abbrev S64x3 : Shape := ⟨2, ![64, 3]⟩

abbrev nBuf : Table → Nat
  | .hbm => 25
  | .local .scVector .vmem => 7
  | _ => 0

abbrev bufTy : (tb : Table) → Fin (nBuf tb) → BufTy
  | .hbm, ⟨0, _⟩ => ⟨S524288x3, .f32⟩
  | .hbm, ⟨1, _⟩ => ⟨S524288, .f32⟩
  | .hbm, ⟨2, _⟩ => ⟨S524288, .i32⟩
  | .hbm, ⟨3, _⟩ => ⟨S64x3x3, .f32⟩
  | .hbm, ⟨4, _⟩ => ⟨S3x524288, .f32⟩
  | .hbm, ⟨5, _⟩ => ⟨S1572864, .f32⟩
  | .hbm, ⟨6, _⟩ => ⟨S32x512, .f32⟩
  | .hbm, ⟨7, _⟩ => ⟨S_, .f32⟩
  | .hbm, ⟨8, _⟩ => ⟨S512, .f32⟩
  | .hbm, ⟨9, _⟩ => ⟨S8x64, .f32⟩
  | .hbm, ⟨10, _⟩ => ⟨S3x64, .f32⟩
  | .hbm, ⟨11, _⟩ => ⟨S1x64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S3x64, .f32⟩
  | .hbm, ⟨17, _⟩ => ⟨S1x64, .f32⟩
  | .hbm, ⟨18, _⟩ => ⟨S3x64, .f32⟩
  | .hbm, ⟨19, _⟩ => ⟨S3x64, .f32⟩
  | .hbm, ⟨20, _⟩ => ⟨S3x64, .f32⟩
  | .hbm, ⟨21, _⟩ => ⟨S64x3, .f32⟩
  | .hbm, ⟨22, _⟩ => ⟨S_, .f32⟩
  | .hbm, ⟨23, _⟩ => ⟨S64x3, .f32⟩
  | .hbm, ⟨24, _⟩ => ⟨S64x3, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S16384, .i32⟩
  | .local .scVector .vmem, ⟨5, _⟩ => ⟨S6144, .f32⟩
  | .local .scVector .vmem, ⟨6, _⟩ => ⟨S512, .f32⟩
  | _, _ => ⟨S524288x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v1_scv : Ref sig .scVector := ⟨.hbm, 5, rfl⟩
abbrev main_arg1_scv : Ref sig .scVector := ⟨.hbm, 1, rfl⟩
abbrev main_arg2_scv : Ref sig .scVector := ⟨.hbm, 2, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  ![v2.toNat]
def k0_off2 (i : grid0.Coords) (c524288_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let v7 : BitVec 32 := Scalar.addi c524288_i32 v2
  ![v7.toNat]
def k0_off3 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  ![v2.toNat]
def k0_off4 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let c8192_i32 : BitVec 32 := 8192#32
  let v25 : BitVec 32 := Scalar.addi v2 c8192_i32
  ![v25.toNat]
def k0_off5 (i : grid0.Coords) (c524288_i32_11 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let v30 : BitVec 32 := Scalar.addi c524288_i32_11 v2
  let c8192_i32_12 : BitVec 32 := 8192#32
  let v31 : BitVec 32 := Scalar.addi v30 c8192_i32_12
  ![v31.toNat]
def k0_off6 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16384_i32 : BitVec 32 := 16384#32
  let v2 : BitVec 32 := Scalar.muli v1 c16384_i32
  let c8192_i32_19 : BitVec 32 := 8192#32
  let v42 : BitVec 32 := Scalar.addi v2 c8192_i32_19
  ![v42.toNat]
@[reducible] def k0_t1_loop : Scf.Loop 32 :=
  let c0_i32_26 : BitVec 32 := 0#32
  let c96_i32 : BitVec 32 := 96#32
  let v54 : BitVec 32 := Scalar.addi c0_i32_26 c96_i32
  let c1_i32 : BitVec 32 := 1#32
  ⟨c0_i32_26, v54, c1_i32⟩
def k0_off7 (k0_t1 : Fin k0_t1_loop.trips) : Fin 1 → Nat :=
  let c0_i32_26 : BitVec 32 := 0#32
  let c1_i32 : BitVec 32 := 1#32
  let arg23 : BitVec 32 := Scf.iv c0_i32_26 c1_i32 k0_t1
  let c64_i32 : BitVec 32 := 64#32
  let v1719 : BitVec 32 := Scalar.muli arg23 c64_i32
  let v1720 : Index := Scalar.indexCast v1719
  ![v1720.toNat]
def k0_off8 (k0_t1 : Fin k0_t1_loop.trips) (c16_i32_59 : BitVec 32) : Fin 1 → Nat :=
  let c0_i32_26 : BitVec 32 := 0#32
  let c1_i32 : BitVec 32 := 1#32
  let arg23 : BitVec 32 := Scf.iv c0_i32_26 c1_i32 k0_t1
  let c64_i32 : BitVec 32 := 64#32
  let v1719 : BitVec 32 := Scalar.muli arg23 c64_i32
  let v1722 : BitVec 32 := Scalar.addi v1719 c16_i32_59
  let v1723 : Index := Scalar.indexCast v1722
  ![v1723.toNat]
@[reducible] def k0_t2_loop : Scf.Loop 32 :=
  let c0_i32_38 : BitVec 32 := 0#32
  let c512_i32 : BitVec 32 := 512#32
  let v76 : BitVec 32 := Scalar.addi c0_i32_38 c512_i32
  let c1_i32_39 : BitVec 32 := 1#32
  ⟨c0_i32_38, v76, c1_i32_39⟩
def k0_off9 (k0_t2 : Fin k0_t2_loop.trips) : Fin 1 → Nat :=
  let c0_i32_38 : BitVec 32 := 0#32
  let c1_i32_39 : BitVec 32 := 1#32
  let arg23 : BitVec 32 := Scf.iv c0_i32_38 c1_i32_39 k0_t2
  let c16_i32_59 : BitVec 32 := 16#32
  let v1719 : BitVec 32 := Scalar.muli arg23 c16_i32_59
  let v1720 : Index := Scalar.indexCast v1719
  ![v1720.toNat]

def k0_chk1 (v1732 : IVec S16 32) : Prop :=
  (∀ a x, ((![v1732] : Fin 1 → IVec S16 32) a x).toNat < S6144.size a)
theorem k0_idx1_inb : ∀ (v1732 : IVec S16 32) (k0_hw1 : k0_chk1 v1732), ∀ a x, ((![v1732] : Fin 1 → IVec S16 32) a x).toNat < S6144.size a := fun v1732 k0_hw1 => k0_hw1

def k0_chk2 (v1735 : IVec S16 32) : Prop :=
  (∀ a x, ((![v1735] : Fin 1 → IVec S16 32) a x).toNat < S6144.size a)
theorem k0_idx2_inb : ∀ (v1735 : IVec S16 32) (k0_hw2 : k0_chk2 v1735), ∀ a x, ((![v1735] : Fin 1 → IVec S16 32) a x).toNat < S6144.size a := fun v1735 k0_hw2 => k0_hw2

def k0_chk3 (v1738 : IVec S16 32) : Prop :=
  (∀ a x, ((![v1738] : Fin 1 → IVec S16 32) a x).toNat < S6144.size a)
theorem k0_idx3_inb : ∀ (v1738 : IVec S16 32) (k0_hw3 : k0_chk3 v1738), ∀ a x, ((![v1738] : Fin 1 → IVec S16 32) a x).toNat < S6144.size a := fun v1738 k0_hw3 => k0_hw3

def k0_chk4 (v1741 : IVec S16 32) : Prop :=
  (∀ a x, ((![v1741] : Fin 1 → IVec S16 32) a x).toNat < S6144.size a)
theorem k0_idx4_inb : ∀ (v1741 : IVec S16 32) (k0_hw4 : k0_chk4 v1741), ∀ a x, ((![v1741] : Fin 1 → IVec S16 32) a x).toNat < S6144.size a := fun v1741 k0_hw4 => k0_hw4

def k0_chk5 (v1743 : IVec S16 32) : Prop :=
  (∀ a x, ((![v1743] : Fin 1 → IVec S16 32) a x).toNat < S6144.size a)
theorem k0_idx5_inb : ∀ (v1743 : IVec S16 32) (k0_hw5 : k0_chk5 v1743), ∀ a x, ((![v1743] : Fin 1 → IVec S16 32) a x).toNat < S6144.size a := fun v1743 k0_hw5 => k0_hw5

def k0_chk6 (v1745 : IVec S16 32) : Prop :=
  (∀ a x, ((![v1745] : Fin 1 → IVec S16 32) a x).toNat < S6144.size a)
theorem k0_idx6_inb : ∀ (v1745 : IVec S16 32) (k0_hw6 : k0_chk6 v1745), ∀ a x, ((![v1745] : Fin 1 → IVec S16 32) a x).toNat < S6144.size a := fun v1745 k0_hw6 => k0_hw6
@[reducible] def k0_t3_loop : Scf.Loop 32 :=
  let c512_i32_51 : BitVec 32 := 512#32
  let c512_i32_52 : BitVec 32 := 512#32
  let v98 : BitVec 32 := Scalar.addi c512_i32_51 c512_i32_52
  let c1_i32_53 : BitVec 32 := 1#32
  ⟨c512_i32_51, v98, c1_i32_53⟩
def k0_off10 (k0_t3 : Fin k0_t3_loop.trips) : Fin 1 → Nat :=
  let c512_i32_51 : BitVec 32 := 512#32
  let c1_i32_53 : BitVec 32 := 1#32
  let arg23 : BitVec 32 := Scf.iv c512_i32_51 c1_i32_53 k0_t3
  let c16_i32_59 : BitVec 32 := 16#32
  let v1719 : BitVec 32 := Scalar.muli arg23 c16_i32_59
  let v1720 : Index := Scalar.indexCast v1719
  ![v1720.toNat]

def k0_chk7 (v1732 : IVec S16 32) : Prop :=
  (∀ a x, ((![v1732] : Fin 1 → IVec S16 32) a x).toNat < S6144.size a)
theorem k0_idx7_inb : ∀ (v1732 : IVec S16 32) (k0_hw7 : k0_chk7 v1732), ∀ a x, ((![v1732] : Fin 1 → IVec S16 32) a x).toNat < S6144.size a := fun v1732 k0_hw7 => k0_hw7

def k0_chk8 (v1735 : IVec S16 32) : Prop :=
  (∀ a x, ((![v1735] : Fin 1 → IVec S16 32) a x).toNat < S6144.size a)
theorem k0_idx8_inb : ∀ (v1735 : IVec S16 32) (k0_hw8 : k0_chk8 v1735), ∀ a x, ((![v1735] : Fin 1 → IVec S16 32) a x).toNat < S6144.size a := fun v1735 k0_hw8 => k0_hw8

def k0_chk9 (v1738 : IVec S16 32) : Prop :=
  (∀ a x, ((![v1738] : Fin 1 → IVec S16 32) a x).toNat < S6144.size a)
theorem k0_idx9_inb : ∀ (v1738 : IVec S16 32) (k0_hw9 : k0_chk9 v1738), ∀ a x, ((![v1738] : Fin 1 → IVec S16 32) a x).toNat < S6144.size a := fun v1738 k0_hw9 => k0_hw9

def k0_chk10 (v1741 : IVec S16 32) : Prop :=
  (∀ a x, ((![v1741] : Fin 1 → IVec S16 32) a x).toNat < S6144.size a)
theorem k0_idx10_inb : ∀ (v1741 : IVec S16 32) (k0_hw10 : k0_chk10 v1741), ∀ a x, ((![v1741] : Fin 1 → IVec S16 32) a x).toNat < S6144.size a := fun v1741 k0_hw10 => k0_hw10

def k0_chk11 (v1743 : IVec S16 32) : Prop :=
  (∀ a x, ((![v1743] : Fin 1 → IVec S16 32) a x).toNat < S6144.size a)
theorem k0_idx11_inb : ∀ (v1743 : IVec S16 32) (k0_hw11 : k0_chk11 v1743), ∀ a x, ((![v1743] : Fin 1 → IVec S16 32) a x).toNat < S6144.size a := fun v1743 k0_hw11 => k0_hw11

def k0_chk12 (v1745 : IVec S16 32) : Prop :=
  (∀ a x, ((![v1745] : Fin 1 → IVec S16 32) a x).toNat < S6144.size a)
theorem k0_idx12_inb : ∀ (v1745 : IVec S16 32) (k0_hw12 : k0_chk12 v1745), ∀ a x, ((![v1745] : Fin 1 → IVec S16 32) a x).toNat < S6144.size a := fun v1745 k0_hw12 => k0_hw12

def k0_chk13 (v104 : IVec S16 32) : Prop :=
  (∀ a x, ((![v104] : Fin 1 → IVec S16 32) a x).toNat < S6144.size a)
theorem k0_idx13_inb : ∀ (v104 : IVec S16 32) (k0_hw13 : k0_chk13 v104), ∀ a x, ((![v104] : Fin 1 → IVec S16 32) a x).toNat < S6144.size a := fun v104 k0_hw13 => k0_hw13

def k0_chk14 (v108 : IVec S16 32) : Prop :=
  (∀ a x, ((![v108] : Fin 1 → IVec S16 32) a x).toNat < S6144.size a)
theorem k0_idx14_inb : ∀ (v108 : IVec S16 32) (k0_hw14 : k0_chk14 v108), ∀ a x, ((![v108] : Fin 1 → IVec S16 32) a x).toNat < S6144.size a := fun v108 k0_hw14 => k0_hw14

def k0_chk15 (v112 : IVec S16 32) : Prop :=
  (∀ a x, ((![v112] : Fin 1 → IVec S16 32) a x).toNat < S6144.size a)
theorem k0_idx15_inb : ∀ (v112 : IVec S16 32) (k0_hw15 : k0_chk15 v112), ∀ a x, ((![v112] : Fin 1 → IVec S16 32) a x).toNat < S6144.size a := fun v112 k0_hw15 => k0_hw15

def k0_chk16 (v116 : IVec S16 32) : Prop :=
  (∀ a x, ((![v116] : Fin 1 → IVec S16 32) a x).toNat < S6144.size a)
theorem k0_idx16_inb : ∀ (v116 : IVec S16 32) (k0_hw16 : k0_chk16 v116), ∀ a x, ((![v116] : Fin 1 → IVec S16 32) a x).toNat < S6144.size a := fun v116 k0_hw16 => k0_hw16

def k0_chk17 (v120 : IVec S16 32) : Prop :=
  (∀ a x, ((![v120] : Fin 1 → IVec S16 32) a x).toNat < S6144.size a)
theorem k0_idx17_inb : ∀ (v120 : IVec S16 32) (k0_hw17 : k0_chk17 v120), ∀ a x, ((![v120] : Fin 1 → IVec S16 32) a x).toNat < S6144.size a := fun v120 k0_hw17 => k0_hw17

def k0_chk18 (v124 : IVec S16 32) : Prop :=
  (∀ a x, ((![v124] : Fin 1 → IVec S16 32) a x).toNat < S6144.size a)
theorem k0_idx18_inb : ∀ (v124 : IVec S16 32) (k0_hw18 : k0_chk18 v124), ∀ a x, ((![v124] : Fin 1 → IVec S16 32) a x).toNat < S6144.size a := fun v124 k0_hw18 => k0_hw18

def k0_chk19 (v128 : IVec S16 32) : Prop :=
  (∀ a x, ((![v128] : Fin 1 → IVec S16 32) a x).toNat < S6144.size a)
theorem k0_idx19_inb : ∀ (v128 : IVec S16 32) (k0_hw19 : k0_chk19 v128), ∀ a x, ((![v128] : Fin 1 → IVec S16 32) a x).toNat < S6144.size a := fun v128 k0_hw19 => k0_hw19

def k0_chk20 (v132 : IVec S16 32) : Prop :=
  (∀ a x, ((![v132] : Fin 1 → IVec S16 32) a x).toNat < S6144.size a)
theorem k0_idx20_inb : ∀ (v132 : IVec S16 32) (k0_hw20 : k0_chk20 v132), ∀ a x, ((![v132] : Fin 1 → IVec S16 32) a x).toNat < S6144.size a := fun v132 k0_hw20 => k0_hw20

def k0_chk21 (v136 : IVec S16 32) : Prop :=
  (∀ a x, ((![v136] : Fin 1 → IVec S16 32) a x).toNat < S6144.size a)
theorem k0_idx21_inb : ∀ (v136 : IVec S16 32) (k0_hw21 : k0_chk21 v136), ∀ a x, ((![v136] : Fin 1 → IVec S16 32) a x).toNat < S6144.size a := fun v136 k0_hw21 => k0_hw21

def k0_chk22 (v140 : IVec S16 32) : Prop :=
  (∀ a x, ((![v140] : Fin 1 → IVec S16 32) a x).toNat < S6144.size a)
theorem k0_idx22_inb : ∀ (v140 : IVec S16 32) (k0_hw22 : k0_chk22 v140), ∀ a x, ((![v140] : Fin 1 → IVec S16 32) a x).toNat < S6144.size a := fun v140 k0_hw22 => k0_hw22

def k0_chk23 (v144 : IVec S16 32) : Prop :=
  (∀ a x, ((![v144] : Fin 1 → IVec S16 32) a x).toNat < S6144.size a)
theorem k0_idx23_inb : ∀ (v144 : IVec S16 32) (k0_hw23 : k0_chk23 v144), ∀ a x, ((![v144] : Fin 1 → IVec S16 32) a x).toNat < S6144.size a := fun v144 k0_hw23 => k0_hw23

def k0_chk24 (v148 : IVec S16 32) : Prop :=
  (∀ a x, ((![v148] : Fin 1 → IVec S16 32) a x).toNat < S6144.size a)
theorem k0_idx24_inb : ∀ (v148 : IVec S16 32) (k0_hw24 : k0_chk24 v148), ∀ a x, ((![v148] : Fin 1 → IVec S16 32) a x).toNat < S6144.size a := fun v148 k0_hw24 => k0_hw24

def k0_chk25 (v152 : IVec S16 32) : Prop :=
  (∀ a x, ((![v152] : Fin 1 → IVec S16 32) a x).toNat < S6144.size a)
theorem k0_idx25_inb : ∀ (v152 : IVec S16 32) (k0_hw25 : k0_chk25 v152), ∀ a x, ((![v152] : Fin 1 → IVec S16 32) a x).toNat < S6144.size a := fun v152 k0_hw25 => k0_hw25

def k0_chk26 (v156 : IVec S16 32) : Prop :=
  (∀ a x, ((![v156] : Fin 1 → IVec S16 32) a x).toNat < S6144.size a)
theorem k0_idx26_inb : ∀ (v156 : IVec S16 32) (k0_hw26 : k0_chk26 v156), ∀ a x, ((![v156] : Fin 1 → IVec S16 32) a x).toNat < S6144.size a := fun v156 k0_hw26 => k0_hw26

def k0_chk27 (v160 : IVec S16 32) : Prop :=
  (∀ a x, ((![v160] : Fin 1 → IVec S16 32) a x).toNat < S6144.size a)
theorem k0_idx27_inb : ∀ (v160 : IVec S16 32) (k0_hw27 : k0_chk27 v160), ∀ a x, ((![v160] : Fin 1 → IVec S16 32) a x).toNat < S6144.size a := fun v160 k0_hw27 => k0_hw27

def k0_chk28 (v164 : IVec S16 32) : Prop :=
  (∀ a x, ((![v164] : Fin 1 → IVec S16 32) a x).toNat < S6144.size a)
theorem k0_idx28_inb : ∀ (v164 : IVec S16 32) (k0_hw28 : k0_chk28 v164), ∀ a x, ((![v164] : Fin 1 → IVec S16 32) a x).toNat < S6144.size a := fun v164 k0_hw28 => k0_hw28

def k0_chk29 (v169 : IVec S16 32) : Prop :=
  (∀ a x, ((![v169] : Fin 1 → IVec S16 32) a x).toNat < S6144.size a)
theorem k0_idx29_inb : ∀ (v169 : IVec S16 32) (k0_hw29 : k0_chk29 v169), ∀ a x, ((![v169] : Fin 1 → IVec S16 32) a x).toNat < S6144.size a := fun v169 k0_hw29 => k0_hw29

def k0_chk30 (v173 : IVec S16 32) : Prop :=
  (∀ a x, ((![v173] : Fin 1 → IVec S16 32) a x).toNat < S6144.size a)
theorem k0_idx30_inb : ∀ (v173 : IVec S16 32) (k0_hw30 : k0_chk30 v173), ∀ a x, ((![v173] : Fin 1 → IVec S16 32) a x).toNat < S6144.size a := fun v173 k0_hw30 => k0_hw30

def k0_chk31 (v177 : IVec S16 32) : Prop :=
  (∀ a x, ((![v177] : Fin 1 → IVec S16 32) a x).toNat < S6144.size a)
theorem k0_idx31_inb : ∀ (v177 : IVec S16 32) (k0_hw31 : k0_chk31 v177), ∀ a x, ((![v177] : Fin 1 → IVec S16 32) a x).toNat < S6144.size a := fun v177 k0_hw31 => k0_hw31

def k0_chk32 (v181 : IVec S16 32) : Prop :=
  (∀ a x, ((![v181] : Fin 1 → IVec S16 32) a x).toNat < S6144.size a)
theorem k0_idx32_inb : ∀ (v181 : IVec S16 32) (k0_hw32 : k0_chk32 v181), ∀ a x, ((![v181] : Fin 1 → IVec S16 32) a x).toNat < S6144.size a := fun v181 k0_hw32 => k0_hw32

def k0_chk33 (v185 : IVec S16 32) : Prop :=
  (∀ a x, ((![v185] : Fin 1 → IVec S16 32) a x).toNat < S6144.size a)
theorem k0_idx33_inb : ∀ (v185 : IVec S16 32) (k0_hw33 : k0_chk33 v185), ∀ a x, ((![v185] : Fin 1 → IVec S16 32) a x).toNat < S6144.size a := fun v185 k0_hw33 => k0_hw33

def k0_chk34 (v189 : IVec S16 32) : Prop :=
  (∀ a x, ((![v189] : Fin 1 → IVec S16 32) a x).toNat < S6144.size a)
theorem k0_idx34_inb : ∀ (v189 : IVec S16 32) (k0_hw34 : k0_chk34 v189), ∀ a x, ((![v189] : Fin 1 → IVec S16 32) a x).toNat < S6144.size a := fun v189 k0_hw34 => k0_hw34

def k0_chk35 (v193 : IVec S16 32) : Prop :=
  (∀ a x, ((![v193] : Fin 1 → IVec S16 32) a x).toNat < S6144.size a)
theorem k0_idx35_inb : ∀ (v193 : IVec S16 32) (k0_hw35 : k0_chk35 v193), ∀ a x, ((![v193] : Fin 1 → IVec S16 32) a x).toNat < S6144.size a := fun v193 k0_hw35 => k0_hw35

def k0_chk36 (v197 : IVec S16 32) : Prop :=
  (∀ a x, ((![v197] : Fin 1 → IVec S16 32) a x).toNat < S6144.size a)
theorem k0_idx36_inb : ∀ (v197 : IVec S16 32) (k0_hw36 : k0_chk36 v197), ∀ a x, ((![v197] : Fin 1 → IVec S16 32) a x).toNat < S6144.size a := fun v197 k0_hw36 => k0_hw36

def k0_chk37 (v201 : IVec S16 32) : Prop :=
  (∀ a x, ((![v201] : Fin 1 → IVec S16 32) a x).toNat < S6144.size a)
theorem k0_idx37_inb : ∀ (v201 : IVec S16 32) (k0_hw37 : k0_chk37 v201), ∀ a x, ((![v201] : Fin 1 → IVec S16 32) a x).toNat < S6144.size a := fun v201 k0_hw37 => k0_hw37

def k0_chk38 (v205 : IVec S16 32) : Prop :=
  (∀ a x, ((![v205] : Fin 1 → IVec S16 32) a x).toNat < S6144.size a)
theorem k0_idx38_inb : ∀ (v205 : IVec S16 32) (k0_hw38 : k0_chk38 v205), ∀ a x, ((![v205] : Fin 1 → IVec S16 32) a x).toNat < S6144.size a := fun v205 k0_hw38 => k0_hw38

def k0_chk39 (v209 : IVec S16 32) : Prop :=
  (∀ a x, ((![v209] : Fin 1 → IVec S16 32) a x).toNat < S6144.size a)
theorem k0_idx39_inb : ∀ (v209 : IVec S16 32) (k0_hw39 : k0_chk39 v209), ∀ a x, ((![v209] : Fin 1 → IVec S16 32) a x).toNat < S6144.size a := fun v209 k0_hw39 => k0_hw39

def k0_chk40 (v213 : IVec S16 32) : Prop :=
  (∀ a x, ((![v213] : Fin 1 → IVec S16 32) a x).toNat < S6144.size a)
theorem k0_idx40_inb : ∀ (v213 : IVec S16 32) (k0_hw40 : k0_chk40 v213), ∀ a x, ((![v213] : Fin 1 → IVec S16 32) a x).toNat < S6144.size a := fun v213 k0_hw40 => k0_hw40

def k0_chk41 (v217 : IVec S16 32) : Prop :=
  (∀ a x, ((![v217] : Fin 1 → IVec S16 32) a x).toNat < S6144.size a)
theorem k0_idx41_inb : ∀ (v217 : IVec S16 32) (k0_hw41 : k0_chk41 v217), ∀ a x, ((![v217] : Fin 1 → IVec S16 32) a x).toNat < S6144.size a := fun v217 k0_hw41 => k0_hw41

def k0_chk42 (v221 : IVec S16 32) : Prop :=
  (∀ a x, ((![v221] : Fin 1 → IVec S16 32) a x).toNat < S6144.size a)
theorem k0_idx42_inb : ∀ (v221 : IVec S16 32) (k0_hw42 : k0_chk42 v221), ∀ a x, ((![v221] : Fin 1 → IVec S16 32) a x).toNat < S6144.size a := fun v221 k0_hw42 => k0_hw42

def k0_chk43 (v225 : IVec S16 32) : Prop :=
  (∀ a x, ((![v225] : Fin 1 → IVec S16 32) a x).toNat < S6144.size a)
theorem k0_idx43_inb : ∀ (v225 : IVec S16 32) (k0_hw43 : k0_chk43 v225), ∀ a x, ((![v225] : Fin 1 → IVec S16 32) a x).toNat < S6144.size a := fun v225 k0_hw43 => k0_hw43

def k0_chk44 (v229 : IVec S16 32) : Prop :=
  (∀ a x, ((![v229] : Fin 1 → IVec S16 32) a x).toNat < S6144.size a)
theorem k0_idx44_inb : ∀ (v229 : IVec S16 32) (k0_hw44 : k0_chk44 v229), ∀ a x, ((![v229] : Fin 1 → IVec S16 32) a x).toNat < S6144.size a := fun v229 k0_hw44 => k0_hw44

def k0_chk45 (v234 : IVec S16 32) : Prop :=
  (∀ a x, ((![v234] : Fin 1 → IVec S16 32) a x).toNat < S6144.size a)
theorem k0_idx45_inb : ∀ (v234 : IVec S16 32) (k0_hw45 : k0_chk45 v234), ∀ a x, ((![v234] : Fin 1 → IVec S16 32) a x).toNat < S6144.size a := fun v234 k0_hw45 => k0_hw45

def k0_chk46 (v238 : IVec S16 32) : Prop :=
  (∀ a x, ((![v238] : Fin 1 → IVec S16 32) a x).toNat < S6144.size a)
theorem k0_idx46_inb : ∀ (v238 : IVec S16 32) (k0_hw46 : k0_chk46 v238), ∀ a x, ((![v238] : Fin 1 → IVec S16 32) a x).toNat < S6144.size a := fun v238 k0_hw46 => k0_hw46

def k0_chk47 (v242 : IVec S16 32) : Prop :=
  (∀ a x, ((![v242] : Fin 1 → IVec S16 32) a x).toNat < S6144.size a)
theorem k0_idx47_inb : ∀ (v242 : IVec S16 32) (k0_hw47 : k0_chk47 v242), ∀ a x, ((![v242] : Fin 1 → IVec S16 32) a x).toNat < S6144.size a := fun v242 k0_hw47 => k0_hw47

def k0_chk48 (v246 : IVec S16 32) : Prop :=
  (∀ a x, ((![v246] : Fin 1 → IVec S16 32) a x).toNat < S6144.size a)
theorem k0_idx48_inb : ∀ (v246 : IVec S16 32) (k0_hw48 : k0_chk48 v246), ∀ a x, ((![v246] : Fin 1 → IVec S16 32) a x).toNat < S6144.size a := fun v246 k0_hw48 => k0_hw48

def k0_chk49 (v250 : IVec S16 32) : Prop :=
  (∀ a x, ((![v250] : Fin 1 → IVec S16 32) a x).toNat < S6144.size a)
theorem k0_idx49_inb : ∀ (v250 : IVec S16 32) (k0_hw49 : k0_chk49 v250), ∀ a x, ((![v250] : Fin 1 → IVec S16 32) a x).toNat < S6144.size a := fun v250 k0_hw49 => k0_hw49

def k0_chk50 (v254 : IVec S16 32) : Prop :=
  (∀ a x, ((![v254] : Fin 1 → IVec S16 32) a x).toNat < S6144.size a)
theorem k0_idx50_inb : ∀ (v254 : IVec S16 32) (k0_hw50 : k0_chk50 v254), ∀ a x, ((![v254] : Fin 1 → IVec S16 32) a x).toNat < S6144.size a := fun v254 k0_hw50 => k0_hw50

def k0_chk51 (v258 : IVec S16 32) : Prop :=
  (∀ a x, ((![v258] : Fin 1 → IVec S16 32) a x).toNat < S6144.size a)
theorem k0_idx51_inb : ∀ (v258 : IVec S16 32) (k0_hw51 : k0_chk51 v258), ∀ a x, ((![v258] : Fin 1 → IVec S16 32) a x).toNat < S6144.size a := fun v258 k0_hw51 => k0_hw51

def k0_chk52 (v262 : IVec S16 32) : Prop :=
  (∀ a x, ((![v262] : Fin 1 → IVec S16 32) a x).toNat < S6144.size a)
theorem k0_idx52_inb : ∀ (v262 : IVec S16 32) (k0_hw52 : k0_chk52 v262), ∀ a x, ((![v262] : Fin 1 → IVec S16 32) a x).toNat < S6144.size a := fun v262 k0_hw52 => k0_hw52

def k0_chk53 (v266 : IVec S16 32) : Prop :=
  (∀ a x, ((![v266] : Fin 1 → IVec S16 32) a x).toNat < S6144.size a)
theorem k0_idx53_inb : ∀ (v266 : IVec S16 32) (k0_hw53 : k0_chk53 v266), ∀ a x, ((![v266] : Fin 1 → IVec S16 32) a x).toNat < S6144.size a := fun v266 k0_hw53 => k0_hw53

def k0_chk54 (v270 : IVec S16 32) : Prop :=
  (∀ a x, ((![v270] : Fin 1 → IVec S16 32) a x).toNat < S6144.size a)
theorem k0_idx54_inb : ∀ (v270 : IVec S16 32) (k0_hw54 : k0_chk54 v270), ∀ a x, ((![v270] : Fin 1 → IVec S16 32) a x).toNat < S6144.size a := fun v270 k0_hw54 => k0_hw54

def k0_chk55 (v274 : IVec S16 32) : Prop :=
  (∀ a x, ((![v274] : Fin 1 → IVec S16 32) a x).toNat < S6144.size a)
theorem k0_idx55_inb : ∀ (v274 : IVec S16 32) (k0_hw55 : k0_chk55 v274), ∀ a x, ((![v274] : Fin 1 → IVec S16 32) a x).toNat < S6144.size a := fun v274 k0_hw55 => k0_hw55

def k0_chk56 (v278 : IVec S16 32) : Prop :=
  (∀ a x, ((![v278] : Fin 1 → IVec S16 32) a x).toNat < S6144.size a)
theorem k0_idx56_inb : ∀ (v278 : IVec S16 32) (k0_hw56 : k0_chk56 v278), ∀ a x, ((![v278] : Fin 1 → IVec S16 32) a x).toNat < S6144.size a := fun v278 k0_hw56 => k0_hw56

def k0_chk57 (v282 : IVec S16 32) : Prop :=
  (∀ a x, ((![v282] : Fin 1 → IVec S16 32) a x).toNat < S6144.size a)
theorem k0_idx57_inb : ∀ (v282 : IVec S16 32) (k0_hw57 : k0_chk57 v282), ∀ a x, ((![v282] : Fin 1 → IVec S16 32) a x).toNat < S6144.size a := fun v282 k0_hw57 => k0_hw57

def k0_chk58 (v286 : IVec S16 32) : Prop :=
  (∀ a x, ((![v286] : Fin 1 → IVec S16 32) a x).toNat < S6144.size a)
theorem k0_idx58_inb : ∀ (v286 : IVec S16 32) (k0_hw58 : k0_chk58 v286), ∀ a x, ((![v286] : Fin 1 → IVec S16 32) a x).toNat < S6144.size a := fun v286 k0_hw58 => k0_hw58

def k0_chk59 (v290 : IVec S16 32) : Prop :=
  (∀ a x, ((![v290] : Fin 1 → IVec S16 32) a x).toNat < S6144.size a)
theorem k0_idx59_inb : ∀ (v290 : IVec S16 32) (k0_hw59 : k0_chk59 v290), ∀ a x, ((![v290] : Fin 1 → IVec S16 32) a x).toNat < S6144.size a := fun v290 k0_hw59 => k0_hw59

def k0_chk60 (v294 : IVec S16 32) : Prop :=
  (∀ a x, ((![v294] : Fin 1 → IVec S16 32) a x).toNat < S6144.size a)
theorem k0_idx60_inb : ∀ (v294 : IVec S16 32) (k0_hw60 : k0_chk60 v294), ∀ a x, ((![v294] : Fin 1 → IVec S16 32) a x).toNat < S6144.size a := fun v294 k0_hw60 => k0_hw60

def k0_chk61 (v299 : IVec S16 32) : Prop :=
  (∀ a x, ((![v299] : Fin 1 → IVec S16 32) a x).toNat < S6144.size a)
theorem k0_idx61_inb : ∀ (v299 : IVec S16 32) (k0_hw61 : k0_chk61 v299), ∀ a x, ((![v299] : Fin 1 → IVec S16 32) a x).toNat < S6144.size a := fun v299 k0_hw61 => k0_hw61

def k0_chk62 (v303 : IVec S16 32) : Prop :=
  (∀ a x, ((![v303] : Fin 1 → IVec S16 32) a x).toNat < S6144.size a)
theorem k0_idx62_inb : ∀ (v303 : IVec S16 32) (k0_hw62 : k0_chk62 v303), ∀ a x, ((![v303] : Fin 1 → IVec S16 32) a x).toNat < S6144.size a := fun v303 k0_hw62 => k0_hw62

def k0_chk63 (v307 : IVec S16 32) : Prop :=
  (∀ a x, ((![v307] : Fin 1 → IVec S16 32) a x).toNat < S6144.size a)
theorem k0_idx63_inb : ∀ (v307 : IVec S16 32) (k0_hw63 : k0_chk63 v307), ∀ a x, ((![v307] : Fin 1 → IVec S16 32) a x).toNat < S6144.size a := fun v307 k0_hw63 => k0_hw63

def k0_chk64 (v311 : IVec S16 32) : Prop :=
  (∀ a x, ((![v311] : Fin 1 → IVec S16 32) a x).toNat < S6144.size a)
theorem k0_idx64_inb : ∀ (v311 : IVec S16 32) (k0_hw64 : k0_chk64 v311), ∀ a x, ((![v311] : Fin 1 → IVec S16 32) a x).toNat < S6144.size a := fun v311 k0_hw64 => k0_hw64

def k0_chk65 (v315 : IVec S16 32) : Prop :=
  (∀ a x, ((![v315] : Fin 1 → IVec S16 32) a x).toNat < S6144.size a)
theorem k0_idx65_inb : ∀ (v315 : IVec S16 32) (k0_hw65 : k0_chk65 v315), ∀ a x, ((![v315] : Fin 1 → IVec S16 32) a x).toNat < S6144.size a := fun v315 k0_hw65 => k0_hw65

def k0_chk66 (v319 : IVec S16 32) : Prop :=
  (∀ a x, ((![v319] : Fin 1 → IVec S16 32) a x).toNat < S6144.size a)
theorem k0_idx66_inb : ∀ (v319 : IVec S16 32) (k0_hw66 : k0_chk66 v319), ∀ a x, ((![v319] : Fin 1 → IVec S16 32) a x).toNat < S6144.size a := fun v319 k0_hw66 => k0_hw66

def k0_chk67 (v323 : IVec S16 32) : Prop :=
  (∀ a x, ((![v323] : Fin 1 → IVec S16 32) a x).toNat < S6144.size a)
theorem k0_idx67_inb : ∀ (v323 : IVec S16 32) (k0_hw67 : k0_chk67 v323), ∀ a x, ((![v323] : Fin 1 → IVec S16 32) a x).toNat < S6144.size a := fun v323 k0_hw67 => k0_hw67

def k0_chk68 (v327 : IVec S16 32) : Prop :=
  (∀ a x, ((![v327] : Fin 1 → IVec S16 32) a x).toNat < S6144.size a)
theorem k0_idx68_inb : ∀ (v327 : IVec S16 32) (k0_hw68 : k0_chk68 v327), ∀ a x, ((![v327] : Fin 1 → IVec S16 32) a x).toNat < S6144.size a := fun v327 k0_hw68 => k0_hw68

def k0_chk69 (v331 : IVec S16 32) : Prop :=
  (∀ a x, ((![v331] : Fin 1 → IVec S16 32) a x).toNat < S6144.size a)
theorem k0_idx69_inb : ∀ (v331 : IVec S16 32) (k0_hw69 : k0_chk69 v331), ∀ a x, ((![v331] : Fin 1 → IVec S16 32) a x).toNat < S6144.size a := fun v331 k0_hw69 => k0_hw69

def k0_chk70 (v335 : IVec S16 32) : Prop :=
  (∀ a x, ((![v335] : Fin 1 → IVec S16 32) a x).toNat < S6144.size a)
theorem k0_idx70_inb : ∀ (v335 : IVec S16 32) (k0_hw70 : k0_chk70 v335), ∀ a x, ((![v335] : Fin 1 → IVec S16 32) a x).toNat < S6144.size a := fun v335 k0_hw70 => k0_hw70

def k0_chk71 (v339 : IVec S16 32) : Prop :=
  (∀ a x, ((![v339] : Fin 1 → IVec S16 32) a x).toNat < S6144.size a)
theorem k0_idx71_inb : ∀ (v339 : IVec S16 32) (k0_hw71 : k0_chk71 v339), ∀ a x, ((![v339] : Fin 1 → IVec S16 32) a x).toNat < S6144.size a := fun v339 k0_hw71 => k0_hw71

def k0_chk72 (v343 : IVec S16 32) : Prop :=
  (∀ a x, ((![v343] : Fin 1 → IVec S16 32) a x).toNat < S6144.size a)
theorem k0_idx72_inb : ∀ (v343 : IVec S16 32) (k0_hw72 : k0_chk72 v343), ∀ a x, ((![v343] : Fin 1 → IVec S16 32) a x).toNat < S6144.size a := fun v343 k0_hw72 => k0_hw72

def k0_chk73 (v347 : IVec S16 32) : Prop :=
  (∀ a x, ((![v347] : Fin 1 → IVec S16 32) a x).toNat < S6144.size a)
theorem k0_idx73_inb : ∀ (v347 : IVec S16 32) (k0_hw73 : k0_chk73 v347), ∀ a x, ((![v347] : Fin 1 → IVec S16 32) a x).toNat < S6144.size a := fun v347 k0_hw73 => k0_hw73

def k0_chk74 (v351 : IVec S16 32) : Prop :=
  (∀ a x, ((![v351] : Fin 1 → IVec S16 32) a x).toNat < S6144.size a)
theorem k0_idx74_inb : ∀ (v351 : IVec S16 32) (k0_hw74 : k0_chk74 v351), ∀ a x, ((![v351] : Fin 1 → IVec S16 32) a x).toNat < S6144.size a := fun v351 k0_hw74 => k0_hw74

def k0_chk75 (v355 : IVec S16 32) : Prop :=
  (∀ a x, ((![v355] : Fin 1 → IVec S16 32) a x).toNat < S6144.size a)
theorem k0_idx75_inb : ∀ (v355 : IVec S16 32) (k0_hw75 : k0_chk75 v355), ∀ a x, ((![v355] : Fin 1 → IVec S16 32) a x).toNat < S6144.size a := fun v355 k0_hw75 => k0_hw75

def k0_chk76 (v359 : IVec S16 32) : Prop :=
  (∀ a x, ((![v359] : Fin 1 → IVec S16 32) a x).toNat < S6144.size a)
theorem k0_idx76_inb : ∀ (v359 : IVec S16 32) (k0_hw76 : k0_chk76 v359), ∀ a x, ((![v359] : Fin 1 → IVec S16 32) a x).toNat < S6144.size a := fun v359 k0_hw76 => k0_hw76

def k0_chk77 (v364 : IVec S16 32) : Prop :=
  (∀ a x, ((![v364] : Fin 1 → IVec S16 32) a x).toNat < S6144.size a)
theorem k0_idx77_inb : ∀ (v364 : IVec S16 32) (k0_hw77 : k0_chk77 v364), ∀ a x, ((![v364] : Fin 1 → IVec S16 32) a x).toNat < S6144.size a := fun v364 k0_hw77 => k0_hw77

def k0_chk78 (v368 : IVec S16 32) : Prop :=
  (∀ a x, ((![v368] : Fin 1 → IVec S16 32) a x).toNat < S6144.size a)
theorem k0_idx78_inb : ∀ (v368 : IVec S16 32) (k0_hw78 : k0_chk78 v368), ∀ a x, ((![v368] : Fin 1 → IVec S16 32) a x).toNat < S6144.size a := fun v368 k0_hw78 => k0_hw78

def k0_chk79 (v372 : IVec S16 32) : Prop :=
  (∀ a x, ((![v372] : Fin 1 → IVec S16 32) a x).toNat < S6144.size a)
theorem k0_idx79_inb : ∀ (v372 : IVec S16 32) (k0_hw79 : k0_chk79 v372), ∀ a x, ((![v372] : Fin 1 → IVec S16 32) a x).toNat < S6144.size a := fun v372 k0_hw79 => k0_hw79

def k0_chk80 (v376 : IVec S16 32) : Prop :=
  (∀ a x, ((![v376] : Fin 1 → IVec S16 32) a x).toNat < S6144.size a)
theorem k0_idx80_inb : ∀ (v376 : IVec S16 32) (k0_hw80 : k0_chk80 v376), ∀ a x, ((![v376] : Fin 1 → IVec S16 32) a x).toNat < S6144.size a := fun v376 k0_hw80 => k0_hw80

def k0_chk81 (v380 : IVec S16 32) : Prop :=
  (∀ a x, ((![v380] : Fin 1 → IVec S16 32) a x).toNat < S6144.size a)
theorem k0_idx81_inb : ∀ (v380 : IVec S16 32) (k0_hw81 : k0_chk81 v380), ∀ a x, ((![v380] : Fin 1 → IVec S16 32) a x).toNat < S6144.size a := fun v380 k0_hw81 => k0_hw81

def k0_chk82 (v384 : IVec S16 32) : Prop :=
  (∀ a x, ((![v384] : Fin 1 → IVec S16 32) a x).toNat < S6144.size a)
theorem k0_idx82_inb : ∀ (v384 : IVec S16 32) (k0_hw82 : k0_chk82 v384), ∀ a x, ((![v384] : Fin 1 → IVec S16 32) a x).toNat < S6144.size a := fun v384 k0_hw82 => k0_hw82

def k0_chk83 (v388 : IVec S16 32) : Prop :=
  (∀ a x, ((![v388] : Fin 1 → IVec S16 32) a x).toNat < S6144.size a)
theorem k0_idx83_inb : ∀ (v388 : IVec S16 32) (k0_hw83 : k0_chk83 v388), ∀ a x, ((![v388] : Fin 1 → IVec S16 32) a x).toNat < S6144.size a := fun v388 k0_hw83 => k0_hw83

def k0_chk84 (v392 : IVec S16 32) : Prop :=
  (∀ a x, ((![v392] : Fin 1 → IVec S16 32) a x).toNat < S6144.size a)
theorem k0_idx84_inb : ∀ (v392 : IVec S16 32) (k0_hw84 : k0_chk84 v392), ∀ a x, ((![v392] : Fin 1 → IVec S16 32) a x).toNat < S6144.size a := fun v392 k0_hw84 => k0_hw84

def k0_chk85 (v396 : IVec S16 32) : Prop :=
  (∀ a x, ((![v396] : Fin 1 → IVec S16 32) a x).toNat < S6144.size a)
theorem k0_idx85_inb : ∀ (v396 : IVec S16 32) (k0_hw85 : k0_chk85 v396), ∀ a x, ((![v396] : Fin 1 → IVec S16 32) a x).toNat < S6144.size a := fun v396 k0_hw85 => k0_hw85

def k0_chk86 (v400 : IVec S16 32) : Prop :=
  (∀ a x, ((![v400] : Fin 1 → IVec S16 32) a x).toNat < S6144.size a)
theorem k0_idx86_inb : ∀ (v400 : IVec S16 32) (k0_hw86 : k0_chk86 v400), ∀ a x, ((![v400] : Fin 1 → IVec S16 32) a x).toNat < S6144.size a := fun v400 k0_hw86 => k0_hw86

def k0_chk87 (v404 : IVec S16 32) : Prop :=
  (∀ a x, ((![v404] : Fin 1 → IVec S16 32) a x).toNat < S6144.size a)
theorem k0_idx87_inb : ∀ (v404 : IVec S16 32) (k0_hw87 : k0_chk87 v404), ∀ a x, ((![v404] : Fin 1 → IVec S16 32) a x).toNat < S6144.size a := fun v404 k0_hw87 => k0_hw87

def k0_chk88 (v408 : IVec S16 32) : Prop :=
  (∀ a x, ((![v408] : Fin 1 → IVec S16 32) a x).toNat < S6144.size a)
theorem k0_idx88_inb : ∀ (v408 : IVec S16 32) (k0_hw88 : k0_chk88 v408), ∀ a x, ((![v408] : Fin 1 → IVec S16 32) a x).toNat < S6144.size a := fun v408 k0_hw88 => k0_hw88

def k0_chk89 (v412 : IVec S16 32) : Prop :=
  (∀ a x, ((![v412] : Fin 1 → IVec S16 32) a x).toNat < S6144.size a)
theorem k0_idx89_inb : ∀ (v412 : IVec S16 32) (k0_hw89 : k0_chk89 v412), ∀ a x, ((![v412] : Fin 1 → IVec S16 32) a x).toNat < S6144.size a := fun v412 k0_hw89 => k0_hw89

def k0_chk90 (v416 : IVec S16 32) : Prop :=
  (∀ a x, ((![v416] : Fin 1 → IVec S16 32) a x).toNat < S6144.size a)
theorem k0_idx90_inb : ∀ (v416 : IVec S16 32) (k0_hw90 : k0_chk90 v416), ∀ a x, ((![v416] : Fin 1 → IVec S16 32) a x).toNat < S6144.size a := fun v416 k0_hw90 => k0_hw90

def k0_chk91 (v420 : IVec S16 32) : Prop :=
  (∀ a x, ((![v420] : Fin 1 → IVec S16 32) a x).toNat < S6144.size a)
theorem k0_idx91_inb : ∀ (v420 : IVec S16 32) (k0_hw91 : k0_chk91 v420), ∀ a x, ((![v420] : Fin 1 → IVec S16 32) a x).toNat < S6144.size a := fun v420 k0_hw91 => k0_hw91

def k0_chk92 (v424 : IVec S16 32) : Prop :=
  (∀ a x, ((![v424] : Fin 1 → IVec S16 32) a x).toNat < S6144.size a)
theorem k0_idx92_inb : ∀ (v424 : IVec S16 32) (k0_hw92 : k0_chk92 v424), ∀ a x, ((![v424] : Fin 1 → IVec S16 32) a x).toNat < S6144.size a := fun v424 k0_hw92 => k0_hw92

def k0_chk93 (v429 : IVec S16 32) : Prop :=
  (∀ a x, ((![v429] : Fin 1 → IVec S16 32) a x).toNat < S6144.size a)
theorem k0_idx93_inb : ∀ (v429 : IVec S16 32) (k0_hw93 : k0_chk93 v429), ∀ a x, ((![v429] : Fin 1 → IVec S16 32) a x).toNat < S6144.size a := fun v429 k0_hw93 => k0_hw93

def k0_chk94 (v433 : IVec S16 32) : Prop :=
  (∀ a x, ((![v433] : Fin 1 → IVec S16 32) a x).toNat < S6144.size a)
theorem k0_idx94_inb : ∀ (v433 : IVec S16 32) (k0_hw94 : k0_chk94 v433), ∀ a x, ((![v433] : Fin 1 → IVec S16 32) a x).toNat < S6144.size a := fun v433 k0_hw94 => k0_hw94

def k0_chk95 (v437 : IVec S16 32) : Prop :=
  (∀ a x, ((![v437] : Fin 1 → IVec S16 32) a x).toNat < S6144.size a)
theorem k0_idx95_inb : ∀ (v437 : IVec S16 32) (k0_hw95 : k0_chk95 v437), ∀ a x, ((![v437] : Fin 1 → IVec S16 32) a x).toNat < S6144.size a := fun v437 k0_hw95 => k0_hw95

def k0_chk96 (v441 : IVec S16 32) : Prop :=
  (∀ a x, ((![v441] : Fin 1 → IVec S16 32) a x).toNat < S6144.size a)
theorem k0_idx96_inb : ∀ (v441 : IVec S16 32) (k0_hw96 : k0_chk96 v441), ∀ a x, ((![v441] : Fin 1 → IVec S16 32) a x).toNat < S6144.size a := fun v441 k0_hw96 => k0_hw96

def k0_chk97 (v445 : IVec S16 32) : Prop :=
  (∀ a x, ((![v445] : Fin 1 → IVec S16 32) a x).toNat < S6144.size a)
theorem k0_idx97_inb : ∀ (v445 : IVec S16 32) (k0_hw97 : k0_chk97 v445), ∀ a x, ((![v445] : Fin 1 → IVec S16 32) a x).toNat < S6144.size a := fun v445 k0_hw97 => k0_hw97

def k0_chk98 (v449 : IVec S16 32) : Prop :=
  (∀ a x, ((![v449] : Fin 1 → IVec S16 32) a x).toNat < S6144.size a)
theorem k0_idx98_inb : ∀ (v449 : IVec S16 32) (k0_hw98 : k0_chk98 v449), ∀ a x, ((![v449] : Fin 1 → IVec S16 32) a x).toNat < S6144.size a := fun v449 k0_hw98 => k0_hw98

def k0_chk99 (v453 : IVec S16 32) : Prop :=
  (∀ a x, ((![v453] : Fin 1 → IVec S16 32) a x).toNat < S6144.size a)
theorem k0_idx99_inb : ∀ (v453 : IVec S16 32) (k0_hw99 : k0_chk99 v453), ∀ a x, ((![v453] : Fin 1 → IVec S16 32) a x).toNat < S6144.size a := fun v453 k0_hw99 => k0_hw99

def k0_chk100 (v457 : IVec S16 32) : Prop :=
  (∀ a x, ((![v457] : Fin 1 → IVec S16 32) a x).toNat < S6144.size a)
theorem k0_idx100_inb : ∀ (v457 : IVec S16 32) (k0_hw100 : k0_chk100 v457), ∀ a x, ((![v457] : Fin 1 → IVec S16 32) a x).toNat < S6144.size a := fun v457 k0_hw100 => k0_hw100

def k0_chk101 (v461 : IVec S16 32) : Prop :=
  (∀ a x, ((![v461] : Fin 1 → IVec S16 32) a x).toNat < S6144.size a)
theorem k0_idx101_inb : ∀ (v461 : IVec S16 32) (k0_hw101 : k0_chk101 v461), ∀ a x, ((![v461] : Fin 1 → IVec S16 32) a x).toNat < S6144.size a := fun v461 k0_hw101 => k0_hw101

def k0_chk102 (v465 : IVec S16 32) : Prop :=
  (∀ a x, ((![v465] : Fin 1 → IVec S16 32) a x).toNat < S6144.size a)
theorem k0_idx102_inb : ∀ (v465 : IVec S16 32) (k0_hw102 : k0_chk102 v465), ∀ a x, ((![v465] : Fin 1 → IVec S16 32) a x).toNat < S6144.size a := fun v465 k0_hw102 => k0_hw102

def k0_chk103 (v469 : IVec S16 32) : Prop :=
  (∀ a x, ((![v469] : Fin 1 → IVec S16 32) a x).toNat < S6144.size a)
theorem k0_idx103_inb : ∀ (v469 : IVec S16 32) (k0_hw103 : k0_chk103 v469), ∀ a x, ((![v469] : Fin 1 → IVec S16 32) a x).toNat < S6144.size a := fun v469 k0_hw103 => k0_hw103

def k0_chk104 (v473 : IVec S16 32) : Prop :=
  (∀ a x, ((![v473] : Fin 1 → IVec S16 32) a x).toNat < S6144.size a)
theorem k0_idx104_inb : ∀ (v473 : IVec S16 32) (k0_hw104 : k0_chk104 v473), ∀ a x, ((![v473] : Fin 1 → IVec S16 32) a x).toNat < S6144.size a := fun v473 k0_hw104 => k0_hw104

def k0_chk105 (v477 : IVec S16 32) : Prop :=
  (∀ a x, ((![v477] : Fin 1 → IVec S16 32) a x).toNat < S6144.size a)
theorem k0_idx105_inb : ∀ (v477 : IVec S16 32) (k0_hw105 : k0_chk105 v477), ∀ a x, ((![v477] : Fin 1 → IVec S16 32) a x).toNat < S6144.size a := fun v477 k0_hw105 => k0_hw105

def k0_chk106 (v481 : IVec S16 32) : Prop :=
  (∀ a x, ((![v481] : Fin 1 → IVec S16 32) a x).toNat < S6144.size a)
theorem k0_idx106_inb : ∀ (v481 : IVec S16 32) (k0_hw106 : k0_chk106 v481), ∀ a x, ((![v481] : Fin 1 → IVec S16 32) a x).toNat < S6144.size a := fun v481 k0_hw106 => k0_hw106

def k0_chk107 (v485 : IVec S16 32) : Prop :=
  (∀ a x, ((![v485] : Fin 1 → IVec S16 32) a x).toNat < S6144.size a)
theorem k0_idx107_inb : ∀ (v485 : IVec S16 32) (k0_hw107 : k0_chk107 v485), ∀ a x, ((![v485] : Fin 1 → IVec S16 32) a x).toNat < S6144.size a := fun v485 k0_hw107 => k0_hw107

def k0_chk108 (v489 : IVec S16 32) : Prop :=
  (∀ a x, ((![v489] : Fin 1 → IVec S16 32) a x).toNat < S6144.size a)
theorem k0_idx108_inb : ∀ (v489 : IVec S16 32) (k0_hw108 : k0_chk108 v489), ∀ a x, ((![v489] : Fin 1 → IVec S16 32) a x).toNat < S6144.size a := fun v489 k0_hw108 => k0_hw108

def k0_chk109 (v494 : IVec S16 32) : Prop :=
  (∀ a x, ((![v494] : Fin 1 → IVec S16 32) a x).toNat < S6144.size a)
theorem k0_idx109_inb : ∀ (v494 : IVec S16 32) (k0_hw109 : k0_chk109 v494), ∀ a x, ((![v494] : Fin 1 → IVec S16 32) a x).toNat < S6144.size a := fun v494 k0_hw109 => k0_hw109

def k0_chk110 (v498 : IVec S16 32) : Prop :=
  (∀ a x, ((![v498] : Fin 1 → IVec S16 32) a x).toNat < S6144.size a)
theorem k0_idx110_inb : ∀ (v498 : IVec S16 32) (k0_hw110 : k0_chk110 v498), ∀ a x, ((![v498] : Fin 1 → IVec S16 32) a x).toNat < S6144.size a := fun v498 k0_hw110 => k0_hw110

def k0_chk111 (v502 : IVec S16 32) : Prop :=
  (∀ a x, ((![v502] : Fin 1 → IVec S16 32) a x).toNat < S6144.size a)
theorem k0_idx111_inb : ∀ (v502 : IVec S16 32) (k0_hw111 : k0_chk111 v502), ∀ a x, ((![v502] : Fin 1 → IVec S16 32) a x).toNat < S6144.size a := fun v502 k0_hw111 => k0_hw111

def k0_chk112 (v506 : IVec S16 32) : Prop :=
  (∀ a x, ((![v506] : Fin 1 → IVec S16 32) a x).toNat < S6144.size a)
theorem k0_idx112_inb : ∀ (v506 : IVec S16 32) (k0_hw112 : k0_chk112 v506), ∀ a x, ((![v506] : Fin 1 → IVec S16 32) a x).toNat < S6144.size a := fun v506 k0_hw112 => k0_hw112

def k0_chk113 (v510 : IVec S16 32) : Prop :=
  (∀ a x, ((![v510] : Fin 1 → IVec S16 32) a x).toNat < S6144.size a)
theorem k0_idx113_inb : ∀ (v510 : IVec S16 32) (k0_hw113 : k0_chk113 v510), ∀ a x, ((![v510] : Fin 1 → IVec S16 32) a x).toNat < S6144.size a := fun v510 k0_hw113 => k0_hw113

def k0_chk114 (v514 : IVec S16 32) : Prop :=
  (∀ a x, ((![v514] : Fin 1 → IVec S16 32) a x).toNat < S6144.size a)
theorem k0_idx114_inb : ∀ (v514 : IVec S16 32) (k0_hw114 : k0_chk114 v514), ∀ a x, ((![v514] : Fin 1 → IVec S16 32) a x).toNat < S6144.size a := fun v514 k0_hw114 => k0_hw114

def k0_chk115 (v518 : IVec S16 32) : Prop :=
  (∀ a x, ((![v518] : Fin 1 → IVec S16 32) a x).toNat < S6144.size a)
theorem k0_idx115_inb : ∀ (v518 : IVec S16 32) (k0_hw115 : k0_chk115 v518), ∀ a x, ((![v518] : Fin 1 → IVec S16 32) a x).toNat < S6144.size a := fun v518 k0_hw115 => k0_hw115

def k0_chk116 (v522 : IVec S16 32) : Prop :=
  (∀ a x, ((![v522] : Fin 1 → IVec S16 32) a x).toNat < S6144.size a)
theorem k0_idx116_inb : ∀ (v522 : IVec S16 32) (k0_hw116 : k0_chk116 v522), ∀ a x, ((![v522] : Fin 1 → IVec S16 32) a x).toNat < S6144.size a := fun v522 k0_hw116 => k0_hw116

def k0_chk117 (v526 : IVec S16 32) : Prop :=
  (∀ a x, ((![v526] : Fin 1 → IVec S16 32) a x).toNat < S6144.size a)
theorem k0_idx117_inb : ∀ (v526 : IVec S16 32) (k0_hw117 : k0_chk117 v526), ∀ a x, ((![v526] : Fin 1 → IVec S16 32) a x).toNat < S6144.size a := fun v526 k0_hw117 => k0_hw117

def k0_chk118 (v530 : IVec S16 32) : Prop :=
  (∀ a x, ((![v530] : Fin 1 → IVec S16 32) a x).toNat < S6144.size a)
theorem k0_idx118_inb : ∀ (v530 : IVec S16 32) (k0_hw118 : k0_chk118 v530), ∀ a x, ((![v530] : Fin 1 → IVec S16 32) a x).toNat < S6144.size a := fun v530 k0_hw118 => k0_hw118

def k0_chk119 (v534 : IVec S16 32) : Prop :=
  (∀ a x, ((![v534] : Fin 1 → IVec S16 32) a x).toNat < S6144.size a)
theorem k0_idx119_inb : ∀ (v534 : IVec S16 32) (k0_hw119 : k0_chk119 v534), ∀ a x, ((![v534] : Fin 1 → IVec S16 32) a x).toNat < S6144.size a := fun v534 k0_hw119 => k0_hw119

def k0_chk120 (v538 : IVec S16 32) : Prop :=
  (∀ a x, ((![v538] : Fin 1 → IVec S16 32) a x).toNat < S6144.size a)
theorem k0_idx120_inb : ∀ (v538 : IVec S16 32) (k0_hw120 : k0_chk120 v538), ∀ a x, ((![v538] : Fin 1 → IVec S16 32) a x).toNat < S6144.size a := fun v538 k0_hw120 => k0_hw120

def k0_chk121 (v542 : IVec S16 32) : Prop :=
  (∀ a x, ((![v542] : Fin 1 → IVec S16 32) a x).toNat < S6144.size a)
theorem k0_idx121_inb : ∀ (v542 : IVec S16 32) (k0_hw121 : k0_chk121 v542), ∀ a x, ((![v542] : Fin 1 → IVec S16 32) a x).toNat < S6144.size a := fun v542 k0_hw121 => k0_hw121

def k0_chk122 (v546 : IVec S16 32) : Prop :=
  (∀ a x, ((![v546] : Fin 1 → IVec S16 32) a x).toNat < S6144.size a)
theorem k0_idx122_inb : ∀ (v546 : IVec S16 32) (k0_hw122 : k0_chk122 v546), ∀ a x, ((![v546] : Fin 1 → IVec S16 32) a x).toNat < S6144.size a := fun v546 k0_hw122 => k0_hw122

def k0_chk123 (v550 : IVec S16 32) : Prop :=
  (∀ a x, ((![v550] : Fin 1 → IVec S16 32) a x).toNat < S6144.size a)
theorem k0_idx123_inb : ∀ (v550 : IVec S16 32) (k0_hw123 : k0_chk123 v550), ∀ a x, ((![v550] : Fin 1 → IVec S16 32) a x).toNat < S6144.size a := fun v550 k0_hw123 => k0_hw123

def k0_chk124 (v554 : IVec S16 32) : Prop :=
  (∀ a x, ((![v554] : Fin 1 → IVec S16 32) a x).toNat < S6144.size a)
theorem k0_idx124_inb : ∀ (v554 : IVec S16 32) (k0_hw124 : k0_chk124 v554), ∀ a x, ((![v554] : Fin 1 → IVec S16 32) a x).toNat < S6144.size a := fun v554 k0_hw124 => k0_hw124

def k0_chk125 (v559 : IVec S16 32) : Prop :=
  (∀ a x, ((![v559] : Fin 1 → IVec S16 32) a x).toNat < S6144.size a)
theorem k0_idx125_inb : ∀ (v559 : IVec S16 32) (k0_hw125 : k0_chk125 v559), ∀ a x, ((![v559] : Fin 1 → IVec S16 32) a x).toNat < S6144.size a := fun v559 k0_hw125 => k0_hw125

def k0_chk126 (v563 : IVec S16 32) : Prop :=
  (∀ a x, ((![v563] : Fin 1 → IVec S16 32) a x).toNat < S6144.size a)
theorem k0_idx126_inb : ∀ (v563 : IVec S16 32) (k0_hw126 : k0_chk126 v563), ∀ a x, ((![v563] : Fin 1 → IVec S16 32) a x).toNat < S6144.size a := fun v563 k0_hw126 => k0_hw126

def k0_chk127 (v567 : IVec S16 32) : Prop :=
  (∀ a x, ((![v567] : Fin 1 → IVec S16 32) a x).toNat < S6144.size a)
theorem k0_idx127_inb : ∀ (v567 : IVec S16 32) (k0_hw127 : k0_chk127 v567), ∀ a x, ((![v567] : Fin 1 → IVec S16 32) a x).toNat < S6144.size a := fun v567 k0_hw127 => k0_hw127

def k0_chk128 (v571 : IVec S16 32) : Prop :=
  (∀ a x, ((![v571] : Fin 1 → IVec S16 32) a x).toNat < S6144.size a)
theorem k0_idx128_inb : ∀ (v571 : IVec S16 32) (k0_hw128 : k0_chk128 v571), ∀ a x, ((![v571] : Fin 1 → IVec S16 32) a x).toNat < S6144.size a := fun v571 k0_hw128 => k0_hw128

def k0_chk129 (v575 : IVec S16 32) : Prop :=
  (∀ a x, ((![v575] : Fin 1 → IVec S16 32) a x).toNat < S6144.size a)
theorem k0_idx129_inb : ∀ (v575 : IVec S16 32) (k0_hw129 : k0_chk129 v575), ∀ a x, ((![v575] : Fin 1 → IVec S16 32) a x).toNat < S6144.size a := fun v575 k0_hw129 => k0_hw129

def k0_chk130 (v579 : IVec S16 32) : Prop :=
  (∀ a x, ((![v579] : Fin 1 → IVec S16 32) a x).toNat < S6144.size a)
theorem k0_idx130_inb : ∀ (v579 : IVec S16 32) (k0_hw130 : k0_chk130 v579), ∀ a x, ((![v579] : Fin 1 → IVec S16 32) a x).toNat < S6144.size a := fun v579 k0_hw130 => k0_hw130

def k0_chk131 (v583 : IVec S16 32) : Prop :=
  (∀ a x, ((![v583] : Fin 1 → IVec S16 32) a x).toNat < S6144.size a)
theorem k0_idx131_inb : ∀ (v583 : IVec S16 32) (k0_hw131 : k0_chk131 v583), ∀ a x, ((![v583] : Fin 1 → IVec S16 32) a x).toNat < S6144.size a := fun v583 k0_hw131 => k0_hw131

def k0_chk132 (v587 : IVec S16 32) : Prop :=
  (∀ a x, ((![v587] : Fin 1 → IVec S16 32) a x).toNat < S6144.size a)
theorem k0_idx132_inb : ∀ (v587 : IVec S16 32) (k0_hw132 : k0_chk132 v587), ∀ a x, ((![v587] : Fin 1 → IVec S16 32) a x).toNat < S6144.size a := fun v587 k0_hw132 => k0_hw132

def k0_chk133 (v591 : IVec S16 32) : Prop :=
  (∀ a x, ((![v591] : Fin 1 → IVec S16 32) a x).toNat < S6144.size a)
theorem k0_idx133_inb : ∀ (v591 : IVec S16 32) (k0_hw133 : k0_chk133 v591), ∀ a x, ((![v591] : Fin 1 → IVec S16 32) a x).toNat < S6144.size a := fun v591 k0_hw133 => k0_hw133

def k0_chk134 (v595 : IVec S16 32) : Prop :=
  (∀ a x, ((![v595] : Fin 1 → IVec S16 32) a x).toNat < S6144.size a)
theorem k0_idx134_inb : ∀ (v595 : IVec S16 32) (k0_hw134 : k0_chk134 v595), ∀ a x, ((![v595] : Fin 1 → IVec S16 32) a x).toNat < S6144.size a := fun v595 k0_hw134 => k0_hw134

def k0_chk135 (v599 : IVec S16 32) : Prop :=
  (∀ a x, ((![v599] : Fin 1 → IVec S16 32) a x).toNat < S6144.size a)
theorem k0_idx135_inb : ∀ (v599 : IVec S16 32) (k0_hw135 : k0_chk135 v599), ∀ a x, ((![v599] : Fin 1 → IVec S16 32) a x).toNat < S6144.size a := fun v599 k0_hw135 => k0_hw135

def k0_chk136 (v603 : IVec S16 32) : Prop :=
  (∀ a x, ((![v603] : Fin 1 → IVec S16 32) a x).toNat < S6144.size a)
theorem k0_idx136_inb : ∀ (v603 : IVec S16 32) (k0_hw136 : k0_chk136 v603), ∀ a x, ((![v603] : Fin 1 → IVec S16 32) a x).toNat < S6144.size a := fun v603 k0_hw136 => k0_hw136

def k0_chk137 (v607 : IVec S16 32) : Prop :=
  (∀ a x, ((![v607] : Fin 1 → IVec S16 32) a x).toNat < S6144.size a)
theorem k0_idx137_inb : ∀ (v607 : IVec S16 32) (k0_hw137 : k0_chk137 v607), ∀ a x, ((![v607] : Fin 1 → IVec S16 32) a x).toNat < S6144.size a := fun v607 k0_hw137 => k0_hw137

def k0_chk138 (v611 : IVec S16 32) : Prop :=
  (∀ a x, ((![v611] : Fin 1 → IVec S16 32) a x).toNat < S6144.size a)
theorem k0_idx138_inb : ∀ (v611 : IVec S16 32) (k0_hw138 : k0_chk138 v611), ∀ a x, ((![v611] : Fin 1 → IVec S16 32) a x).toNat < S6144.size a := fun v611 k0_hw138 => k0_hw138

def k0_chk139 (v615 : IVec S16 32) : Prop :=
  (∀ a x, ((![v615] : Fin 1 → IVec S16 32) a x).toNat < S6144.size a)
theorem k0_idx139_inb : ∀ (v615 : IVec S16 32) (k0_hw139 : k0_chk139 v615), ∀ a x, ((![v615] : Fin 1 → IVec S16 32) a x).toNat < S6144.size a := fun v615 k0_hw139 => k0_hw139

def k0_chk140 (v619 : IVec S16 32) : Prop :=
  (∀ a x, ((![v619] : Fin 1 → IVec S16 32) a x).toNat < S6144.size a)
theorem k0_idx140_inb : ∀ (v619 : IVec S16 32) (k0_hw140 : k0_chk140 v619), ∀ a x, ((![v619] : Fin 1 → IVec S16 32) a x).toNat < S6144.size a := fun v619 k0_hw140 => k0_hw140

def k0_chk141 (v624 : IVec S16 32) : Prop :=
  (∀ a x, ((![v624] : Fin 1 → IVec S16 32) a x).toNat < S6144.size a)
theorem k0_idx141_inb : ∀ (v624 : IVec S16 32) (k0_hw141 : k0_chk141 v624), ∀ a x, ((![v624] : Fin 1 → IVec S16 32) a x).toNat < S6144.size a := fun v624 k0_hw141 => k0_hw141

def k0_chk142 (v628 : IVec S16 32) : Prop :=
  (∀ a x, ((![v628] : Fin 1 → IVec S16 32) a x).toNat < S6144.size a)
theorem k0_idx142_inb : ∀ (v628 : IVec S16 32) (k0_hw142 : k0_chk142 v628), ∀ a x, ((![v628] : Fin 1 → IVec S16 32) a x).toNat < S6144.size a := fun v628 k0_hw142 => k0_hw142

def k0_chk143 (v632 : IVec S16 32) : Prop :=
  (∀ a x, ((![v632] : Fin 1 → IVec S16 32) a x).toNat < S6144.size a)
theorem k0_idx143_inb : ∀ (v632 : IVec S16 32) (k0_hw143 : k0_chk143 v632), ∀ a x, ((![v632] : Fin 1 → IVec S16 32) a x).toNat < S6144.size a := fun v632 k0_hw143 => k0_hw143

def k0_chk144 (v636 : IVec S16 32) : Prop :=
  (∀ a x, ((![v636] : Fin 1 → IVec S16 32) a x).toNat < S6144.size a)
theorem k0_idx144_inb : ∀ (v636 : IVec S16 32) (k0_hw144 : k0_chk144 v636), ∀ a x, ((![v636] : Fin 1 → IVec S16 32) a x).toNat < S6144.size a := fun v636 k0_hw144 => k0_hw144

def k0_chk145 (v640 : IVec S16 32) : Prop :=
  (∀ a x, ((![v640] : Fin 1 → IVec S16 32) a x).toNat < S6144.size a)
theorem k0_idx145_inb : ∀ (v640 : IVec S16 32) (k0_hw145 : k0_chk145 v640), ∀ a x, ((![v640] : Fin 1 → IVec S16 32) a x).toNat < S6144.size a := fun v640 k0_hw145 => k0_hw145

def k0_chk146 (v644 : IVec S16 32) : Prop :=
  (∀ a x, ((![v644] : Fin 1 → IVec S16 32) a x).toNat < S6144.size a)
theorem k0_idx146_inb : ∀ (v644 : IVec S16 32) (k0_hw146 : k0_chk146 v644), ∀ a x, ((![v644] : Fin 1 → IVec S16 32) a x).toNat < S6144.size a := fun v644 k0_hw146 => k0_hw146

def k0_chk147 (v648 : IVec S16 32) : Prop :=
  (∀ a x, ((![v648] : Fin 1 → IVec S16 32) a x).toNat < S6144.size a)
theorem k0_idx147_inb : ∀ (v648 : IVec S16 32) (k0_hw147 : k0_chk147 v648), ∀ a x, ((![v648] : Fin 1 → IVec S16 32) a x).toNat < S6144.size a := fun v648 k0_hw147 => k0_hw147

def k0_chk148 (v652 : IVec S16 32) : Prop :=
  (∀ a x, ((![v652] : Fin 1 → IVec S16 32) a x).toNat < S6144.size a)
theorem k0_idx148_inb : ∀ (v652 : IVec S16 32) (k0_hw148 : k0_chk148 v652), ∀ a x, ((![v652] : Fin 1 → IVec S16 32) a x).toNat < S6144.size a := fun v652 k0_hw148 => k0_hw148

def k0_chk149 (v656 : IVec S16 32) : Prop :=
  (∀ a x, ((![v656] : Fin 1 → IVec S16 32) a x).toNat < S6144.size a)
theorem k0_idx149_inb : ∀ (v656 : IVec S16 32) (k0_hw149 : k0_chk149 v656), ∀ a x, ((![v656] : Fin 1 → IVec S16 32) a x).toNat < S6144.size a := fun v656 k0_hw149 => k0_hw149

def k0_chk150 (v660 : IVec S16 32) : Prop :=
  (∀ a x, ((![v660] : Fin 1 → IVec S16 32) a x).toNat < S6144.size a)
theorem k0_idx150_inb : ∀ (v660 : IVec S16 32) (k0_hw150 : k0_chk150 v660), ∀ a x, ((![v660] : Fin 1 → IVec S16 32) a x).toNat < S6144.size a := fun v660 k0_hw150 => k0_hw150

def k0_chk151 (v664 : IVec S16 32) : Prop :=
  (∀ a x, ((![v664] : Fin 1 → IVec S16 32) a x).toNat < S6144.size a)
theorem k0_idx151_inb : ∀ (v664 : IVec S16 32) (k0_hw151 : k0_chk151 v664), ∀ a x, ((![v664] : Fin 1 → IVec S16 32) a x).toNat < S6144.size a := fun v664 k0_hw151 => k0_hw151

def k0_chk152 (v668 : IVec S16 32) : Prop :=
  (∀ a x, ((![v668] : Fin 1 → IVec S16 32) a x).toNat < S6144.size a)
theorem k0_idx152_inb : ∀ (v668 : IVec S16 32) (k0_hw152 : k0_chk152 v668), ∀ a x, ((![v668] : Fin 1 → IVec S16 32) a x).toNat < S6144.size a := fun v668 k0_hw152 => k0_hw152

def k0_chk153 (v672 : IVec S16 32) : Prop :=
  (∀ a x, ((![v672] : Fin 1 → IVec S16 32) a x).toNat < S6144.size a)
theorem k0_idx153_inb : ∀ (v672 : IVec S16 32) (k0_hw153 : k0_chk153 v672), ∀ a x, ((![v672] : Fin 1 → IVec S16 32) a x).toNat < S6144.size a := fun v672 k0_hw153 => k0_hw153

def k0_chk154 (v676 : IVec S16 32) : Prop :=
  (∀ a x, ((![v676] : Fin 1 → IVec S16 32) a x).toNat < S6144.size a)
theorem k0_idx154_inb : ∀ (v676 : IVec S16 32) (k0_hw154 : k0_chk154 v676), ∀ a x, ((![v676] : Fin 1 → IVec S16 32) a x).toNat < S6144.size a := fun v676 k0_hw154 => k0_hw154

def k0_chk155 (v680 : IVec S16 32) : Prop :=
  (∀ a x, ((![v680] : Fin 1 → IVec S16 32) a x).toNat < S6144.size a)
theorem k0_idx155_inb : ∀ (v680 : IVec S16 32) (k0_hw155 : k0_chk155 v680), ∀ a x, ((![v680] : Fin 1 → IVec S16 32) a x).toNat < S6144.size a := fun v680 k0_hw155 => k0_hw155

def k0_chk156 (v684 : IVec S16 32) : Prop :=
  (∀ a x, ((![v684] : Fin 1 → IVec S16 32) a x).toNat < S6144.size a)
theorem k0_idx156_inb : ∀ (v684 : IVec S16 32) (k0_hw156 : k0_chk156 v684), ∀ a x, ((![v684] : Fin 1 → IVec S16 32) a x).toNat < S6144.size a := fun v684 k0_hw156 => k0_hw156

def k0_chk157 (v689 : IVec S16 32) : Prop :=
  (∀ a x, ((![v689] : Fin 1 → IVec S16 32) a x).toNat < S6144.size a)
theorem k0_idx157_inb : ∀ (v689 : IVec S16 32) (k0_hw157 : k0_chk157 v689), ∀ a x, ((![v689] : Fin 1 → IVec S16 32) a x).toNat < S6144.size a := fun v689 k0_hw157 => k0_hw157

def k0_chk158 (v693 : IVec S16 32) : Prop :=
  (∀ a x, ((![v693] : Fin 1 → IVec S16 32) a x).toNat < S6144.size a)
theorem k0_idx158_inb : ∀ (v693 : IVec S16 32) (k0_hw158 : k0_chk158 v693), ∀ a x, ((![v693] : Fin 1 → IVec S16 32) a x).toNat < S6144.size a := fun v693 k0_hw158 => k0_hw158

def k0_chk159 (v697 : IVec S16 32) : Prop :=
  (∀ a x, ((![v697] : Fin 1 → IVec S16 32) a x).toNat < S6144.size a)
theorem k0_idx159_inb : ∀ (v697 : IVec S16 32) (k0_hw159 : k0_chk159 v697), ∀ a x, ((![v697] : Fin 1 → IVec S16 32) a x).toNat < S6144.size a := fun v697 k0_hw159 => k0_hw159

def k0_chk160 (v701 : IVec S16 32) : Prop :=
  (∀ a x, ((![v701] : Fin 1 → IVec S16 32) a x).toNat < S6144.size a)
theorem k0_idx160_inb : ∀ (v701 : IVec S16 32) (k0_hw160 : k0_chk160 v701), ∀ a x, ((![v701] : Fin 1 → IVec S16 32) a x).toNat < S6144.size a := fun v701 k0_hw160 => k0_hw160

def k0_chk161 (v705 : IVec S16 32) : Prop :=
  (∀ a x, ((![v705] : Fin 1 → IVec S16 32) a x).toNat < S6144.size a)
theorem k0_idx161_inb : ∀ (v705 : IVec S16 32) (k0_hw161 : k0_chk161 v705), ∀ a x, ((![v705] : Fin 1 → IVec S16 32) a x).toNat < S6144.size a := fun v705 k0_hw161 => k0_hw161

def k0_chk162 (v709 : IVec S16 32) : Prop :=
  (∀ a x, ((![v709] : Fin 1 → IVec S16 32) a x).toNat < S6144.size a)
theorem k0_idx162_inb : ∀ (v709 : IVec S16 32) (k0_hw162 : k0_chk162 v709), ∀ a x, ((![v709] : Fin 1 → IVec S16 32) a x).toNat < S6144.size a := fun v709 k0_hw162 => k0_hw162

def k0_chk163 (v713 : IVec S16 32) : Prop :=
  (∀ a x, ((![v713] : Fin 1 → IVec S16 32) a x).toNat < S6144.size a)
theorem k0_idx163_inb : ∀ (v713 : IVec S16 32) (k0_hw163 : k0_chk163 v713), ∀ a x, ((![v713] : Fin 1 → IVec S16 32) a x).toNat < S6144.size a := fun v713 k0_hw163 => k0_hw163

def k0_chk164 (v717 : IVec S16 32) : Prop :=
  (∀ a x, ((![v717] : Fin 1 → IVec S16 32) a x).toNat < S6144.size a)
theorem k0_idx164_inb : ∀ (v717 : IVec S16 32) (k0_hw164 : k0_chk164 v717), ∀ a x, ((![v717] : Fin 1 → IVec S16 32) a x).toNat < S6144.size a := fun v717 k0_hw164 => k0_hw164

def k0_chk165 (v721 : IVec S16 32) : Prop :=
  (∀ a x, ((![v721] : Fin 1 → IVec S16 32) a x).toNat < S6144.size a)
theorem k0_idx165_inb : ∀ (v721 : IVec S16 32) (k0_hw165 : k0_chk165 v721), ∀ a x, ((![v721] : Fin 1 → IVec S16 32) a x).toNat < S6144.size a := fun v721 k0_hw165 => k0_hw165

def k0_chk166 (v725 : IVec S16 32) : Prop :=
  (∀ a x, ((![v725] : Fin 1 → IVec S16 32) a x).toNat < S6144.size a)
theorem k0_idx166_inb : ∀ (v725 : IVec S16 32) (k0_hw166 : k0_chk166 v725), ∀ a x, ((![v725] : Fin 1 → IVec S16 32) a x).toNat < S6144.size a := fun v725 k0_hw166 => k0_hw166

def k0_chk167 (v729 : IVec S16 32) : Prop :=
  (∀ a x, ((![v729] : Fin 1 → IVec S16 32) a x).toNat < S6144.size a)
theorem k0_idx167_inb : ∀ (v729 : IVec S16 32) (k0_hw167 : k0_chk167 v729), ∀ a x, ((![v729] : Fin 1 → IVec S16 32) a x).toNat < S6144.size a := fun v729 k0_hw167 => k0_hw167

def k0_chk168 (v733 : IVec S16 32) : Prop :=
  (∀ a x, ((![v733] : Fin 1 → IVec S16 32) a x).toNat < S6144.size a)
theorem k0_idx168_inb : ∀ (v733 : IVec S16 32) (k0_hw168 : k0_chk168 v733), ∀ a x, ((![v733] : Fin 1 → IVec S16 32) a x).toNat < S6144.size a := fun v733 k0_hw168 => k0_hw168

def k0_chk169 (v737 : IVec S16 32) : Prop :=
  (∀ a x, ((![v737] : Fin 1 → IVec S16 32) a x).toNat < S6144.size a)
theorem k0_idx169_inb : ∀ (v737 : IVec S16 32) (k0_hw169 : k0_chk169 v737), ∀ a x, ((![v737] : Fin 1 → IVec S16 32) a x).toNat < S6144.size a := fun v737 k0_hw169 => k0_hw169

def k0_chk170 (v741 : IVec S16 32) : Prop :=
  (∀ a x, ((![v741] : Fin 1 → IVec S16 32) a x).toNat < S6144.size a)
theorem k0_idx170_inb : ∀ (v741 : IVec S16 32) (k0_hw170 : k0_chk170 v741), ∀ a x, ((![v741] : Fin 1 → IVec S16 32) a x).toNat < S6144.size a := fun v741 k0_hw170 => k0_hw170

def k0_chk171 (v745 : IVec S16 32) : Prop :=
  (∀ a x, ((![v745] : Fin 1 → IVec S16 32) a x).toNat < S6144.size a)
theorem k0_idx171_inb : ∀ (v745 : IVec S16 32) (k0_hw171 : k0_chk171 v745), ∀ a x, ((![v745] : Fin 1 → IVec S16 32) a x).toNat < S6144.size a := fun v745 k0_hw171 => k0_hw171

def k0_chk172 (v749 : IVec S16 32) : Prop :=
  (∀ a x, ((![v749] : Fin 1 → IVec S16 32) a x).toNat < S6144.size a)
theorem k0_idx172_inb : ∀ (v749 : IVec S16 32) (k0_hw172 : k0_chk172 v749), ∀ a x, ((![v749] : Fin 1 → IVec S16 32) a x).toNat < S6144.size a := fun v749 k0_hw172 => k0_hw172

def k0_chk173 (v754 : IVec S16 32) : Prop :=
  (∀ a x, ((![v754] : Fin 1 → IVec S16 32) a x).toNat < S6144.size a)
theorem k0_idx173_inb : ∀ (v754 : IVec S16 32) (k0_hw173 : k0_chk173 v754), ∀ a x, ((![v754] : Fin 1 → IVec S16 32) a x).toNat < S6144.size a := fun v754 k0_hw173 => k0_hw173

def k0_chk174 (v758 : IVec S16 32) : Prop :=
  (∀ a x, ((![v758] : Fin 1 → IVec S16 32) a x).toNat < S6144.size a)
theorem k0_idx174_inb : ∀ (v758 : IVec S16 32) (k0_hw174 : k0_chk174 v758), ∀ a x, ((![v758] : Fin 1 → IVec S16 32) a x).toNat < S6144.size a := fun v758 k0_hw174 => k0_hw174

def k0_chk175 (v762 : IVec S16 32) : Prop :=
  (∀ a x, ((![v762] : Fin 1 → IVec S16 32) a x).toNat < S6144.size a)
theorem k0_idx175_inb : ∀ (v762 : IVec S16 32) (k0_hw175 : k0_chk175 v762), ∀ a x, ((![v762] : Fin 1 → IVec S16 32) a x).toNat < S6144.size a := fun v762 k0_hw175 => k0_hw175

def k0_chk176 (v766 : IVec S16 32) : Prop :=
  (∀ a x, ((![v766] : Fin 1 → IVec S16 32) a x).toNat < S6144.size a)
theorem k0_idx176_inb : ∀ (v766 : IVec S16 32) (k0_hw176 : k0_chk176 v766), ∀ a x, ((![v766] : Fin 1 → IVec S16 32) a x).toNat < S6144.size a := fun v766 k0_hw176 => k0_hw176

def k0_chk177 (v770 : IVec S16 32) : Prop :=
  (∀ a x, ((![v770] : Fin 1 → IVec S16 32) a x).toNat < S6144.size a)
theorem k0_idx177_inb : ∀ (v770 : IVec S16 32) (k0_hw177 : k0_chk177 v770), ∀ a x, ((![v770] : Fin 1 → IVec S16 32) a x).toNat < S6144.size a := fun v770 k0_hw177 => k0_hw177

def k0_chk178 (v774 : IVec S16 32) : Prop :=
  (∀ a x, ((![v774] : Fin 1 → IVec S16 32) a x).toNat < S6144.size a)
theorem k0_idx178_inb : ∀ (v774 : IVec S16 32) (k0_hw178 : k0_chk178 v774), ∀ a x, ((![v774] : Fin 1 → IVec S16 32) a x).toNat < S6144.size a := fun v774 k0_hw178 => k0_hw178

def k0_chk179 (v778 : IVec S16 32) : Prop :=
  (∀ a x, ((![v778] : Fin 1 → IVec S16 32) a x).toNat < S6144.size a)
theorem k0_idx179_inb : ∀ (v778 : IVec S16 32) (k0_hw179 : k0_chk179 v778), ∀ a x, ((![v778] : Fin 1 → IVec S16 32) a x).toNat < S6144.size a := fun v778 k0_hw179 => k0_hw179

def k0_chk180 (v782 : IVec S16 32) : Prop :=
  (∀ a x, ((![v782] : Fin 1 → IVec S16 32) a x).toNat < S6144.size a)
theorem k0_idx180_inb : ∀ (v782 : IVec S16 32) (k0_hw180 : k0_chk180 v782), ∀ a x, ((![v782] : Fin 1 → IVec S16 32) a x).toNat < S6144.size a := fun v782 k0_hw180 => k0_hw180

def k0_chk181 (v786 : IVec S16 32) : Prop :=
  (∀ a x, ((![v786] : Fin 1 → IVec S16 32) a x).toNat < S6144.size a)
theorem k0_idx181_inb : ∀ (v786 : IVec S16 32) (k0_hw181 : k0_chk181 v786), ∀ a x, ((![v786] : Fin 1 → IVec S16 32) a x).toNat < S6144.size a := fun v786 k0_hw181 => k0_hw181

def k0_chk182 (v790 : IVec S16 32) : Prop :=
  (∀ a x, ((![v790] : Fin 1 → IVec S16 32) a x).toNat < S6144.size a)
theorem k0_idx182_inb : ∀ (v790 : IVec S16 32) (k0_hw182 : k0_chk182 v790), ∀ a x, ((![v790] : Fin 1 → IVec S16 32) a x).toNat < S6144.size a := fun v790 k0_hw182 => k0_hw182

def k0_chk183 (v794 : IVec S16 32) : Prop :=
  (∀ a x, ((![v794] : Fin 1 → IVec S16 32) a x).toNat < S6144.size a)
theorem k0_idx183_inb : ∀ (v794 : IVec S16 32) (k0_hw183 : k0_chk183 v794), ∀ a x, ((![v794] : Fin 1 → IVec S16 32) a x).toNat < S6144.size a := fun v794 k0_hw183 => k0_hw183

def k0_chk184 (v798 : IVec S16 32) : Prop :=
  (∀ a x, ((![v798] : Fin 1 → IVec S16 32) a x).toNat < S6144.size a)
theorem k0_idx184_inb : ∀ (v798 : IVec S16 32) (k0_hw184 : k0_chk184 v798), ∀ a x, ((![v798] : Fin 1 → IVec S16 32) a x).toNat < S6144.size a := fun v798 k0_hw184 => k0_hw184

def k0_chk185 (v802 : IVec S16 32) : Prop :=
  (∀ a x, ((![v802] : Fin 1 → IVec S16 32) a x).toNat < S6144.size a)
theorem k0_idx185_inb : ∀ (v802 : IVec S16 32) (k0_hw185 : k0_chk185 v802), ∀ a x, ((![v802] : Fin 1 → IVec S16 32) a x).toNat < S6144.size a := fun v802 k0_hw185 => k0_hw185

def k0_chk186 (v806 : IVec S16 32) : Prop :=
  (∀ a x, ((![v806] : Fin 1 → IVec S16 32) a x).toNat < S6144.size a)
theorem k0_idx186_inb : ∀ (v806 : IVec S16 32) (k0_hw186 : k0_chk186 v806), ∀ a x, ((![v806] : Fin 1 → IVec S16 32) a x).toNat < S6144.size a := fun v806 k0_hw186 => k0_hw186

def k0_chk187 (v810 : IVec S16 32) : Prop :=
  (∀ a x, ((![v810] : Fin 1 → IVec S16 32) a x).toNat < S6144.size a)
theorem k0_idx187_inb : ∀ (v810 : IVec S16 32) (k0_hw187 : k0_chk187 v810), ∀ a x, ((![v810] : Fin 1 → IVec S16 32) a x).toNat < S6144.size a := fun v810 k0_hw187 => k0_hw187

def k0_chk188 (v814 : IVec S16 32) : Prop :=
  (∀ a x, ((![v814] : Fin 1 → IVec S16 32) a x).toNat < S6144.size a)
theorem k0_idx188_inb : ∀ (v814 : IVec S16 32) (k0_hw188 : k0_chk188 v814), ∀ a x, ((![v814] : Fin 1 → IVec S16 32) a x).toNat < S6144.size a := fun v814 k0_hw188 => k0_hw188

def k0_chk189 (v819 : IVec S16 32) : Prop :=
  (∀ a x, ((![v819] : Fin 1 → IVec S16 32) a x).toNat < S6144.size a)
theorem k0_idx189_inb : ∀ (v819 : IVec S16 32) (k0_hw189 : k0_chk189 v819), ∀ a x, ((![v819] : Fin 1 → IVec S16 32) a x).toNat < S6144.size a := fun v819 k0_hw189 => k0_hw189

def k0_chk190 (v823 : IVec S16 32) : Prop :=
  (∀ a x, ((![v823] : Fin 1 → IVec S16 32) a x).toNat < S6144.size a)
theorem k0_idx190_inb : ∀ (v823 : IVec S16 32) (k0_hw190 : k0_chk190 v823), ∀ a x, ((![v823] : Fin 1 → IVec S16 32) a x).toNat < S6144.size a := fun v823 k0_hw190 => k0_hw190

def k0_chk191 (v827 : IVec S16 32) : Prop :=
  (∀ a x, ((![v827] : Fin 1 → IVec S16 32) a x).toNat < S6144.size a)
theorem k0_idx191_inb : ∀ (v827 : IVec S16 32) (k0_hw191 : k0_chk191 v827), ∀ a x, ((![v827] : Fin 1 → IVec S16 32) a x).toNat < S6144.size a := fun v827 k0_hw191 => k0_hw191

def k0_chk192 (v831 : IVec S16 32) : Prop :=
  (∀ a x, ((![v831] : Fin 1 → IVec S16 32) a x).toNat < S6144.size a)
theorem k0_idx192_inb : ∀ (v831 : IVec S16 32) (k0_hw192 : k0_chk192 v831), ∀ a x, ((![v831] : Fin 1 → IVec S16 32) a x).toNat < S6144.size a := fun v831 k0_hw192 => k0_hw192

def k0_chk193 (v835 : IVec S16 32) : Prop :=
  (∀ a x, ((![v835] : Fin 1 → IVec S16 32) a x).toNat < S6144.size a)
theorem k0_idx193_inb : ∀ (v835 : IVec S16 32) (k0_hw193 : k0_chk193 v835), ∀ a x, ((![v835] : Fin 1 → IVec S16 32) a x).toNat < S6144.size a := fun v835 k0_hw193 => k0_hw193

def k0_chk194 (v839 : IVec S16 32) : Prop :=
  (∀ a x, ((![v839] : Fin 1 → IVec S16 32) a x).toNat < S6144.size a)
theorem k0_idx194_inb : ∀ (v839 : IVec S16 32) (k0_hw194 : k0_chk194 v839), ∀ a x, ((![v839] : Fin 1 → IVec S16 32) a x).toNat < S6144.size a := fun v839 k0_hw194 => k0_hw194

def k0_chk195 (v843 : IVec S16 32) : Prop :=
  (∀ a x, ((![v843] : Fin 1 → IVec S16 32) a x).toNat < S6144.size a)
theorem k0_idx195_inb : ∀ (v843 : IVec S16 32) (k0_hw195 : k0_chk195 v843), ∀ a x, ((![v843] : Fin 1 → IVec S16 32) a x).toNat < S6144.size a := fun v843 k0_hw195 => k0_hw195

def k0_chk196 (v847 : IVec S16 32) : Prop :=
  (∀ a x, ((![v847] : Fin 1 → IVec S16 32) a x).toNat < S6144.size a)
theorem k0_idx196_inb : ∀ (v847 : IVec S16 32) (k0_hw196 : k0_chk196 v847), ∀ a x, ((![v847] : Fin 1 → IVec S16 32) a x).toNat < S6144.size a := fun v847 k0_hw196 => k0_hw196

def k0_chk197 (v851 : IVec S16 32) : Prop :=
  (∀ a x, ((![v851] : Fin 1 → IVec S16 32) a x).toNat < S6144.size a)
theorem k0_idx197_inb : ∀ (v851 : IVec S16 32) (k0_hw197 : k0_chk197 v851), ∀ a x, ((![v851] : Fin 1 → IVec S16 32) a x).toNat < S6144.size a := fun v851 k0_hw197 => k0_hw197

def k0_chk198 (v855 : IVec S16 32) : Prop :=
  (∀ a x, ((![v855] : Fin 1 → IVec S16 32) a x).toNat < S6144.size a)
theorem k0_idx198_inb : ∀ (v855 : IVec S16 32) (k0_hw198 : k0_chk198 v855), ∀ a x, ((![v855] : Fin 1 → IVec S16 32) a x).toNat < S6144.size a := fun v855 k0_hw198 => k0_hw198

def k0_chk199 (v859 : IVec S16 32) : Prop :=
  (∀ a x, ((![v859] : Fin 1 → IVec S16 32) a x).toNat < S6144.size a)
theorem k0_idx199_inb : ∀ (v859 : IVec S16 32) (k0_hw199 : k0_chk199 v859), ∀ a x, ((![v859] : Fin 1 → IVec S16 32) a x).toNat < S6144.size a := fun v859 k0_hw199 => k0_hw199

def k0_chk200 (v863 : IVec S16 32) : Prop :=
  (∀ a x, ((![v863] : Fin 1 → IVec S16 32) a x).toNat < S6144.size a)
theorem k0_idx200_inb : ∀ (v863 : IVec S16 32) (k0_hw200 : k0_chk200 v863), ∀ a x, ((![v863] : Fin 1 → IVec S16 32) a x).toNat < S6144.size a := fun v863 k0_hw200 => k0_hw200

def k0_chk201 (v867 : IVec S16 32) : Prop :=
  (∀ a x, ((![v867] : Fin 1 → IVec S16 32) a x).toNat < S6144.size a)
theorem k0_idx201_inb : ∀ (v867 : IVec S16 32) (k0_hw201 : k0_chk201 v867), ∀ a x, ((![v867] : Fin 1 → IVec S16 32) a x).toNat < S6144.size a := fun v867 k0_hw201 => k0_hw201

def k0_chk202 (v871 : IVec S16 32) : Prop :=
  (∀ a x, ((![v871] : Fin 1 → IVec S16 32) a x).toNat < S6144.size a)
theorem k0_idx202_inb : ∀ (v871 : IVec S16 32) (k0_hw202 : k0_chk202 v871), ∀ a x, ((![v871] : Fin 1 → IVec S16 32) a x).toNat < S6144.size a := fun v871 k0_hw202 => k0_hw202

def k0_chk203 (v875 : IVec S16 32) : Prop :=
  (∀ a x, ((![v875] : Fin 1 → IVec S16 32) a x).toNat < S6144.size a)
theorem k0_idx203_inb : ∀ (v875 : IVec S16 32) (k0_hw203 : k0_chk203 v875), ∀ a x, ((![v875] : Fin 1 → IVec S16 32) a x).toNat < S6144.size a := fun v875 k0_hw203 => k0_hw203

def k0_chk204 (v879 : IVec S16 32) : Prop :=
  (∀ a x, ((![v879] : Fin 1 → IVec S16 32) a x).toNat < S6144.size a)
theorem k0_idx204_inb : ∀ (v879 : IVec S16 32) (k0_hw204 : k0_chk204 v879), ∀ a x, ((![v879] : Fin 1 → IVec S16 32) a x).toNat < S6144.size a := fun v879 k0_hw204 => k0_hw204

def k0_chk205 (v884 : IVec S16 32) : Prop :=
  (∀ a x, ((![v884] : Fin 1 → IVec S16 32) a x).toNat < S6144.size a)
theorem k0_idx205_inb : ∀ (v884 : IVec S16 32) (k0_hw205 : k0_chk205 v884), ∀ a x, ((![v884] : Fin 1 → IVec S16 32) a x).toNat < S6144.size a := fun v884 k0_hw205 => k0_hw205

def k0_chk206 (v888 : IVec S16 32) : Prop :=
  (∀ a x, ((![v888] : Fin 1 → IVec S16 32) a x).toNat < S6144.size a)
theorem k0_idx206_inb : ∀ (v888 : IVec S16 32) (k0_hw206 : k0_chk206 v888), ∀ a x, ((![v888] : Fin 1 → IVec S16 32) a x).toNat < S6144.size a := fun v888 k0_hw206 => k0_hw206

def k0_chk207 (v892 : IVec S16 32) : Prop :=
  (∀ a x, ((![v892] : Fin 1 → IVec S16 32) a x).toNat < S6144.size a)
theorem k0_idx207_inb : ∀ (v892 : IVec S16 32) (k0_hw207 : k0_chk207 v892), ∀ a x, ((![v892] : Fin 1 → IVec S16 32) a x).toNat < S6144.size a := fun v892 k0_hw207 => k0_hw207

def k0_chk208 (v896 : IVec S16 32) : Prop :=
  (∀ a x, ((![v896] : Fin 1 → IVec S16 32) a x).toNat < S6144.size a)
theorem k0_idx208_inb : ∀ (v896 : IVec S16 32) (k0_hw208 : k0_chk208 v896), ∀ a x, ((![v896] : Fin 1 → IVec S16 32) a x).toNat < S6144.size a := fun v896 k0_hw208 => k0_hw208

def k0_chk209 (v900 : IVec S16 32) : Prop :=
  (∀ a x, ((![v900] : Fin 1 → IVec S16 32) a x).toNat < S6144.size a)
theorem k0_idx209_inb : ∀ (v900 : IVec S16 32) (k0_hw209 : k0_chk209 v900), ∀ a x, ((![v900] : Fin 1 → IVec S16 32) a x).toNat < S6144.size a := fun v900 k0_hw209 => k0_hw209

def k0_chk210 (v904 : IVec S16 32) : Prop :=
  (∀ a x, ((![v904] : Fin 1 → IVec S16 32) a x).toNat < S6144.size a)
theorem k0_idx210_inb : ∀ (v904 : IVec S16 32) (k0_hw210 : k0_chk210 v904), ∀ a x, ((![v904] : Fin 1 → IVec S16 32) a x).toNat < S6144.size a := fun v904 k0_hw210 => k0_hw210

def k0_chk211 (v908 : IVec S16 32) : Prop :=
  (∀ a x, ((![v908] : Fin 1 → IVec S16 32) a x).toNat < S6144.size a)
theorem k0_idx211_inb : ∀ (v908 : IVec S16 32) (k0_hw211 : k0_chk211 v908), ∀ a x, ((![v908] : Fin 1 → IVec S16 32) a x).toNat < S6144.size a := fun v908 k0_hw211 => k0_hw211

def k0_chk212 (v912 : IVec S16 32) : Prop :=
  (∀ a x, ((![v912] : Fin 1 → IVec S16 32) a x).toNat < S6144.size a)
theorem k0_idx212_inb : ∀ (v912 : IVec S16 32) (k0_hw212 : k0_chk212 v912), ∀ a x, ((![v912] : Fin 1 → IVec S16 32) a x).toNat < S6144.size a := fun v912 k0_hw212 => k0_hw212

def k0_chk213 (v916 : IVec S16 32) : Prop :=
  (∀ a x, ((![v916] : Fin 1 → IVec S16 32) a x).toNat < S6144.size a)
theorem k0_idx213_inb : ∀ (v916 : IVec S16 32) (k0_hw213 : k0_chk213 v916), ∀ a x, ((![v916] : Fin 1 → IVec S16 32) a x).toNat < S6144.size a := fun v916 k0_hw213 => k0_hw213

def k0_chk214 (v920 : IVec S16 32) : Prop :=
  (∀ a x, ((![v920] : Fin 1 → IVec S16 32) a x).toNat < S6144.size a)
theorem k0_idx214_inb : ∀ (v920 : IVec S16 32) (k0_hw214 : k0_chk214 v920), ∀ a x, ((![v920] : Fin 1 → IVec S16 32) a x).toNat < S6144.size a := fun v920 k0_hw214 => k0_hw214

def k0_chk215 (v924 : IVec S16 32) : Prop :=
  (∀ a x, ((![v924] : Fin 1 → IVec S16 32) a x).toNat < S6144.size a)
theorem k0_idx215_inb : ∀ (v924 : IVec S16 32) (k0_hw215 : k0_chk215 v924), ∀ a x, ((![v924] : Fin 1 → IVec S16 32) a x).toNat < S6144.size a := fun v924 k0_hw215 => k0_hw215

def k0_chk216 (v928 : IVec S16 32) : Prop :=
  (∀ a x, ((![v928] : Fin 1 → IVec S16 32) a x).toNat < S6144.size a)
theorem k0_idx216_inb : ∀ (v928 : IVec S16 32) (k0_hw216 : k0_chk216 v928), ∀ a x, ((![v928] : Fin 1 → IVec S16 32) a x).toNat < S6144.size a := fun v928 k0_hw216 => k0_hw216

def k0_chk217 (v932 : IVec S16 32) : Prop :=
  (∀ a x, ((![v932] : Fin 1 → IVec S16 32) a x).toNat < S6144.size a)
theorem k0_idx217_inb : ∀ (v932 : IVec S16 32) (k0_hw217 : k0_chk217 v932), ∀ a x, ((![v932] : Fin 1 → IVec S16 32) a x).toNat < S6144.size a := fun v932 k0_hw217 => k0_hw217

def k0_chk218 (v936 : IVec S16 32) : Prop :=
  (∀ a x, ((![v936] : Fin 1 → IVec S16 32) a x).toNat < S6144.size a)
theorem k0_idx218_inb : ∀ (v936 : IVec S16 32) (k0_hw218 : k0_chk218 v936), ∀ a x, ((![v936] : Fin 1 → IVec S16 32) a x).toNat < S6144.size a := fun v936 k0_hw218 => k0_hw218

def k0_chk219 (v940 : IVec S16 32) : Prop :=
  (∀ a x, ((![v940] : Fin 1 → IVec S16 32) a x).toNat < S6144.size a)
theorem k0_idx219_inb : ∀ (v940 : IVec S16 32) (k0_hw219 : k0_chk219 v940), ∀ a x, ((![v940] : Fin 1 → IVec S16 32) a x).toNat < S6144.size a := fun v940 k0_hw219 => k0_hw219

def k0_chk220 (v944 : IVec S16 32) : Prop :=
  (∀ a x, ((![v944] : Fin 1 → IVec S16 32) a x).toNat < S6144.size a)
theorem k0_idx220_inb : ∀ (v944 : IVec S16 32) (k0_hw220 : k0_chk220 v944), ∀ a x, ((![v944] : Fin 1 → IVec S16 32) a x).toNat < S6144.size a := fun v944 k0_hw220 => k0_hw220

def k0_chk221 (v949 : IVec S16 32) : Prop :=
  (∀ a x, ((![v949] : Fin 1 → IVec S16 32) a x).toNat < S6144.size a)
theorem k0_idx221_inb : ∀ (v949 : IVec S16 32) (k0_hw221 : k0_chk221 v949), ∀ a x, ((![v949] : Fin 1 → IVec S16 32) a x).toNat < S6144.size a := fun v949 k0_hw221 => k0_hw221

def k0_chk222 (v953 : IVec S16 32) : Prop :=
  (∀ a x, ((![v953] : Fin 1 → IVec S16 32) a x).toNat < S6144.size a)
theorem k0_idx222_inb : ∀ (v953 : IVec S16 32) (k0_hw222 : k0_chk222 v953), ∀ a x, ((![v953] : Fin 1 → IVec S16 32) a x).toNat < S6144.size a := fun v953 k0_hw222 => k0_hw222

def k0_chk223 (v957 : IVec S16 32) : Prop :=
  (∀ a x, ((![v957] : Fin 1 → IVec S16 32) a x).toNat < S6144.size a)
theorem k0_idx223_inb : ∀ (v957 : IVec S16 32) (k0_hw223 : k0_chk223 v957), ∀ a x, ((![v957] : Fin 1 → IVec S16 32) a x).toNat < S6144.size a := fun v957 k0_hw223 => k0_hw223

def k0_chk224 (v961 : IVec S16 32) : Prop :=
  (∀ a x, ((![v961] : Fin 1 → IVec S16 32) a x).toNat < S6144.size a)
theorem k0_idx224_inb : ∀ (v961 : IVec S16 32) (k0_hw224 : k0_chk224 v961), ∀ a x, ((![v961] : Fin 1 → IVec S16 32) a x).toNat < S6144.size a := fun v961 k0_hw224 => k0_hw224

def k0_chk225 (v965 : IVec S16 32) : Prop :=
  (∀ a x, ((![v965] : Fin 1 → IVec S16 32) a x).toNat < S6144.size a)
theorem k0_idx225_inb : ∀ (v965 : IVec S16 32) (k0_hw225 : k0_chk225 v965), ∀ a x, ((![v965] : Fin 1 → IVec S16 32) a x).toNat < S6144.size a := fun v965 k0_hw225 => k0_hw225

def k0_chk226 (v969 : IVec S16 32) : Prop :=
  (∀ a x, ((![v969] : Fin 1 → IVec S16 32) a x).toNat < S6144.size a)
theorem k0_idx226_inb : ∀ (v969 : IVec S16 32) (k0_hw226 : k0_chk226 v969), ∀ a x, ((![v969] : Fin 1 → IVec S16 32) a x).toNat < S6144.size a := fun v969 k0_hw226 => k0_hw226

def k0_chk227 (v973 : IVec S16 32) : Prop :=
  (∀ a x, ((![v973] : Fin 1 → IVec S16 32) a x).toNat < S6144.size a)
theorem k0_idx227_inb : ∀ (v973 : IVec S16 32) (k0_hw227 : k0_chk227 v973), ∀ a x, ((![v973] : Fin 1 → IVec S16 32) a x).toNat < S6144.size a := fun v973 k0_hw227 => k0_hw227

def k0_chk228 (v977 : IVec S16 32) : Prop :=
  (∀ a x, ((![v977] : Fin 1 → IVec S16 32) a x).toNat < S6144.size a)
theorem k0_idx228_inb : ∀ (v977 : IVec S16 32) (k0_hw228 : k0_chk228 v977), ∀ a x, ((![v977] : Fin 1 → IVec S16 32) a x).toNat < S6144.size a := fun v977 k0_hw228 => k0_hw228

def k0_chk229 (v981 : IVec S16 32) : Prop :=
  (∀ a x, ((![v981] : Fin 1 → IVec S16 32) a x).toNat < S6144.size a)
theorem k0_idx229_inb : ∀ (v981 : IVec S16 32) (k0_hw229 : k0_chk229 v981), ∀ a x, ((![v981] : Fin 1 → IVec S16 32) a x).toNat < S6144.size a := fun v981 k0_hw229 => k0_hw229

def k0_chk230 (v985 : IVec S16 32) : Prop :=
  (∀ a x, ((![v985] : Fin 1 → IVec S16 32) a x).toNat < S6144.size a)
theorem k0_idx230_inb : ∀ (v985 : IVec S16 32) (k0_hw230 : k0_chk230 v985), ∀ a x, ((![v985] : Fin 1 → IVec S16 32) a x).toNat < S6144.size a := fun v985 k0_hw230 => k0_hw230

def k0_chk231 (v989 : IVec S16 32) : Prop :=
  (∀ a x, ((![v989] : Fin 1 → IVec S16 32) a x).toNat < S6144.size a)
theorem k0_idx231_inb : ∀ (v989 : IVec S16 32) (k0_hw231 : k0_chk231 v989), ∀ a x, ((![v989] : Fin 1 → IVec S16 32) a x).toNat < S6144.size a := fun v989 k0_hw231 => k0_hw231

def k0_chk232 (v993 : IVec S16 32) : Prop :=
  (∀ a x, ((![v993] : Fin 1 → IVec S16 32) a x).toNat < S6144.size a)
theorem k0_idx232_inb : ∀ (v993 : IVec S16 32) (k0_hw232 : k0_chk232 v993), ∀ a x, ((![v993] : Fin 1 → IVec S16 32) a x).toNat < S6144.size a := fun v993 k0_hw232 => k0_hw232

def k0_chk233 (v997 : IVec S16 32) : Prop :=
  (∀ a x, ((![v997] : Fin 1 → IVec S16 32) a x).toNat < S6144.size a)
theorem k0_idx233_inb : ∀ (v997 : IVec S16 32) (k0_hw233 : k0_chk233 v997), ∀ a x, ((![v997] : Fin 1 → IVec S16 32) a x).toNat < S6144.size a := fun v997 k0_hw233 => k0_hw233

def k0_chk234 (v1001 : IVec S16 32) : Prop :=
  (∀ a x, ((![v1001] : Fin 1 → IVec S16 32) a x).toNat < S6144.size a)
theorem k0_idx234_inb : ∀ (v1001 : IVec S16 32) (k0_hw234 : k0_chk234 v1001), ∀ a x, ((![v1001] : Fin 1 → IVec S16 32) a x).toNat < S6144.size a := fun v1001 k0_hw234 => k0_hw234

def k0_chk235 (v1005 : IVec S16 32) : Prop :=
  (∀ a x, ((![v1005] : Fin 1 → IVec S16 32) a x).toNat < S6144.size a)
theorem k0_idx235_inb : ∀ (v1005 : IVec S16 32) (k0_hw235 : k0_chk235 v1005), ∀ a x, ((![v1005] : Fin 1 → IVec S16 32) a x).toNat < S6144.size a := fun v1005 k0_hw235 => k0_hw235

def k0_chk236 (v1009 : IVec S16 32) : Prop :=
  (∀ a x, ((![v1009] : Fin 1 → IVec S16 32) a x).toNat < S6144.size a)
theorem k0_idx236_inb : ∀ (v1009 : IVec S16 32) (k0_hw236 : k0_chk236 v1009), ∀ a x, ((![v1009] : Fin 1 → IVec S16 32) a x).toNat < S6144.size a := fun v1009 k0_hw236 => k0_hw236

def k0_chk237 (v1014 : IVec S16 32) : Prop :=
  (∀ a x, ((![v1014] : Fin 1 → IVec S16 32) a x).toNat < S6144.size a)
theorem k0_idx237_inb : ∀ (v1014 : IVec S16 32) (k0_hw237 : k0_chk237 v1014), ∀ a x, ((![v1014] : Fin 1 → IVec S16 32) a x).toNat < S6144.size a := fun v1014 k0_hw237 => k0_hw237

def k0_chk238 (v1018 : IVec S16 32) : Prop :=
  (∀ a x, ((![v1018] : Fin 1 → IVec S16 32) a x).toNat < S6144.size a)
theorem k0_idx238_inb : ∀ (v1018 : IVec S16 32) (k0_hw238 : k0_chk238 v1018), ∀ a x, ((![v1018] : Fin 1 → IVec S16 32) a x).toNat < S6144.size a := fun v1018 k0_hw238 => k0_hw238

def k0_chk239 (v1022 : IVec S16 32) : Prop :=
  (∀ a x, ((![v1022] : Fin 1 → IVec S16 32) a x).toNat < S6144.size a)
theorem k0_idx239_inb : ∀ (v1022 : IVec S16 32) (k0_hw239 : k0_chk239 v1022), ∀ a x, ((![v1022] : Fin 1 → IVec S16 32) a x).toNat < S6144.size a := fun v1022 k0_hw239 => k0_hw239

def k0_chk240 (v1026 : IVec S16 32) : Prop :=
  (∀ a x, ((![v1026] : Fin 1 → IVec S16 32) a x).toNat < S6144.size a)
theorem k0_idx240_inb : ∀ (v1026 : IVec S16 32) (k0_hw240 : k0_chk240 v1026), ∀ a x, ((![v1026] : Fin 1 → IVec S16 32) a x).toNat < S6144.size a := fun v1026 k0_hw240 => k0_hw240

def k0_chk241 (v1030 : IVec S16 32) : Prop :=
  (∀ a x, ((![v1030] : Fin 1 → IVec S16 32) a x).toNat < S6144.size a)
theorem k0_idx241_inb : ∀ (v1030 : IVec S16 32) (k0_hw241 : k0_chk241 v1030), ∀ a x, ((![v1030] : Fin 1 → IVec S16 32) a x).toNat < S6144.size a := fun v1030 k0_hw241 => k0_hw241

def k0_chk242 (v1034 : IVec S16 32) : Prop :=
  (∀ a x, ((![v1034] : Fin 1 → IVec S16 32) a x).toNat < S6144.size a)
theorem k0_idx242_inb : ∀ (v1034 : IVec S16 32) (k0_hw242 : k0_chk242 v1034), ∀ a x, ((![v1034] : Fin 1 → IVec S16 32) a x).toNat < S6144.size a := fun v1034 k0_hw242 => k0_hw242

def k0_chk243 (v1038 : IVec S16 32) : Prop :=
  (∀ a x, ((![v1038] : Fin 1 → IVec S16 32) a x).toNat < S6144.size a)
theorem k0_idx243_inb : ∀ (v1038 : IVec S16 32) (k0_hw243 : k0_chk243 v1038), ∀ a x, ((![v1038] : Fin 1 → IVec S16 32) a x).toNat < S6144.size a := fun v1038 k0_hw243 => k0_hw243

def k0_chk244 (v1042 : IVec S16 32) : Prop :=
  (∀ a x, ((![v1042] : Fin 1 → IVec S16 32) a x).toNat < S6144.size a)
theorem k0_idx244_inb : ∀ (v1042 : IVec S16 32) (k0_hw244 : k0_chk244 v1042), ∀ a x, ((![v1042] : Fin 1 → IVec S16 32) a x).toNat < S6144.size a := fun v1042 k0_hw244 => k0_hw244

def k0_chk245 (v1046 : IVec S16 32) : Prop :=
  (∀ a x, ((![v1046] : Fin 1 → IVec S16 32) a x).toNat < S6144.size a)
theorem k0_idx245_inb : ∀ (v1046 : IVec S16 32) (k0_hw245 : k0_chk245 v1046), ∀ a x, ((![v1046] : Fin 1 → IVec S16 32) a x).toNat < S6144.size a := fun v1046 k0_hw245 => k0_hw245

def k0_chk246 (v1050 : IVec S16 32) : Prop :=
  (∀ a x, ((![v1050] : Fin 1 → IVec S16 32) a x).toNat < S6144.size a)
theorem k0_idx246_inb : ∀ (v1050 : IVec S16 32) (k0_hw246 : k0_chk246 v1050), ∀ a x, ((![v1050] : Fin 1 → IVec S16 32) a x).toNat < S6144.size a := fun v1050 k0_hw246 => k0_hw246

def k0_chk247 (v1054 : IVec S16 32) : Prop :=
  (∀ a x, ((![v1054] : Fin 1 → IVec S16 32) a x).toNat < S6144.size a)
theorem k0_idx247_inb : ∀ (v1054 : IVec S16 32) (k0_hw247 : k0_chk247 v1054), ∀ a x, ((![v1054] : Fin 1 → IVec S16 32) a x).toNat < S6144.size a := fun v1054 k0_hw247 => k0_hw247

def k0_chk248 (v1058 : IVec S16 32) : Prop :=
  (∀ a x, ((![v1058] : Fin 1 → IVec S16 32) a x).toNat < S6144.size a)
theorem k0_idx248_inb : ∀ (v1058 : IVec S16 32) (k0_hw248 : k0_chk248 v1058), ∀ a x, ((![v1058] : Fin 1 → IVec S16 32) a x).toNat < S6144.size a := fun v1058 k0_hw248 => k0_hw248

def k0_chk249 (v1062 : IVec S16 32) : Prop :=
  (∀ a x, ((![v1062] : Fin 1 → IVec S16 32) a x).toNat < S6144.size a)
theorem k0_idx249_inb : ∀ (v1062 : IVec S16 32) (k0_hw249 : k0_chk249 v1062), ∀ a x, ((![v1062] : Fin 1 → IVec S16 32) a x).toNat < S6144.size a := fun v1062 k0_hw249 => k0_hw249

def k0_chk250 (v1066 : IVec S16 32) : Prop :=
  (∀ a x, ((![v1066] : Fin 1 → IVec S16 32) a x).toNat < S6144.size a)
theorem k0_idx250_inb : ∀ (v1066 : IVec S16 32) (k0_hw250 : k0_chk250 v1066), ∀ a x, ((![v1066] : Fin 1 → IVec S16 32) a x).toNat < S6144.size a := fun v1066 k0_hw250 => k0_hw250

def k0_chk251 (v1070 : IVec S16 32) : Prop :=
  (∀ a x, ((![v1070] : Fin 1 → IVec S16 32) a x).toNat < S6144.size a)
theorem k0_idx251_inb : ∀ (v1070 : IVec S16 32) (k0_hw251 : k0_chk251 v1070), ∀ a x, ((![v1070] : Fin 1 → IVec S16 32) a x).toNat < S6144.size a := fun v1070 k0_hw251 => k0_hw251

def k0_chk252 (v1074 : IVec S16 32) : Prop :=
  (∀ a x, ((![v1074] : Fin 1 → IVec S16 32) a x).toNat < S6144.size a)
theorem k0_idx252_inb : ∀ (v1074 : IVec S16 32) (k0_hw252 : k0_chk252 v1074), ∀ a x, ((![v1074] : Fin 1 → IVec S16 32) a x).toNat < S6144.size a := fun v1074 k0_hw252 => k0_hw252

def k0_chk253 (v1079 : IVec S16 32) : Prop :=
  (∀ a x, ((![v1079] : Fin 1 → IVec S16 32) a x).toNat < S6144.size a)
theorem k0_idx253_inb : ∀ (v1079 : IVec S16 32) (k0_hw253 : k0_chk253 v1079), ∀ a x, ((![v1079] : Fin 1 → IVec S16 32) a x).toNat < S6144.size a := fun v1079 k0_hw253 => k0_hw253

def k0_chk254 (v1083 : IVec S16 32) : Prop :=
  (∀ a x, ((![v1083] : Fin 1 → IVec S16 32) a x).toNat < S6144.size a)
theorem k0_idx254_inb : ∀ (v1083 : IVec S16 32) (k0_hw254 : k0_chk254 v1083), ∀ a x, ((![v1083] : Fin 1 → IVec S16 32) a x).toNat < S6144.size a := fun v1083 k0_hw254 => k0_hw254

def k0_chk255 (v1087 : IVec S16 32) : Prop :=
  (∀ a x, ((![v1087] : Fin 1 → IVec S16 32) a x).toNat < S6144.size a)
theorem k0_idx255_inb : ∀ (v1087 : IVec S16 32) (k0_hw255 : k0_chk255 v1087), ∀ a x, ((![v1087] : Fin 1 → IVec S16 32) a x).toNat < S6144.size a := fun v1087 k0_hw255 => k0_hw255

def k0_chk256 (v1091 : IVec S16 32) : Prop :=
  (∀ a x, ((![v1091] : Fin 1 → IVec S16 32) a x).toNat < S6144.size a)
theorem k0_idx256_inb : ∀ (v1091 : IVec S16 32) (k0_hw256 : k0_chk256 v1091), ∀ a x, ((![v1091] : Fin 1 → IVec S16 32) a x).toNat < S6144.size a := fun v1091 k0_hw256 => k0_hw256

def k0_chk257 (v1095 : IVec S16 32) : Prop :=
  (∀ a x, ((![v1095] : Fin 1 → IVec S16 32) a x).toNat < S6144.size a)
theorem k0_idx257_inb : ∀ (v1095 : IVec S16 32) (k0_hw257 : k0_chk257 v1095), ∀ a x, ((![v1095] : Fin 1 → IVec S16 32) a x).toNat < S6144.size a := fun v1095 k0_hw257 => k0_hw257

def k0_chk258 (v1099 : IVec S16 32) : Prop :=
  (∀ a x, ((![v1099] : Fin 1 → IVec S16 32) a x).toNat < S6144.size a)
theorem k0_idx258_inb : ∀ (v1099 : IVec S16 32) (k0_hw258 : k0_chk258 v1099), ∀ a x, ((![v1099] : Fin 1 → IVec S16 32) a x).toNat < S6144.size a := fun v1099 k0_hw258 => k0_hw258

def k0_chk259 (v1103 : IVec S16 32) : Prop :=
  (∀ a x, ((![v1103] : Fin 1 → IVec S16 32) a x).toNat < S6144.size a)
theorem k0_idx259_inb : ∀ (v1103 : IVec S16 32) (k0_hw259 : k0_chk259 v1103), ∀ a x, ((![v1103] : Fin 1 → IVec S16 32) a x).toNat < S6144.size a := fun v1103 k0_hw259 => k0_hw259

def k0_chk260 (v1107 : IVec S16 32) : Prop :=
  (∀ a x, ((![v1107] : Fin 1 → IVec S16 32) a x).toNat < S6144.size a)
theorem k0_idx260_inb : ∀ (v1107 : IVec S16 32) (k0_hw260 : k0_chk260 v1107), ∀ a x, ((![v1107] : Fin 1 → IVec S16 32) a x).toNat < S6144.size a := fun v1107 k0_hw260 => k0_hw260

def k0_chk261 (v1111 : IVec S16 32) : Prop :=
  (∀ a x, ((![v1111] : Fin 1 → IVec S16 32) a x).toNat < S6144.size a)
theorem k0_idx261_inb : ∀ (v1111 : IVec S16 32) (k0_hw261 : k0_chk261 v1111), ∀ a x, ((![v1111] : Fin 1 → IVec S16 32) a x).toNat < S6144.size a := fun v1111 k0_hw261 => k0_hw261

def k0_chk262 (v1115 : IVec S16 32) : Prop :=
  (∀ a x, ((![v1115] : Fin 1 → IVec S16 32) a x).toNat < S6144.size a)
theorem k0_idx262_inb : ∀ (v1115 : IVec S16 32) (k0_hw262 : k0_chk262 v1115), ∀ a x, ((![v1115] : Fin 1 → IVec S16 32) a x).toNat < S6144.size a := fun v1115 k0_hw262 => k0_hw262

def k0_chk263 (v1119 : IVec S16 32) : Prop :=
  (∀ a x, ((![v1119] : Fin 1 → IVec S16 32) a x).toNat < S6144.size a)
theorem k0_idx263_inb : ∀ (v1119 : IVec S16 32) (k0_hw263 : k0_chk263 v1119), ∀ a x, ((![v1119] : Fin 1 → IVec S16 32) a x).toNat < S6144.size a := fun v1119 k0_hw263 => k0_hw263

def k0_chk264 (v1123 : IVec S16 32) : Prop :=
  (∀ a x, ((![v1123] : Fin 1 → IVec S16 32) a x).toNat < S6144.size a)
theorem k0_idx264_inb : ∀ (v1123 : IVec S16 32) (k0_hw264 : k0_chk264 v1123), ∀ a x, ((![v1123] : Fin 1 → IVec S16 32) a x).toNat < S6144.size a := fun v1123 k0_hw264 => k0_hw264

def k0_chk265 (v1127 : IVec S16 32) : Prop :=
  (∀ a x, ((![v1127] : Fin 1 → IVec S16 32) a x).toNat < S6144.size a)
theorem k0_idx265_inb : ∀ (v1127 : IVec S16 32) (k0_hw265 : k0_chk265 v1127), ∀ a x, ((![v1127] : Fin 1 → IVec S16 32) a x).toNat < S6144.size a := fun v1127 k0_hw265 => k0_hw265

def k0_chk266 (v1131 : IVec S16 32) : Prop :=
  (∀ a x, ((![v1131] : Fin 1 → IVec S16 32) a x).toNat < S6144.size a)
theorem k0_idx266_inb : ∀ (v1131 : IVec S16 32) (k0_hw266 : k0_chk266 v1131), ∀ a x, ((![v1131] : Fin 1 → IVec S16 32) a x).toNat < S6144.size a := fun v1131 k0_hw266 => k0_hw266

def k0_chk267 (v1135 : IVec S16 32) : Prop :=
  (∀ a x, ((![v1135] : Fin 1 → IVec S16 32) a x).toNat < S6144.size a)
theorem k0_idx267_inb : ∀ (v1135 : IVec S16 32) (k0_hw267 : k0_chk267 v1135), ∀ a x, ((![v1135] : Fin 1 → IVec S16 32) a x).toNat < S6144.size a := fun v1135 k0_hw267 => k0_hw267

def k0_chk268 (v1139 : IVec S16 32) : Prop :=
  (∀ a x, ((![v1139] : Fin 1 → IVec S16 32) a x).toNat < S6144.size a)
theorem k0_idx268_inb : ∀ (v1139 : IVec S16 32) (k0_hw268 : k0_chk268 v1139), ∀ a x, ((![v1139] : Fin 1 → IVec S16 32) a x).toNat < S6144.size a := fun v1139 k0_hw268 => k0_hw268

def k0_chk269 (v1144 : IVec S16 32) : Prop :=
  (∀ a x, ((![v1144] : Fin 1 → IVec S16 32) a x).toNat < S6144.size a)
theorem k0_idx269_inb : ∀ (v1144 : IVec S16 32) (k0_hw269 : k0_chk269 v1144), ∀ a x, ((![v1144] : Fin 1 → IVec S16 32) a x).toNat < S6144.size a := fun v1144 k0_hw269 => k0_hw269

def k0_chk270 (v1148 : IVec S16 32) : Prop :=
  (∀ a x, ((![v1148] : Fin 1 → IVec S16 32) a x).toNat < S6144.size a)
theorem k0_idx270_inb : ∀ (v1148 : IVec S16 32) (k0_hw270 : k0_chk270 v1148), ∀ a x, ((![v1148] : Fin 1 → IVec S16 32) a x).toNat < S6144.size a := fun v1148 k0_hw270 => k0_hw270

def k0_chk271 (v1152 : IVec S16 32) : Prop :=
  (∀ a x, ((![v1152] : Fin 1 → IVec S16 32) a x).toNat < S6144.size a)
theorem k0_idx271_inb : ∀ (v1152 : IVec S16 32) (k0_hw271 : k0_chk271 v1152), ∀ a x, ((![v1152] : Fin 1 → IVec S16 32) a x).toNat < S6144.size a := fun v1152 k0_hw271 => k0_hw271

def k0_chk272 (v1156 : IVec S16 32) : Prop :=
  (∀ a x, ((![v1156] : Fin 1 → IVec S16 32) a x).toNat < S6144.size a)
theorem k0_idx272_inb : ∀ (v1156 : IVec S16 32) (k0_hw272 : k0_chk272 v1156), ∀ a x, ((![v1156] : Fin 1 → IVec S16 32) a x).toNat < S6144.size a := fun v1156 k0_hw272 => k0_hw272

def k0_chk273 (v1160 : IVec S16 32) : Prop :=
  (∀ a x, ((![v1160] : Fin 1 → IVec S16 32) a x).toNat < S6144.size a)
theorem k0_idx273_inb : ∀ (v1160 : IVec S16 32) (k0_hw273 : k0_chk273 v1160), ∀ a x, ((![v1160] : Fin 1 → IVec S16 32) a x).toNat < S6144.size a := fun v1160 k0_hw273 => k0_hw273

def k0_chk274 (v1164 : IVec S16 32) : Prop :=
  (∀ a x, ((![v1164] : Fin 1 → IVec S16 32) a x).toNat < S6144.size a)
theorem k0_idx274_inb : ∀ (v1164 : IVec S16 32) (k0_hw274 : k0_chk274 v1164), ∀ a x, ((![v1164] : Fin 1 → IVec S16 32) a x).toNat < S6144.size a := fun v1164 k0_hw274 => k0_hw274

def k0_chk275 (v1168 : IVec S16 32) : Prop :=
  (∀ a x, ((![v1168] : Fin 1 → IVec S16 32) a x).toNat < S6144.size a)
theorem k0_idx275_inb : ∀ (v1168 : IVec S16 32) (k0_hw275 : k0_chk275 v1168), ∀ a x, ((![v1168] : Fin 1 → IVec S16 32) a x).toNat < S6144.size a := fun v1168 k0_hw275 => k0_hw275

def k0_chk276 (v1172 : IVec S16 32) : Prop :=
  (∀ a x, ((![v1172] : Fin 1 → IVec S16 32) a x).toNat < S6144.size a)
theorem k0_idx276_inb : ∀ (v1172 : IVec S16 32) (k0_hw276 : k0_chk276 v1172), ∀ a x, ((![v1172] : Fin 1 → IVec S16 32) a x).toNat < S6144.size a := fun v1172 k0_hw276 => k0_hw276

def k0_chk277 (v1176 : IVec S16 32) : Prop :=
  (∀ a x, ((![v1176] : Fin 1 → IVec S16 32) a x).toNat < S6144.size a)
theorem k0_idx277_inb : ∀ (v1176 : IVec S16 32) (k0_hw277 : k0_chk277 v1176), ∀ a x, ((![v1176] : Fin 1 → IVec S16 32) a x).toNat < S6144.size a := fun v1176 k0_hw277 => k0_hw277

def k0_chk278 (v1180 : IVec S16 32) : Prop :=
  (∀ a x, ((![v1180] : Fin 1 → IVec S16 32) a x).toNat < S6144.size a)
theorem k0_idx278_inb : ∀ (v1180 : IVec S16 32) (k0_hw278 : k0_chk278 v1180), ∀ a x, ((![v1180] : Fin 1 → IVec S16 32) a x).toNat < S6144.size a := fun v1180 k0_hw278 => k0_hw278

def k0_chk279 (v1184 : IVec S16 32) : Prop :=
  (∀ a x, ((![v1184] : Fin 1 → IVec S16 32) a x).toNat < S6144.size a)
theorem k0_idx279_inb : ∀ (v1184 : IVec S16 32) (k0_hw279 : k0_chk279 v1184), ∀ a x, ((![v1184] : Fin 1 → IVec S16 32) a x).toNat < S6144.size a := fun v1184 k0_hw279 => k0_hw279

def k0_chk280 (v1188 : IVec S16 32) : Prop :=
  (∀ a x, ((![v1188] : Fin 1 → IVec S16 32) a x).toNat < S6144.size a)
theorem k0_idx280_inb : ∀ (v1188 : IVec S16 32) (k0_hw280 : k0_chk280 v1188), ∀ a x, ((![v1188] : Fin 1 → IVec S16 32) a x).toNat < S6144.size a := fun v1188 k0_hw280 => k0_hw280

def k0_chk281 (v1192 : IVec S16 32) : Prop :=
  (∀ a x, ((![v1192] : Fin 1 → IVec S16 32) a x).toNat < S6144.size a)
theorem k0_idx281_inb : ∀ (v1192 : IVec S16 32) (k0_hw281 : k0_chk281 v1192), ∀ a x, ((![v1192] : Fin 1 → IVec S16 32) a x).toNat < S6144.size a := fun v1192 k0_hw281 => k0_hw281

def k0_chk282 (v1196 : IVec S16 32) : Prop :=
  (∀ a x, ((![v1196] : Fin 1 → IVec S16 32) a x).toNat < S6144.size a)
theorem k0_idx282_inb : ∀ (v1196 : IVec S16 32) (k0_hw282 : k0_chk282 v1196), ∀ a x, ((![v1196] : Fin 1 → IVec S16 32) a x).toNat < S6144.size a := fun v1196 k0_hw282 => k0_hw282

def k0_chk283 (v1200 : IVec S16 32) : Prop :=
  (∀ a x, ((![v1200] : Fin 1 → IVec S16 32) a x).toNat < S6144.size a)
theorem k0_idx283_inb : ∀ (v1200 : IVec S16 32) (k0_hw283 : k0_chk283 v1200), ∀ a x, ((![v1200] : Fin 1 → IVec S16 32) a x).toNat < S6144.size a := fun v1200 k0_hw283 => k0_hw283

def k0_chk284 (v1204 : IVec S16 32) : Prop :=
  (∀ a x, ((![v1204] : Fin 1 → IVec S16 32) a x).toNat < S6144.size a)
theorem k0_idx284_inb : ∀ (v1204 : IVec S16 32) (k0_hw284 : k0_chk284 v1204), ∀ a x, ((![v1204] : Fin 1 → IVec S16 32) a x).toNat < S6144.size a := fun v1204 k0_hw284 => k0_hw284

def k0_chk285 (v1209 : IVec S16 32) : Prop :=
  (∀ a x, ((![v1209] : Fin 1 → IVec S16 32) a x).toNat < S6144.size a)
theorem k0_idx285_inb : ∀ (v1209 : IVec S16 32) (k0_hw285 : k0_chk285 v1209), ∀ a x, ((![v1209] : Fin 1 → IVec S16 32) a x).toNat < S6144.size a := fun v1209 k0_hw285 => k0_hw285

def k0_chk286 (v1213 : IVec S16 32) : Prop :=
  (∀ a x, ((![v1213] : Fin 1 → IVec S16 32) a x).toNat < S6144.size a)
theorem k0_idx286_inb : ∀ (v1213 : IVec S16 32) (k0_hw286 : k0_chk286 v1213), ∀ a x, ((![v1213] : Fin 1 → IVec S16 32) a x).toNat < S6144.size a := fun v1213 k0_hw286 => k0_hw286

def k0_chk287 (v1217 : IVec S16 32) : Prop :=
  (∀ a x, ((![v1217] : Fin 1 → IVec S16 32) a x).toNat < S6144.size a)
theorem k0_idx287_inb : ∀ (v1217 : IVec S16 32) (k0_hw287 : k0_chk287 v1217), ∀ a x, ((![v1217] : Fin 1 → IVec S16 32) a x).toNat < S6144.size a := fun v1217 k0_hw287 => k0_hw287

def k0_chk288 (v1221 : IVec S16 32) : Prop :=
  (∀ a x, ((![v1221] : Fin 1 → IVec S16 32) a x).toNat < S6144.size a)
theorem k0_idx288_inb : ∀ (v1221 : IVec S16 32) (k0_hw288 : k0_chk288 v1221), ∀ a x, ((![v1221] : Fin 1 → IVec S16 32) a x).toNat < S6144.size a := fun v1221 k0_hw288 => k0_hw288

def k0_chk289 (v1225 : IVec S16 32) : Prop :=
  (∀ a x, ((![v1225] : Fin 1 → IVec S16 32) a x).toNat < S6144.size a)
theorem k0_idx289_inb : ∀ (v1225 : IVec S16 32) (k0_hw289 : k0_chk289 v1225), ∀ a x, ((![v1225] : Fin 1 → IVec S16 32) a x).toNat < S6144.size a := fun v1225 k0_hw289 => k0_hw289

def k0_chk290 (v1229 : IVec S16 32) : Prop :=
  (∀ a x, ((![v1229] : Fin 1 → IVec S16 32) a x).toNat < S6144.size a)
theorem k0_idx290_inb : ∀ (v1229 : IVec S16 32) (k0_hw290 : k0_chk290 v1229), ∀ a x, ((![v1229] : Fin 1 → IVec S16 32) a x).toNat < S6144.size a := fun v1229 k0_hw290 => k0_hw290

def k0_chk291 (v1233 : IVec S16 32) : Prop :=
  (∀ a x, ((![v1233] : Fin 1 → IVec S16 32) a x).toNat < S6144.size a)
theorem k0_idx291_inb : ∀ (v1233 : IVec S16 32) (k0_hw291 : k0_chk291 v1233), ∀ a x, ((![v1233] : Fin 1 → IVec S16 32) a x).toNat < S6144.size a := fun v1233 k0_hw291 => k0_hw291

def k0_chk292 (v1237 : IVec S16 32) : Prop :=
  (∀ a x, ((![v1237] : Fin 1 → IVec S16 32) a x).toNat < S6144.size a)
theorem k0_idx292_inb : ∀ (v1237 : IVec S16 32) (k0_hw292 : k0_chk292 v1237), ∀ a x, ((![v1237] : Fin 1 → IVec S16 32) a x).toNat < S6144.size a := fun v1237 k0_hw292 => k0_hw292

def k0_chk293 (v1241 : IVec S16 32) : Prop :=
  (∀ a x, ((![v1241] : Fin 1 → IVec S16 32) a x).toNat < S6144.size a)
theorem k0_idx293_inb : ∀ (v1241 : IVec S16 32) (k0_hw293 : k0_chk293 v1241), ∀ a x, ((![v1241] : Fin 1 → IVec S16 32) a x).toNat < S6144.size a := fun v1241 k0_hw293 => k0_hw293

def k0_chk294 (v1245 : IVec S16 32) : Prop :=
  (∀ a x, ((![v1245] : Fin 1 → IVec S16 32) a x).toNat < S6144.size a)
theorem k0_idx294_inb : ∀ (v1245 : IVec S16 32) (k0_hw294 : k0_chk294 v1245), ∀ a x, ((![v1245] : Fin 1 → IVec S16 32) a x).toNat < S6144.size a := fun v1245 k0_hw294 => k0_hw294

def k0_chk295 (v1249 : IVec S16 32) : Prop :=
  (∀ a x, ((![v1249] : Fin 1 → IVec S16 32) a x).toNat < S6144.size a)
theorem k0_idx295_inb : ∀ (v1249 : IVec S16 32) (k0_hw295 : k0_chk295 v1249), ∀ a x, ((![v1249] : Fin 1 → IVec S16 32) a x).toNat < S6144.size a := fun v1249 k0_hw295 => k0_hw295

def k0_chk296 (v1253 : IVec S16 32) : Prop :=
  (∀ a x, ((![v1253] : Fin 1 → IVec S16 32) a x).toNat < S6144.size a)
theorem k0_idx296_inb : ∀ (v1253 : IVec S16 32) (k0_hw296 : k0_chk296 v1253), ∀ a x, ((![v1253] : Fin 1 → IVec S16 32) a x).toNat < S6144.size a := fun v1253 k0_hw296 => k0_hw296

def k0_chk297 (v1257 : IVec S16 32) : Prop :=
  (∀ a x, ((![v1257] : Fin 1 → IVec S16 32) a x).toNat < S6144.size a)
theorem k0_idx297_inb : ∀ (v1257 : IVec S16 32) (k0_hw297 : k0_chk297 v1257), ∀ a x, ((![v1257] : Fin 1 → IVec S16 32) a x).toNat < S6144.size a := fun v1257 k0_hw297 => k0_hw297

def k0_chk298 (v1261 : IVec S16 32) : Prop :=
  (∀ a x, ((![v1261] : Fin 1 → IVec S16 32) a x).toNat < S6144.size a)
theorem k0_idx298_inb : ∀ (v1261 : IVec S16 32) (k0_hw298 : k0_chk298 v1261), ∀ a x, ((![v1261] : Fin 1 → IVec S16 32) a x).toNat < S6144.size a := fun v1261 k0_hw298 => k0_hw298

def k0_chk299 (v1265 : IVec S16 32) : Prop :=
  (∀ a x, ((![v1265] : Fin 1 → IVec S16 32) a x).toNat < S6144.size a)
theorem k0_idx299_inb : ∀ (v1265 : IVec S16 32) (k0_hw299 : k0_chk299 v1265), ∀ a x, ((![v1265] : Fin 1 → IVec S16 32) a x).toNat < S6144.size a := fun v1265 k0_hw299 => k0_hw299

def k0_chk300 (v1269 : IVec S16 32) : Prop :=
  (∀ a x, ((![v1269] : Fin 1 → IVec S16 32) a x).toNat < S6144.size a)
theorem k0_idx300_inb : ∀ (v1269 : IVec S16 32) (k0_hw300 : k0_chk300 v1269), ∀ a x, ((![v1269] : Fin 1 → IVec S16 32) a x).toNat < S6144.size a := fun v1269 k0_hw300 => k0_hw300

def k0_chk301 (v1274 : IVec S16 32) : Prop :=
  (∀ a x, ((![v1274] : Fin 1 → IVec S16 32) a x).toNat < S6144.size a)
theorem k0_idx301_inb : ∀ (v1274 : IVec S16 32) (k0_hw301 : k0_chk301 v1274), ∀ a x, ((![v1274] : Fin 1 → IVec S16 32) a x).toNat < S6144.size a := fun v1274 k0_hw301 => k0_hw301

def k0_chk302 (v1278 : IVec S16 32) : Prop :=
  (∀ a x, ((![v1278] : Fin 1 → IVec S16 32) a x).toNat < S6144.size a)
theorem k0_idx302_inb : ∀ (v1278 : IVec S16 32) (k0_hw302 : k0_chk302 v1278), ∀ a x, ((![v1278] : Fin 1 → IVec S16 32) a x).toNat < S6144.size a := fun v1278 k0_hw302 => k0_hw302

def k0_chk303 (v1282 : IVec S16 32) : Prop :=
  (∀ a x, ((![v1282] : Fin 1 → IVec S16 32) a x).toNat < S6144.size a)
theorem k0_idx303_inb : ∀ (v1282 : IVec S16 32) (k0_hw303 : k0_chk303 v1282), ∀ a x, ((![v1282] : Fin 1 → IVec S16 32) a x).toNat < S6144.size a := fun v1282 k0_hw303 => k0_hw303

def k0_chk304 (v1286 : IVec S16 32) : Prop :=
  (∀ a x, ((![v1286] : Fin 1 → IVec S16 32) a x).toNat < S6144.size a)
theorem k0_idx304_inb : ∀ (v1286 : IVec S16 32) (k0_hw304 : k0_chk304 v1286), ∀ a x, ((![v1286] : Fin 1 → IVec S16 32) a x).toNat < S6144.size a := fun v1286 k0_hw304 => k0_hw304

def k0_chk305 (v1290 : IVec S16 32) : Prop :=
  (∀ a x, ((![v1290] : Fin 1 → IVec S16 32) a x).toNat < S6144.size a)
theorem k0_idx305_inb : ∀ (v1290 : IVec S16 32) (k0_hw305 : k0_chk305 v1290), ∀ a x, ((![v1290] : Fin 1 → IVec S16 32) a x).toNat < S6144.size a := fun v1290 k0_hw305 => k0_hw305

def k0_chk306 (v1294 : IVec S16 32) : Prop :=
  (∀ a x, ((![v1294] : Fin 1 → IVec S16 32) a x).toNat < S6144.size a)
theorem k0_idx306_inb : ∀ (v1294 : IVec S16 32) (k0_hw306 : k0_chk306 v1294), ∀ a x, ((![v1294] : Fin 1 → IVec S16 32) a x).toNat < S6144.size a := fun v1294 k0_hw306 => k0_hw306

def k0_chk307 (v1298 : IVec S16 32) : Prop :=
  (∀ a x, ((![v1298] : Fin 1 → IVec S16 32) a x).toNat < S6144.size a)
theorem k0_idx307_inb : ∀ (v1298 : IVec S16 32) (k0_hw307 : k0_chk307 v1298), ∀ a x, ((![v1298] : Fin 1 → IVec S16 32) a x).toNat < S6144.size a := fun v1298 k0_hw307 => k0_hw307

def k0_chk308 (v1302 : IVec S16 32) : Prop :=
  (∀ a x, ((![v1302] : Fin 1 → IVec S16 32) a x).toNat < S6144.size a)
theorem k0_idx308_inb : ∀ (v1302 : IVec S16 32) (k0_hw308 : k0_chk308 v1302), ∀ a x, ((![v1302] : Fin 1 → IVec S16 32) a x).toNat < S6144.size a := fun v1302 k0_hw308 => k0_hw308

def k0_chk309 (v1306 : IVec S16 32) : Prop :=
  (∀ a x, ((![v1306] : Fin 1 → IVec S16 32) a x).toNat < S6144.size a)
theorem k0_idx309_inb : ∀ (v1306 : IVec S16 32) (k0_hw309 : k0_chk309 v1306), ∀ a x, ((![v1306] : Fin 1 → IVec S16 32) a x).toNat < S6144.size a := fun v1306 k0_hw309 => k0_hw309

def k0_chk310 (v1310 : IVec S16 32) : Prop :=
  (∀ a x, ((![v1310] : Fin 1 → IVec S16 32) a x).toNat < S6144.size a)
theorem k0_idx310_inb : ∀ (v1310 : IVec S16 32) (k0_hw310 : k0_chk310 v1310), ∀ a x, ((![v1310] : Fin 1 → IVec S16 32) a x).toNat < S6144.size a := fun v1310 k0_hw310 => k0_hw310

def k0_chk311 (v1314 : IVec S16 32) : Prop :=
  (∀ a x, ((![v1314] : Fin 1 → IVec S16 32) a x).toNat < S6144.size a)
theorem k0_idx311_inb : ∀ (v1314 : IVec S16 32) (k0_hw311 : k0_chk311 v1314), ∀ a x, ((![v1314] : Fin 1 → IVec S16 32) a x).toNat < S6144.size a := fun v1314 k0_hw311 => k0_hw311

def k0_chk312 (v1318 : IVec S16 32) : Prop :=
  (∀ a x, ((![v1318] : Fin 1 → IVec S16 32) a x).toNat < S6144.size a)
theorem k0_idx312_inb : ∀ (v1318 : IVec S16 32) (k0_hw312 : k0_chk312 v1318), ∀ a x, ((![v1318] : Fin 1 → IVec S16 32) a x).toNat < S6144.size a := fun v1318 k0_hw312 => k0_hw312

def k0_chk313 (v1322 : IVec S16 32) : Prop :=
  (∀ a x, ((![v1322] : Fin 1 → IVec S16 32) a x).toNat < S6144.size a)
theorem k0_idx313_inb : ∀ (v1322 : IVec S16 32) (k0_hw313 : k0_chk313 v1322), ∀ a x, ((![v1322] : Fin 1 → IVec S16 32) a x).toNat < S6144.size a := fun v1322 k0_hw313 => k0_hw313

def k0_chk314 (v1326 : IVec S16 32) : Prop :=
  (∀ a x, ((![v1326] : Fin 1 → IVec S16 32) a x).toNat < S6144.size a)
theorem k0_idx314_inb : ∀ (v1326 : IVec S16 32) (k0_hw314 : k0_chk314 v1326), ∀ a x, ((![v1326] : Fin 1 → IVec S16 32) a x).toNat < S6144.size a := fun v1326 k0_hw314 => k0_hw314

def k0_chk315 (v1330 : IVec S16 32) : Prop :=
  (∀ a x, ((![v1330] : Fin 1 → IVec S16 32) a x).toNat < S6144.size a)
theorem k0_idx315_inb : ∀ (v1330 : IVec S16 32) (k0_hw315 : k0_chk315 v1330), ∀ a x, ((![v1330] : Fin 1 → IVec S16 32) a x).toNat < S6144.size a := fun v1330 k0_hw315 => k0_hw315

def k0_chk316 (v1334 : IVec S16 32) : Prop :=
  (∀ a x, ((![v1334] : Fin 1 → IVec S16 32) a x).toNat < S6144.size a)
theorem k0_idx316_inb : ∀ (v1334 : IVec S16 32) (k0_hw316 : k0_chk316 v1334), ∀ a x, ((![v1334] : Fin 1 → IVec S16 32) a x).toNat < S6144.size a := fun v1334 k0_hw316 => k0_hw316

def k0_chk317 (v1339 : IVec S16 32) : Prop :=
  (∀ a x, ((![v1339] : Fin 1 → IVec S16 32) a x).toNat < S6144.size a)
theorem k0_idx317_inb : ∀ (v1339 : IVec S16 32) (k0_hw317 : k0_chk317 v1339), ∀ a x, ((![v1339] : Fin 1 → IVec S16 32) a x).toNat < S6144.size a := fun v1339 k0_hw317 => k0_hw317

def k0_chk318 (v1343 : IVec S16 32) : Prop :=
  (∀ a x, ((![v1343] : Fin 1 → IVec S16 32) a x).toNat < S6144.size a)
theorem k0_idx318_inb : ∀ (v1343 : IVec S16 32) (k0_hw318 : k0_chk318 v1343), ∀ a x, ((![v1343] : Fin 1 → IVec S16 32) a x).toNat < S6144.size a := fun v1343 k0_hw318 => k0_hw318

def k0_chk319 (v1347 : IVec S16 32) : Prop :=
  (∀ a x, ((![v1347] : Fin 1 → IVec S16 32) a x).toNat < S6144.size a)
theorem k0_idx319_inb : ∀ (v1347 : IVec S16 32) (k0_hw319 : k0_chk319 v1347), ∀ a x, ((![v1347] : Fin 1 → IVec S16 32) a x).toNat < S6144.size a := fun v1347 k0_hw319 => k0_hw319

def k0_chk320 (v1351 : IVec S16 32) : Prop :=
  (∀ a x, ((![v1351] : Fin 1 → IVec S16 32) a x).toNat < S6144.size a)
theorem k0_idx320_inb : ∀ (v1351 : IVec S16 32) (k0_hw320 : k0_chk320 v1351), ∀ a x, ((![v1351] : Fin 1 → IVec S16 32) a x).toNat < S6144.size a := fun v1351 k0_hw320 => k0_hw320

def k0_chk321 (v1355 : IVec S16 32) : Prop :=
  (∀ a x, ((![v1355] : Fin 1 → IVec S16 32) a x).toNat < S6144.size a)
theorem k0_idx321_inb : ∀ (v1355 : IVec S16 32) (k0_hw321 : k0_chk321 v1355), ∀ a x, ((![v1355] : Fin 1 → IVec S16 32) a x).toNat < S6144.size a := fun v1355 k0_hw321 => k0_hw321

def k0_chk322 (v1359 : IVec S16 32) : Prop :=
  (∀ a x, ((![v1359] : Fin 1 → IVec S16 32) a x).toNat < S6144.size a)
theorem k0_idx322_inb : ∀ (v1359 : IVec S16 32) (k0_hw322 : k0_chk322 v1359), ∀ a x, ((![v1359] : Fin 1 → IVec S16 32) a x).toNat < S6144.size a := fun v1359 k0_hw322 => k0_hw322

def k0_chk323 (v1363 : IVec S16 32) : Prop :=
  (∀ a x, ((![v1363] : Fin 1 → IVec S16 32) a x).toNat < S6144.size a)
theorem k0_idx323_inb : ∀ (v1363 : IVec S16 32) (k0_hw323 : k0_chk323 v1363), ∀ a x, ((![v1363] : Fin 1 → IVec S16 32) a x).toNat < S6144.size a := fun v1363 k0_hw323 => k0_hw323

def k0_chk324 (v1367 : IVec S16 32) : Prop :=
  (∀ a x, ((![v1367] : Fin 1 → IVec S16 32) a x).toNat < S6144.size a)
theorem k0_idx324_inb : ∀ (v1367 : IVec S16 32) (k0_hw324 : k0_chk324 v1367), ∀ a x, ((![v1367] : Fin 1 → IVec S16 32) a x).toNat < S6144.size a := fun v1367 k0_hw324 => k0_hw324

def k0_chk325 (v1371 : IVec S16 32) : Prop :=
  (∀ a x, ((![v1371] : Fin 1 → IVec S16 32) a x).toNat < S6144.size a)
theorem k0_idx325_inb : ∀ (v1371 : IVec S16 32) (k0_hw325 : k0_chk325 v1371), ∀ a x, ((![v1371] : Fin 1 → IVec S16 32) a x).toNat < S6144.size a := fun v1371 k0_hw325 => k0_hw325

def k0_chk326 (v1375 : IVec S16 32) : Prop :=
  (∀ a x, ((![v1375] : Fin 1 → IVec S16 32) a x).toNat < S6144.size a)
theorem k0_idx326_inb : ∀ (v1375 : IVec S16 32) (k0_hw326 : k0_chk326 v1375), ∀ a x, ((![v1375] : Fin 1 → IVec S16 32) a x).toNat < S6144.size a := fun v1375 k0_hw326 => k0_hw326

def k0_chk327 (v1379 : IVec S16 32) : Prop :=
  (∀ a x, ((![v1379] : Fin 1 → IVec S16 32) a x).toNat < S6144.size a)
theorem k0_idx327_inb : ∀ (v1379 : IVec S16 32) (k0_hw327 : k0_chk327 v1379), ∀ a x, ((![v1379] : Fin 1 → IVec S16 32) a x).toNat < S6144.size a := fun v1379 k0_hw327 => k0_hw327

def k0_chk328 (v1383 : IVec S16 32) : Prop :=
  (∀ a x, ((![v1383] : Fin 1 → IVec S16 32) a x).toNat < S6144.size a)
theorem k0_idx328_inb : ∀ (v1383 : IVec S16 32) (k0_hw328 : k0_chk328 v1383), ∀ a x, ((![v1383] : Fin 1 → IVec S16 32) a x).toNat < S6144.size a := fun v1383 k0_hw328 => k0_hw328

def k0_chk329 (v1387 : IVec S16 32) : Prop :=
  (∀ a x, ((![v1387] : Fin 1 → IVec S16 32) a x).toNat < S6144.size a)
theorem k0_idx329_inb : ∀ (v1387 : IVec S16 32) (k0_hw329 : k0_chk329 v1387), ∀ a x, ((![v1387] : Fin 1 → IVec S16 32) a x).toNat < S6144.size a := fun v1387 k0_hw329 => k0_hw329

def k0_chk330 (v1391 : IVec S16 32) : Prop :=
  (∀ a x, ((![v1391] : Fin 1 → IVec S16 32) a x).toNat < S6144.size a)
theorem k0_idx330_inb : ∀ (v1391 : IVec S16 32) (k0_hw330 : k0_chk330 v1391), ∀ a x, ((![v1391] : Fin 1 → IVec S16 32) a x).toNat < S6144.size a := fun v1391 k0_hw330 => k0_hw330

def k0_chk331 (v1395 : IVec S16 32) : Prop :=
  (∀ a x, ((![v1395] : Fin 1 → IVec S16 32) a x).toNat < S6144.size a)
theorem k0_idx331_inb : ∀ (v1395 : IVec S16 32) (k0_hw331 : k0_chk331 v1395), ∀ a x, ((![v1395] : Fin 1 → IVec S16 32) a x).toNat < S6144.size a := fun v1395 k0_hw331 => k0_hw331

def k0_chk332 (v1399 : IVec S16 32) : Prop :=
  (∀ a x, ((![v1399] : Fin 1 → IVec S16 32) a x).toNat < S6144.size a)
theorem k0_idx332_inb : ∀ (v1399 : IVec S16 32) (k0_hw332 : k0_chk332 v1399), ∀ a x, ((![v1399] : Fin 1 → IVec S16 32) a x).toNat < S6144.size a := fun v1399 k0_hw332 => k0_hw332

def k0_chk333 (v1404 : IVec S16 32) : Prop :=
  (∀ a x, ((![v1404] : Fin 1 → IVec S16 32) a x).toNat < S6144.size a)
theorem k0_idx333_inb : ∀ (v1404 : IVec S16 32) (k0_hw333 : k0_chk333 v1404), ∀ a x, ((![v1404] : Fin 1 → IVec S16 32) a x).toNat < S6144.size a := fun v1404 k0_hw333 => k0_hw333

def k0_chk334 (v1408 : IVec S16 32) : Prop :=
  (∀ a x, ((![v1408] : Fin 1 → IVec S16 32) a x).toNat < S6144.size a)
theorem k0_idx334_inb : ∀ (v1408 : IVec S16 32) (k0_hw334 : k0_chk334 v1408), ∀ a x, ((![v1408] : Fin 1 → IVec S16 32) a x).toNat < S6144.size a := fun v1408 k0_hw334 => k0_hw334

def k0_chk335 (v1412 : IVec S16 32) : Prop :=
  (∀ a x, ((![v1412] : Fin 1 → IVec S16 32) a x).toNat < S6144.size a)
theorem k0_idx335_inb : ∀ (v1412 : IVec S16 32) (k0_hw335 : k0_chk335 v1412), ∀ a x, ((![v1412] : Fin 1 → IVec S16 32) a x).toNat < S6144.size a := fun v1412 k0_hw335 => k0_hw335

def k0_chk336 (v1416 : IVec S16 32) : Prop :=
  (∀ a x, ((![v1416] : Fin 1 → IVec S16 32) a x).toNat < S6144.size a)
theorem k0_idx336_inb : ∀ (v1416 : IVec S16 32) (k0_hw336 : k0_chk336 v1416), ∀ a x, ((![v1416] : Fin 1 → IVec S16 32) a x).toNat < S6144.size a := fun v1416 k0_hw336 => k0_hw336

def k0_chk337 (v1420 : IVec S16 32) : Prop :=
  (∀ a x, ((![v1420] : Fin 1 → IVec S16 32) a x).toNat < S6144.size a)
theorem k0_idx337_inb : ∀ (v1420 : IVec S16 32) (k0_hw337 : k0_chk337 v1420), ∀ a x, ((![v1420] : Fin 1 → IVec S16 32) a x).toNat < S6144.size a := fun v1420 k0_hw337 => k0_hw337

def k0_chk338 (v1424 : IVec S16 32) : Prop :=
  (∀ a x, ((![v1424] : Fin 1 → IVec S16 32) a x).toNat < S6144.size a)
theorem k0_idx338_inb : ∀ (v1424 : IVec S16 32) (k0_hw338 : k0_chk338 v1424), ∀ a x, ((![v1424] : Fin 1 → IVec S16 32) a x).toNat < S6144.size a := fun v1424 k0_hw338 => k0_hw338

def k0_chk339 (v1428 : IVec S16 32) : Prop :=
  (∀ a x, ((![v1428] : Fin 1 → IVec S16 32) a x).toNat < S6144.size a)
theorem k0_idx339_inb : ∀ (v1428 : IVec S16 32) (k0_hw339 : k0_chk339 v1428), ∀ a x, ((![v1428] : Fin 1 → IVec S16 32) a x).toNat < S6144.size a := fun v1428 k0_hw339 => k0_hw339

def k0_chk340 (v1432 : IVec S16 32) : Prop :=
  (∀ a x, ((![v1432] : Fin 1 → IVec S16 32) a x).toNat < S6144.size a)
theorem k0_idx340_inb : ∀ (v1432 : IVec S16 32) (k0_hw340 : k0_chk340 v1432), ∀ a x, ((![v1432] : Fin 1 → IVec S16 32) a x).toNat < S6144.size a := fun v1432 k0_hw340 => k0_hw340

def k0_chk341 (v1436 : IVec S16 32) : Prop :=
  (∀ a x, ((![v1436] : Fin 1 → IVec S16 32) a x).toNat < S6144.size a)
theorem k0_idx341_inb : ∀ (v1436 : IVec S16 32) (k0_hw341 : k0_chk341 v1436), ∀ a x, ((![v1436] : Fin 1 → IVec S16 32) a x).toNat < S6144.size a := fun v1436 k0_hw341 => k0_hw341

def k0_chk342 (v1440 : IVec S16 32) : Prop :=
  (∀ a x, ((![v1440] : Fin 1 → IVec S16 32) a x).toNat < S6144.size a)
theorem k0_idx342_inb : ∀ (v1440 : IVec S16 32) (k0_hw342 : k0_chk342 v1440), ∀ a x, ((![v1440] : Fin 1 → IVec S16 32) a x).toNat < S6144.size a := fun v1440 k0_hw342 => k0_hw342

def k0_chk343 (v1444 : IVec S16 32) : Prop :=
  (∀ a x, ((![v1444] : Fin 1 → IVec S16 32) a x).toNat < S6144.size a)
theorem k0_idx343_inb : ∀ (v1444 : IVec S16 32) (k0_hw343 : k0_chk343 v1444), ∀ a x, ((![v1444] : Fin 1 → IVec S16 32) a x).toNat < S6144.size a := fun v1444 k0_hw343 => k0_hw343

def k0_chk344 (v1448 : IVec S16 32) : Prop :=
  (∀ a x, ((![v1448] : Fin 1 → IVec S16 32) a x).toNat < S6144.size a)
theorem k0_idx344_inb : ∀ (v1448 : IVec S16 32) (k0_hw344 : k0_chk344 v1448), ∀ a x, ((![v1448] : Fin 1 → IVec S16 32) a x).toNat < S6144.size a := fun v1448 k0_hw344 => k0_hw344

def k0_chk345 (v1452 : IVec S16 32) : Prop :=
  (∀ a x, ((![v1452] : Fin 1 → IVec S16 32) a x).toNat < S6144.size a)
theorem k0_idx345_inb : ∀ (v1452 : IVec S16 32) (k0_hw345 : k0_chk345 v1452), ∀ a x, ((![v1452] : Fin 1 → IVec S16 32) a x).toNat < S6144.size a := fun v1452 k0_hw345 => k0_hw345

def k0_chk346 (v1456 : IVec S16 32) : Prop :=
  (∀ a x, ((![v1456] : Fin 1 → IVec S16 32) a x).toNat < S6144.size a)
theorem k0_idx346_inb : ∀ (v1456 : IVec S16 32) (k0_hw346 : k0_chk346 v1456), ∀ a x, ((![v1456] : Fin 1 → IVec S16 32) a x).toNat < S6144.size a := fun v1456 k0_hw346 => k0_hw346

def k0_chk347 (v1460 : IVec S16 32) : Prop :=
  (∀ a x, ((![v1460] : Fin 1 → IVec S16 32) a x).toNat < S6144.size a)
theorem k0_idx347_inb : ∀ (v1460 : IVec S16 32) (k0_hw347 : k0_chk347 v1460), ∀ a x, ((![v1460] : Fin 1 → IVec S16 32) a x).toNat < S6144.size a := fun v1460 k0_hw347 => k0_hw347

def k0_chk348 (v1464 : IVec S16 32) : Prop :=
  (∀ a x, ((![v1464] : Fin 1 → IVec S16 32) a x).toNat < S6144.size a)
theorem k0_idx348_inb : ∀ (v1464 : IVec S16 32) (k0_hw348 : k0_chk348 v1464), ∀ a x, ((![v1464] : Fin 1 → IVec S16 32) a x).toNat < S6144.size a := fun v1464 k0_hw348 => k0_hw348

def k0_chk349 (v1469 : IVec S16 32) : Prop :=
  (∀ a x, ((![v1469] : Fin 1 → IVec S16 32) a x).toNat < S6144.size a)
theorem k0_idx349_inb : ∀ (v1469 : IVec S16 32) (k0_hw349 : k0_chk349 v1469), ∀ a x, ((![v1469] : Fin 1 → IVec S16 32) a x).toNat < S6144.size a := fun v1469 k0_hw349 => k0_hw349

def k0_chk350 (v1473 : IVec S16 32) : Prop :=
  (∀ a x, ((![v1473] : Fin 1 → IVec S16 32) a x).toNat < S6144.size a)
theorem k0_idx350_inb : ∀ (v1473 : IVec S16 32) (k0_hw350 : k0_chk350 v1473), ∀ a x, ((![v1473] : Fin 1 → IVec S16 32) a x).toNat < S6144.size a := fun v1473 k0_hw350 => k0_hw350

def k0_chk351 (v1477 : IVec S16 32) : Prop :=
  (∀ a x, ((![v1477] : Fin 1 → IVec S16 32) a x).toNat < S6144.size a)
theorem k0_idx351_inb : ∀ (v1477 : IVec S16 32) (k0_hw351 : k0_chk351 v1477), ∀ a x, ((![v1477] : Fin 1 → IVec S16 32) a x).toNat < S6144.size a := fun v1477 k0_hw351 => k0_hw351

def k0_chk352 (v1481 : IVec S16 32) : Prop :=
  (∀ a x, ((![v1481] : Fin 1 → IVec S16 32) a x).toNat < S6144.size a)
theorem k0_idx352_inb : ∀ (v1481 : IVec S16 32) (k0_hw352 : k0_chk352 v1481), ∀ a x, ((![v1481] : Fin 1 → IVec S16 32) a x).toNat < S6144.size a := fun v1481 k0_hw352 => k0_hw352

def k0_chk353 (v1485 : IVec S16 32) : Prop :=
  (∀ a x, ((![v1485] : Fin 1 → IVec S16 32) a x).toNat < S6144.size a)
theorem k0_idx353_inb : ∀ (v1485 : IVec S16 32) (k0_hw353 : k0_chk353 v1485), ∀ a x, ((![v1485] : Fin 1 → IVec S16 32) a x).toNat < S6144.size a := fun v1485 k0_hw353 => k0_hw353

def k0_chk354 (v1489 : IVec S16 32) : Prop :=
  (∀ a x, ((![v1489] : Fin 1 → IVec S16 32) a x).toNat < S6144.size a)
theorem k0_idx354_inb : ∀ (v1489 : IVec S16 32) (k0_hw354 : k0_chk354 v1489), ∀ a x, ((![v1489] : Fin 1 → IVec S16 32) a x).toNat < S6144.size a := fun v1489 k0_hw354 => k0_hw354

def k0_chk355 (v1493 : IVec S16 32) : Prop :=
  (∀ a x, ((![v1493] : Fin 1 → IVec S16 32) a x).toNat < S6144.size a)
theorem k0_idx355_inb : ∀ (v1493 : IVec S16 32) (k0_hw355 : k0_chk355 v1493), ∀ a x, ((![v1493] : Fin 1 → IVec S16 32) a x).toNat < S6144.size a := fun v1493 k0_hw355 => k0_hw355

def k0_chk356 (v1497 : IVec S16 32) : Prop :=
  (∀ a x, ((![v1497] : Fin 1 → IVec S16 32) a x).toNat < S6144.size a)
theorem k0_idx356_inb : ∀ (v1497 : IVec S16 32) (k0_hw356 : k0_chk356 v1497), ∀ a x, ((![v1497] : Fin 1 → IVec S16 32) a x).toNat < S6144.size a := fun v1497 k0_hw356 => k0_hw356

def k0_chk357 (v1501 : IVec S16 32) : Prop :=
  (∀ a x, ((![v1501] : Fin 1 → IVec S16 32) a x).toNat < S6144.size a)
theorem k0_idx357_inb : ∀ (v1501 : IVec S16 32) (k0_hw357 : k0_chk357 v1501), ∀ a x, ((![v1501] : Fin 1 → IVec S16 32) a x).toNat < S6144.size a := fun v1501 k0_hw357 => k0_hw357

def k0_chk358 (v1505 : IVec S16 32) : Prop :=
  (∀ a x, ((![v1505] : Fin 1 → IVec S16 32) a x).toNat < S6144.size a)
theorem k0_idx358_inb : ∀ (v1505 : IVec S16 32) (k0_hw358 : k0_chk358 v1505), ∀ a x, ((![v1505] : Fin 1 → IVec S16 32) a x).toNat < S6144.size a := fun v1505 k0_hw358 => k0_hw358

def k0_chk359 (v1509 : IVec S16 32) : Prop :=
  (∀ a x, ((![v1509] : Fin 1 → IVec S16 32) a x).toNat < S6144.size a)
theorem k0_idx359_inb : ∀ (v1509 : IVec S16 32) (k0_hw359 : k0_chk359 v1509), ∀ a x, ((![v1509] : Fin 1 → IVec S16 32) a x).toNat < S6144.size a := fun v1509 k0_hw359 => k0_hw359

def k0_chk360 (v1513 : IVec S16 32) : Prop :=
  (∀ a x, ((![v1513] : Fin 1 → IVec S16 32) a x).toNat < S6144.size a)
theorem k0_idx360_inb : ∀ (v1513 : IVec S16 32) (k0_hw360 : k0_chk360 v1513), ∀ a x, ((![v1513] : Fin 1 → IVec S16 32) a x).toNat < S6144.size a := fun v1513 k0_hw360 => k0_hw360

def k0_chk361 (v1517 : IVec S16 32) : Prop :=
  (∀ a x, ((![v1517] : Fin 1 → IVec S16 32) a x).toNat < S6144.size a)
theorem k0_idx361_inb : ∀ (v1517 : IVec S16 32) (k0_hw361 : k0_chk361 v1517), ∀ a x, ((![v1517] : Fin 1 → IVec S16 32) a x).toNat < S6144.size a := fun v1517 k0_hw361 => k0_hw361

def k0_chk362 (v1521 : IVec S16 32) : Prop :=
  (∀ a x, ((![v1521] : Fin 1 → IVec S16 32) a x).toNat < S6144.size a)
theorem k0_idx362_inb : ∀ (v1521 : IVec S16 32) (k0_hw362 : k0_chk362 v1521), ∀ a x, ((![v1521] : Fin 1 → IVec S16 32) a x).toNat < S6144.size a := fun v1521 k0_hw362 => k0_hw362

def k0_chk363 (v1525 : IVec S16 32) : Prop :=
  (∀ a x, ((![v1525] : Fin 1 → IVec S16 32) a x).toNat < S6144.size a)
theorem k0_idx363_inb : ∀ (v1525 : IVec S16 32) (k0_hw363 : k0_chk363 v1525), ∀ a x, ((![v1525] : Fin 1 → IVec S16 32) a x).toNat < S6144.size a := fun v1525 k0_hw363 => k0_hw363

def k0_chk364 (v1529 : IVec S16 32) : Prop :=
  (∀ a x, ((![v1529] : Fin 1 → IVec S16 32) a x).toNat < S6144.size a)
theorem k0_idx364_inb : ∀ (v1529 : IVec S16 32) (k0_hw364 : k0_chk364 v1529), ∀ a x, ((![v1529] : Fin 1 → IVec S16 32) a x).toNat < S6144.size a := fun v1529 k0_hw364 => k0_hw364

def k0_chk365 (v1534 : IVec S16 32) : Prop :=
  (∀ a x, ((![v1534] : Fin 1 → IVec S16 32) a x).toNat < S6144.size a)
theorem k0_idx365_inb : ∀ (v1534 : IVec S16 32) (k0_hw365 : k0_chk365 v1534), ∀ a x, ((![v1534] : Fin 1 → IVec S16 32) a x).toNat < S6144.size a := fun v1534 k0_hw365 => k0_hw365

def k0_chk366 (v1538 : IVec S16 32) : Prop :=
  (∀ a x, ((![v1538] : Fin 1 → IVec S16 32) a x).toNat < S6144.size a)
theorem k0_idx366_inb : ∀ (v1538 : IVec S16 32) (k0_hw366 : k0_chk366 v1538), ∀ a x, ((![v1538] : Fin 1 → IVec S16 32) a x).toNat < S6144.size a := fun v1538 k0_hw366 => k0_hw366

def k0_chk367 (v1542 : IVec S16 32) : Prop :=
  (∀ a x, ((![v1542] : Fin 1 → IVec S16 32) a x).toNat < S6144.size a)
theorem k0_idx367_inb : ∀ (v1542 : IVec S16 32) (k0_hw367 : k0_chk367 v1542), ∀ a x, ((![v1542] : Fin 1 → IVec S16 32) a x).toNat < S6144.size a := fun v1542 k0_hw367 => k0_hw367

def k0_chk368 (v1546 : IVec S16 32) : Prop :=
  (∀ a x, ((![v1546] : Fin 1 → IVec S16 32) a x).toNat < S6144.size a)
theorem k0_idx368_inb : ∀ (v1546 : IVec S16 32) (k0_hw368 : k0_chk368 v1546), ∀ a x, ((![v1546] : Fin 1 → IVec S16 32) a x).toNat < S6144.size a := fun v1546 k0_hw368 => k0_hw368

def k0_chk369 (v1550 : IVec S16 32) : Prop :=
  (∀ a x, ((![v1550] : Fin 1 → IVec S16 32) a x).toNat < S6144.size a)
theorem k0_idx369_inb : ∀ (v1550 : IVec S16 32) (k0_hw369 : k0_chk369 v1550), ∀ a x, ((![v1550] : Fin 1 → IVec S16 32) a x).toNat < S6144.size a := fun v1550 k0_hw369 => k0_hw369

def k0_chk370 (v1554 : IVec S16 32) : Prop :=
  (∀ a x, ((![v1554] : Fin 1 → IVec S16 32) a x).toNat < S6144.size a)
theorem k0_idx370_inb : ∀ (v1554 : IVec S16 32) (k0_hw370 : k0_chk370 v1554), ∀ a x, ((![v1554] : Fin 1 → IVec S16 32) a x).toNat < S6144.size a := fun v1554 k0_hw370 => k0_hw370

def k0_chk371 (v1558 : IVec S16 32) : Prop :=
  (∀ a x, ((![v1558] : Fin 1 → IVec S16 32) a x).toNat < S6144.size a)
theorem k0_idx371_inb : ∀ (v1558 : IVec S16 32) (k0_hw371 : k0_chk371 v1558), ∀ a x, ((![v1558] : Fin 1 → IVec S16 32) a x).toNat < S6144.size a := fun v1558 k0_hw371 => k0_hw371

def k0_chk372 (v1562 : IVec S16 32) : Prop :=
  (∀ a x, ((![v1562] : Fin 1 → IVec S16 32) a x).toNat < S6144.size a)
theorem k0_idx372_inb : ∀ (v1562 : IVec S16 32) (k0_hw372 : k0_chk372 v1562), ∀ a x, ((![v1562] : Fin 1 → IVec S16 32) a x).toNat < S6144.size a := fun v1562 k0_hw372 => k0_hw372

def k0_chk373 (v1566 : IVec S16 32) : Prop :=
  (∀ a x, ((![v1566] : Fin 1 → IVec S16 32) a x).toNat < S6144.size a)
theorem k0_idx373_inb : ∀ (v1566 : IVec S16 32) (k0_hw373 : k0_chk373 v1566), ∀ a x, ((![v1566] : Fin 1 → IVec S16 32) a x).toNat < S6144.size a := fun v1566 k0_hw373 => k0_hw373

def k0_chk374 (v1570 : IVec S16 32) : Prop :=
  (∀ a x, ((![v1570] : Fin 1 → IVec S16 32) a x).toNat < S6144.size a)
theorem k0_idx374_inb : ∀ (v1570 : IVec S16 32) (k0_hw374 : k0_chk374 v1570), ∀ a x, ((![v1570] : Fin 1 → IVec S16 32) a x).toNat < S6144.size a := fun v1570 k0_hw374 => k0_hw374

def k0_chk375 (v1574 : IVec S16 32) : Prop :=
  (∀ a x, ((![v1574] : Fin 1 → IVec S16 32) a x).toNat < S6144.size a)
theorem k0_idx375_inb : ∀ (v1574 : IVec S16 32) (k0_hw375 : k0_chk375 v1574), ∀ a x, ((![v1574] : Fin 1 → IVec S16 32) a x).toNat < S6144.size a := fun v1574 k0_hw375 => k0_hw375

def k0_chk376 (v1578 : IVec S16 32) : Prop :=
  (∀ a x, ((![v1578] : Fin 1 → IVec S16 32) a x).toNat < S6144.size a)
theorem k0_idx376_inb : ∀ (v1578 : IVec S16 32) (k0_hw376 : k0_chk376 v1578), ∀ a x, ((![v1578] : Fin 1 → IVec S16 32) a x).toNat < S6144.size a := fun v1578 k0_hw376 => k0_hw376

def k0_chk377 (v1582 : IVec S16 32) : Prop :=
  (∀ a x, ((![v1582] : Fin 1 → IVec S16 32) a x).toNat < S6144.size a)
theorem k0_idx377_inb : ∀ (v1582 : IVec S16 32) (k0_hw377 : k0_chk377 v1582), ∀ a x, ((![v1582] : Fin 1 → IVec S16 32) a x).toNat < S6144.size a := fun v1582 k0_hw377 => k0_hw377

def k0_chk378 (v1586 : IVec S16 32) : Prop :=
  (∀ a x, ((![v1586] : Fin 1 → IVec S16 32) a x).toNat < S6144.size a)
theorem k0_idx378_inb : ∀ (v1586 : IVec S16 32) (k0_hw378 : k0_chk378 v1586), ∀ a x, ((![v1586] : Fin 1 → IVec S16 32) a x).toNat < S6144.size a := fun v1586 k0_hw378 => k0_hw378

def k0_chk379 (v1590 : IVec S16 32) : Prop :=
  (∀ a x, ((![v1590] : Fin 1 → IVec S16 32) a x).toNat < S6144.size a)
theorem k0_idx379_inb : ∀ (v1590 : IVec S16 32) (k0_hw379 : k0_chk379 v1590), ∀ a x, ((![v1590] : Fin 1 → IVec S16 32) a x).toNat < S6144.size a := fun v1590 k0_hw379 => k0_hw379

def k0_chk380 (v1594 : IVec S16 32) : Prop :=
  (∀ a x, ((![v1594] : Fin 1 → IVec S16 32) a x).toNat < S6144.size a)
theorem k0_idx380_inb : ∀ (v1594 : IVec S16 32) (k0_hw380 : k0_chk380 v1594), ∀ a x, ((![v1594] : Fin 1 → IVec S16 32) a x).toNat < S6144.size a := fun v1594 k0_hw380 => k0_hw380

def k0_chk381 (v1599 : IVec S16 32) : Prop :=
  (∀ a x, ((![v1599] : Fin 1 → IVec S16 32) a x).toNat < S6144.size a)
theorem k0_idx381_inb : ∀ (v1599 : IVec S16 32) (k0_hw381 : k0_chk381 v1599), ∀ a x, ((![v1599] : Fin 1 → IVec S16 32) a x).toNat < S6144.size a := fun v1599 k0_hw381 => k0_hw381

def k0_chk382 (v1603 : IVec S16 32) : Prop :=
  (∀ a x, ((![v1603] : Fin 1 → IVec S16 32) a x).toNat < S6144.size a)
theorem k0_idx382_inb : ∀ (v1603 : IVec S16 32) (k0_hw382 : k0_chk382 v1603), ∀ a x, ((![v1603] : Fin 1 → IVec S16 32) a x).toNat < S6144.size a := fun v1603 k0_hw382 => k0_hw382

def k0_chk383 (v1607 : IVec S16 32) : Prop :=
  (∀ a x, ((![v1607] : Fin 1 → IVec S16 32) a x).toNat < S6144.size a)
theorem k0_idx383_inb : ∀ (v1607 : IVec S16 32) (k0_hw383 : k0_chk383 v1607), ∀ a x, ((![v1607] : Fin 1 → IVec S16 32) a x).toNat < S6144.size a := fun v1607 k0_hw383 => k0_hw383

def k0_chk384 (v1611 : IVec S16 32) : Prop :=
  (∀ a x, ((![v1611] : Fin 1 → IVec S16 32) a x).toNat < S6144.size a)
theorem k0_idx384_inb : ∀ (v1611 : IVec S16 32) (k0_hw384 : k0_chk384 v1611), ∀ a x, ((![v1611] : Fin 1 → IVec S16 32) a x).toNat < S6144.size a := fun v1611 k0_hw384 => k0_hw384

def k0_chk385 (v1615 : IVec S16 32) : Prop :=
  (∀ a x, ((![v1615] : Fin 1 → IVec S16 32) a x).toNat < S6144.size a)
theorem k0_idx385_inb : ∀ (v1615 : IVec S16 32) (k0_hw385 : k0_chk385 v1615), ∀ a x, ((![v1615] : Fin 1 → IVec S16 32) a x).toNat < S6144.size a := fun v1615 k0_hw385 => k0_hw385

def k0_chk386 (v1619 : IVec S16 32) : Prop :=
  (∀ a x, ((![v1619] : Fin 1 → IVec S16 32) a x).toNat < S6144.size a)
theorem k0_idx386_inb : ∀ (v1619 : IVec S16 32) (k0_hw386 : k0_chk386 v1619), ∀ a x, ((![v1619] : Fin 1 → IVec S16 32) a x).toNat < S6144.size a := fun v1619 k0_hw386 => k0_hw386

def k0_chk387 (v1623 : IVec S16 32) : Prop :=
  (∀ a x, ((![v1623] : Fin 1 → IVec S16 32) a x).toNat < S6144.size a)
theorem k0_idx387_inb : ∀ (v1623 : IVec S16 32) (k0_hw387 : k0_chk387 v1623), ∀ a x, ((![v1623] : Fin 1 → IVec S16 32) a x).toNat < S6144.size a := fun v1623 k0_hw387 => k0_hw387

def k0_chk388 (v1627 : IVec S16 32) : Prop :=
  (∀ a x, ((![v1627] : Fin 1 → IVec S16 32) a x).toNat < S6144.size a)
theorem k0_idx388_inb : ∀ (v1627 : IVec S16 32) (k0_hw388 : k0_chk388 v1627), ∀ a x, ((![v1627] : Fin 1 → IVec S16 32) a x).toNat < S6144.size a := fun v1627 k0_hw388 => k0_hw388

def k0_chk389 (v1631 : IVec S16 32) : Prop :=
  (∀ a x, ((![v1631] : Fin 1 → IVec S16 32) a x).toNat < S6144.size a)
theorem k0_idx389_inb : ∀ (v1631 : IVec S16 32) (k0_hw389 : k0_chk389 v1631), ∀ a x, ((![v1631] : Fin 1 → IVec S16 32) a x).toNat < S6144.size a := fun v1631 k0_hw389 => k0_hw389

def k0_chk390 (v1635 : IVec S16 32) : Prop :=
  (∀ a x, ((![v1635] : Fin 1 → IVec S16 32) a x).toNat < S6144.size a)
theorem k0_idx390_inb : ∀ (v1635 : IVec S16 32) (k0_hw390 : k0_chk390 v1635), ∀ a x, ((![v1635] : Fin 1 → IVec S16 32) a x).toNat < S6144.size a := fun v1635 k0_hw390 => k0_hw390

def k0_chk391 (v1639 : IVec S16 32) : Prop :=
  (∀ a x, ((![v1639] : Fin 1 → IVec S16 32) a x).toNat < S6144.size a)
theorem k0_idx391_inb : ∀ (v1639 : IVec S16 32) (k0_hw391 : k0_chk391 v1639), ∀ a x, ((![v1639] : Fin 1 → IVec S16 32) a x).toNat < S6144.size a := fun v1639 k0_hw391 => k0_hw391

def k0_chk392 (v1643 : IVec S16 32) : Prop :=
  (∀ a x, ((![v1643] : Fin 1 → IVec S16 32) a x).toNat < S6144.size a)
theorem k0_idx392_inb : ∀ (v1643 : IVec S16 32) (k0_hw392 : k0_chk392 v1643), ∀ a x, ((![v1643] : Fin 1 → IVec S16 32) a x).toNat < S6144.size a := fun v1643 k0_hw392 => k0_hw392

def k0_chk393 (v1647 : IVec S16 32) : Prop :=
  (∀ a x, ((![v1647] : Fin 1 → IVec S16 32) a x).toNat < S6144.size a)
theorem k0_idx393_inb : ∀ (v1647 : IVec S16 32) (k0_hw393 : k0_chk393 v1647), ∀ a x, ((![v1647] : Fin 1 → IVec S16 32) a x).toNat < S6144.size a := fun v1647 k0_hw393 => k0_hw393

def k0_chk394 (v1651 : IVec S16 32) : Prop :=
  (∀ a x, ((![v1651] : Fin 1 → IVec S16 32) a x).toNat < S6144.size a)
theorem k0_idx394_inb : ∀ (v1651 : IVec S16 32) (k0_hw394 : k0_chk394 v1651), ∀ a x, ((![v1651] : Fin 1 → IVec S16 32) a x).toNat < S6144.size a := fun v1651 k0_hw394 => k0_hw394

def k0_chk395 (v1655 : IVec S16 32) : Prop :=
  (∀ a x, ((![v1655] : Fin 1 → IVec S16 32) a x).toNat < S6144.size a)
theorem k0_idx395_inb : ∀ (v1655 : IVec S16 32) (k0_hw395 : k0_chk395 v1655), ∀ a x, ((![v1655] : Fin 1 → IVec S16 32) a x).toNat < S6144.size a := fun v1655 k0_hw395 => k0_hw395

def k0_chk396 (v1659 : IVec S16 32) : Prop :=
  (∀ a x, ((![v1659] : Fin 1 → IVec S16 32) a x).toNat < S6144.size a)
theorem k0_idx396_inb : ∀ (v1659 : IVec S16 32) (k0_hw396 : k0_chk396 v1659), ∀ a x, ((![v1659] : Fin 1 → IVec S16 32) a x).toNat < S6144.size a := fun v1659 k0_hw396 => k0_hw396
def k0_off11 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_59_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S524288x3 : Shape := ⟨2, ![524288, 3]⟩
abbrev S524288 : Shape := ⟨1, ![524288]⟩
abbrev S64x3x3 : Shape := ⟨3, ![64, 3, 3]⟩
abbrev S524288x1 : Shape := ⟨2, ![524288, 1]⟩
abbrev S_ : Shape := ⟨0, ![]⟩
abbrev S1 : Shape := ⟨1, ![1]⟩
abbrev S1x1 : Shape := ⟨2, ![1, 1]⟩
abbrev S64x3 : Shape := ⟨2, ![64, 3]⟩

abbrev nBuf : Space → Nat
  | .hbm => 22
  | .vmem => 0
  | .smem => 0
  | _ => 0

abbrev bufTy : (tb : Table) → Fin (tcTables nBuf tb) → BufTy
  | .hbm, ⟨0, _⟩ => ⟨S524288x3, .f32⟩
  | .hbm, ⟨1, _⟩ => ⟨S524288, .f32⟩
  | .hbm, ⟨2, _⟩ => ⟨S524288, .i32⟩
  | .hbm, ⟨3, _⟩ => ⟨S64x3x3, .f32⟩
  | .hbm, ⟨4, _⟩ => ⟨S524288x1, .f32⟩
  | .hbm, ⟨5, _⟩ => ⟨S_, .f32⟩
  | .hbm, ⟨6, _⟩ => ⟨S1, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S1x1, .f32⟩
  | .hbm, ⟨11, _⟩ => ⟨S524288x1, .f32⟩
  | .hbm, ⟨12, _⟩ => ⟨S524288x1, .f32⟩
  | .hbm, ⟨13, _⟩ => ⟨S524288x3, .f32⟩
  | .hbm, ⟨14, _⟩ => ⟨S524288x3, .f32⟩
  | .hbm, ⟨15, _⟩ => ⟨S_, .f32⟩
  | .hbm, ⟨16, _⟩ => ⟨S64x3, .f32⟩
  | .hbm, ⟨17, _⟩ => ⟨S524288x1, .i32⟩
  | .hbm, ⟨18, _⟩ => ⟨S64x3, .f32⟩
  | .hbm, ⟨19, _⟩ => ⟨S_, .f32⟩
  | .hbm, ⟨20, _⟩ => ⟨S64x3, .f32⟩
  | .hbm, ⟨21, _⟩ => ⟨S64x3, .f32⟩
  | _, _ => ⟨S524288x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Base.lean ====
/-
  What the modules of this proof share: the program as the launch theorem sees it, the resource algebra, and the names of
  a vector subcore's thread and scratch buffers.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Pol

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

/-- The handshakes' rounds library, the left factor; the transfers' counters are found by instance in the right. -/
abbrev EH : Emb UH (MT nD τ sig (HIx 1) (Elt F) ℕ UU ℕ) := embL

/-! ## A vector subcore: its thread and its scratch -/

/-- The grid point's SparseCore and subcore, and its thread. -/
abbrev cV (L : grid0.Coords) : Fin τ.nSC := (L 0).castLE hcore0
abbrev jV (L : grid0.Coords) : Fin τ.nSub := (L 1).castLE hsub0
abbrev th (d : Dev nD) (L : grid0.Coords) : Thread nD τ := V d (cV L) (jV L)

/-- The table of lane sums and the result row, as the body's memrefs. -/
abbrev aW : Memref sig .scVector .vmem S6144 .f32 := Memref.whole cc0_scratch5
abbrev rW : Memref sig .scVector .vmem S512 .f32 := Memref.whole cc0_scratch6

variable (d : Dev nD) (L : grid0.Coords)

/-- The table of lane sums held whole at `A`, the result row held whole at `r`. -/
def accPts (A : FVec F S6144 .f32) : sProp 𝕄 := (aW).view.loc (th d L) ↦{fullShare} A
def resPts (r : FVec F S512 .f32) : sProp 𝕄 := (rW).view.loc (th d L) ↦{fullShare} r

end Cert.Proof.Pol

end
-- ==== Proof.Steps.lean ====
/-
  The reduction of the table of lane sums: what each of its gathers and row stores does, as steps of one walk, and the
  rows of the result they leave.
-/
module

public import proofs.«01_k».proof.Proof.Base

@[expose] public section

noncomputable section

namespace Cert.Proof.Pol

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The result row's contents -/

/-- The table's index at a number below 6144, and the result row's at one below 512. -/
abbrev ix6144 (n : ℕ) (h : n < 6144) : S6144.Idx := fun a => ⟨n, (Subsingleton.elim a 0) ▸ h⟩
abbrev ix512 (n : ℕ) (h : n < 512) : S512.Idx := fun a => ⟨n, (Subsingleton.elim a 0) ▸ h⟩
abbrev ix16 (n : ℕ) (h : n < 16) : S16.Idx := fun a => ⟨n, (Subsingleton.elim a 0) ▸ h⟩

/-- What a gather at the index vector `v` reads (every index in use is below 6144; the remainder keeps the expression
    total). -/
def gatv (A : FVec F S6144 .f32) (v : IVec S16 32) : FVec F S16 .f32 :=
  fun j => A (ix6144 ((v j).toNat % 6144) (Nat.mod_lt _ (by decide)))

/-- The index vector of lane `l` of row group `n`'s sixteen graphs: entry `j` is `16 j + 256 n + l`. -/
def colIdx (n l : ℕ) : IVec S16 32 := addi k0_pay22 (broadcast S16 (BitVec.ofNat 32 (256 * n + l)))

/-- Row group `n` of the reduction: for each of its sixteen graphs the sum of the graph's sixteen lanes, added up
    from zero in lane order. -/
def rowSum (A : FVec F S6144 .f32) (n : ℕ) : FVec F S16 .f32 :=
  [0, 1, 2, 3, 4, 5, 6, 7, 8, 9, 10, 11, 12, 13, 14, 15].foldl (fun s l => addf s (gatv A (colIdx n l))) k0_pay1

/-- Row group `n` of the whole result row: 24 groups of lane sums, four of the total charge, four of zeros. -/
def rowOf (A : FVec F S6144 .f32) (qs : FVec F S16 .f32) (n : ℕ) : FVec F S16 .f32 :=
  if n < 24 then rowSum A n else if n < 28 then qs else k0_pay1

/-- The result row. -/
def resOf (A : FVec F S6144 .f32) (qs : FVec F S16 .f32) : FVec F S512 .f32 :=
  fun i => rowOf A qs ((i 0).val / 16) (ix16 ((i 0).val % 16) (Nat.mod_lt _ (by decide)))

variable (d : Dev nD) (L : grid0.Coords)

/-- The walk's state: the table at `A`, the result row right on its first `n` groups, and a frame. -/
def H (A : FVec F S6144 .f32) (qs : FVec F S16 .f32) (R : sProp 𝕄) (n : ℕ) : sProp 𝕄 :=
  iprop(accPts d L A ∗ (∃ r : FVec F S512 .f32, ⌜∀ i : S512.Idx, (i 0).val < 16 * n → r i = resOf A qs i⌝ ∗ resPts d L r) ∗ R)

variable {A : FVec F S6144 .f32} {qs : FVec F S16 .f32} {n : ℕ} {α : Type}

local notation "WP" => wp frame (wpE (defs₀ (F := F)) 𝒱₀ (th d L) none) Set.univ

/-! ## The steps -/

theorem assume_step {R : sProp 𝕄} {Q : α → sProp 𝕄} {P : Prop} {dec : Decidable P} (h : P)
    {k : PLift P → Prog (TpuEff nD τ sig (Elt F) Λ₀ (th d L).2) α}
    (hk : H d L A qs R n ⊢ WP (k ⟨h⟩) Q) :
    H d L A qs R n ⊢ WP (Prog.lift (TpuEff.assume P dec) >>= k) Q := by
  have : (Prog.lift (TpuEff.assume P dec) >>= k : Prog (TpuEff nD τ sig (Elt F) Λ₀ (th d L).2) α) = .op (.assume P dec) k := rfl
  rw [this, wp_assume_of _ _ _ _ h]; exact hk

/-- Lane `j` of the lane-number-times-sixteen vector displaced by `c`. -/
theorem base_toNat (c : BitVec 32) (hc : c.toNat ≤ 5903) (j : S16.Idx) :
    (addi (k0_pay22 : IVec S16 32) (broadcast S16 c) j).toNat = 16 * (j 0).val + c.toNat := by
  have hj : (j 0).val < 16 := (j 0).isLt
  show (((BitVec.ofNat 32 (0 * 16 + (j 0).val)) * 16#32) + c).toNat = _
  simp only [BitVec.toNat_add, BitVec.toNat_mul, BitVec.toNat_ofNat]
  omega

theorem chk_step (c : BitVec 32) (hc : c.toNat ≤ 5903) :
    ∀ (a : Fin 1) x, ((![addi (k0_pay22 : IVec S16 32) (broadcast S16 c)] : Fin 1 → IVec S16 32) a x).toNat < S6144.size a := by
  intro a x
  obtain rfl : a = 0 := Subsingleton.elim _ _
  show (addi (k0_pay22 : IVec S16 32) (broadcast S16 c) x).toNat < 6144
  rw [base_toNat c hc]
  have hj : (x 0).val < 16 := (x 0).isLt
  omega

theorem gather_step {R : sProp 𝕄} {Q : α → sProp 𝕄} {v : IVec S16 32}
    {h : ∀ (a : Fin 1) x, ((![v] : Fin 1 → IVec S16 32) a x).toNat < S6144.size a} {hl}
    {k : Vec F S16 .f32 → Prog (TpuEff nD τ sig (Elt F) Λ₀ (th d L).2) α}
    (hk : H d L A qs R n ⊢ WP (k (gatv A v)) Q) :
    H d L A qs R n ⊢ WP (SparseCore.vectorLoadIdx aW ![v] h hl >>= k) Q := by
  have hv : loadIdx (((aW).access (.whole S6144)).read (Elt F) A) ![v] h = gatv A v := by
    funext x
    show ((aW).access (.whole S6144)).read (Elt F) A (idxAt _ h x) = _
    rw [show ((aW).access (.whole S6144)).read (Elt F) A = A from Memref.read_access_whole (Elt F) cc0_scratch5 A]
    show A _ = A _
    congr 1
    funext a
    obtain rfl : a = 0 := Subsingleton.elim _ _
    apply Fin.ext
    exact (Nat.mod_eq_of_lt (h 0 x)).symm
  unfold H accPts at hk ⊢
  iintro ⟨HA, HR⟩
  iapply (SparseCore.wp_vectorLoadIdx 𝒱₀ (th d L) none Set.univ (base := aW) (S := Finset.univ) (Finset.subset_univ _)) $$ HA
  iintro HA
  rw [hv]
  iapply hk
  isplitl [HA] <;> iassumption

theorem load_step {R : sProp 𝕄} {Q : α → sProp 𝕄} {off : ℕ} {inb : ∀ a, (![off] : Fin 1 → ℕ) a + S16.size a ≤ S512.size a} {hl}
    {k : Vec F S16 .f32 → Prog (TpuEff nD τ sig (Elt F) Λ₀ (th d L).2) α}
    (hk : ∀ v, H d L A qs R n ⊢ WP (k v) Q) :
    H d L A qs R n ⊢ WP (Prog.lift (.load rW (Rect.unit (s := S512) ![off] S16.size inb).toLoadRect hl) >>= k) Q := by
  unfold H resPts at hk ⊢
  iintro ⟨HA, ⟨%f, %hf, Hr⟩, HR⟩
  iapply (wp_load 𝒱₀ (th d L) none Set.univ (m := rW) (S := Finset.univ) (Finset.subset_univ _)) $$ Hr
  iintro Hr
  iapply (hk _)
  isplitl [HA]; · iexact HA
  isplitl [Hr]
  · iexists f; isplitr; · ipureintro; exact hf
    iexact Hr
  iexact HR

/-- Row group `n` of the result row is `rowOf … n`. -/
theorem resOf_group (i : S512.Idx) (x : S16.Idx) (hi : (i 0).val = 16 * n + (x 0).val) : resOf A qs i = rowOf A qs n x := by
  have hx : (x 0).val < 16 := (x 0).isLt
  unfold resOf
  have h1 : (i 0).val / 16 = n := by omega
  rw [h1]
  congr 1
  funext a
  obtain rfl : a = 0 := Subsingleton.elim _ _
  apply Fin.ext
  show (i 0).val % 16 = (x 0).val
  omega

/-- A store of the right row group extends what is right of the result row by that group. -/
theorem write_group (n : ℕ) {inb : ∀ a, (![16 * n] : Fin 1 → ℕ) a + S16.size a ≤ S512.size a} (f : FVec F S512 .f32)
    (hf : ∀ i : S512.Idx, (i 0).val < 16 * n → f i = resOf A qs i) :
    ∀ i : S512.Idx, (i 0).val < 16 * (n + 1) →
      (((rW).access (Rect.unit (s := S512) ![16 * n] S16.size inb)).write (Elt F) f (rowOf A qs n) Finset.univ : FVec F S512 .f32) i = resOf A qs i := by
  intro i hi
  by_cases hlt : (i 0).val < 16 * n
  · rw [← hf i hlt]
    refine View.write_of_not_mem (v := (rW).access (Rect.unit (s := S512) ![16 * n] S16.size inb)) (Val := Elt F) f (rowOf A qs n) Finset.univ (i := i) ?_
    intro hmem
    obtain ⟨x, -, hxe⟩ := Finset.mem_map.mp hmem
    have : (i 0).val = 16 * n + 1 * (x 0).val := by rw [← hxe]; rfl
    omega
  · have hl : (i 0).val - 16 * n < 16 := by omega
    have he : ((rW).access (Rect.unit (s := S512) ![16 * n] S16.size inb)).emb (ix16 _ hl) = i := by
      refine funext fun (a : Fin 1) => ?_
      obtain rfl : a = 0 := Subsingleton.elim _ _
      apply Fin.ext
      show 16 * n + 1 * ((i 0).val - 16 * n) = (i 0).val
      omega
    have hb := View.write_emb_of_mem (v := (rW).access (Rect.unit (s := S512) ![16 * n] S16.size inb)) (Val := Elt F)
      f (rowOf A qs n) (M := Finset.univ) (x := ix16 _ hl) (Finset.mem_univ _)
    rw [he] at hb
    rw [resOf_group (n := n) i (ix16 _ hl) (by show (i 0).val = 16 * n + ((i 0).val - 16 * n); omega)]
    exact hb

theorem store_step {R : sProp 𝕄} {Q : α → sProp 𝕄} (n : ℕ) {off : ℕ} (hoff : off = 16 * n) {inb : ∀ a, (![off] : Fin 1 → ℕ) a + S16.size a ≤ S512.size a}
    {w : FVec F S16 .f32} (hw : w = rowOf A qs n) {hx hm}
    {k : PUnit → Prog (TpuEff nD τ sig (Elt F) Λ₀ (th d L).2) α}
    (hk : H d L A qs R (n + 1) ⊢ WP (k ⟨⟩) Q) :
    H d L A qs R n ⊢ WP (Prog.lift (.store rW (Rect.unit (s := S512) ![off] S16.size inb) w Finset.univ hx hm) >>= k) Q := by
  subst hoff hw
  unfold H resPts at hk ⊢
  iintro ⟨HA, ⟨%f, %hf, Hr⟩, HR⟩
  iapply (wp_store 𝒱₀ (th d L) none Set.univ (m := rW) (r := Rect.unit (s := S512) ![16 * n] S16.size inb)
    (Mk := Finset.univ) (S := Finset.univ) (Finset.subset_univ _)) $$ Hr
  iintro Hr
  iapply hk
  isplitl [HA]; · iexact HA
  isplitl [Hr]
  · iexists (((rW).access (Rect.unit (s := S512) ![16 * n] S16.size inb)).write (Elt F) f (rowOf A qs n) Finset.univ : FVec F S512 .f32)
    isplitr
    · ipureintro
      exact write_group n f hf
    iexact Hr
  iexact HR

theorem bind_step {R : sProp 𝕄} {β : Type} {Q : β → sProp 𝕄} {p : Prog (TpuEff nD τ sig (Elt F) Λ₀ (th d L).2) α}
    {k : α → Prog (TpuEff nD τ sig (Elt F) Λ₀ (th d L).2) β}
    (hk : H d L A qs R n ⊢ WP p fun a => WP (k a) Q) : H d L A qs R n ⊢ WP (p >>= k) Q := by
  rw [wp_bind]; exact hk

theorem pure_step {R : sProp 𝕄} {Q : α → sProp 𝕄} {a : α} (hk : H d L A qs R n ⊢ Q a) : H d L A qs R n ⊢ WP (pure a) Q := by
  rw [wp_pure]
  exact hk.trans fupd_intro

end Cert.Proof.Pol

end
-- ==== Proof.Vals.lean ====
/-
  What a vector subcore computes, as plain functions: the sixteen atoms of one trip, the table after `n` trips, the
  charge sums after `n` trips.
-/
module

public import proofs.«01_k».proof.Proof.Steps

@[expose] public section

noncomputable section

namespace Cert.Proof.Pol

open Cert.KernelIdeal Cert.KernelIdeal.Gen
open Idealize.ShloMosaic

variable {F : FTy → Type} [FloatOps F]

/-- An index of each of the four flat arrays at a number, its remainder on the array's extent. -/
abbrev at16384 (n : ℕ) : S16384.Idx := fun a => ⟨n % 16384, (Subsingleton.elim a 0) ▸ Nat.mod_lt _ (by decide)⟩
abbrev at524288 (n : ℕ) : S524288.Idx := fun a => ⟨n % 524288, (Subsingleton.elim a 0) ▸ Nat.mod_lt _ (by decide)⟩
abbrev at1572864 (n : ℕ) : S1572864.Idx := fun a => ⟨n % 1572864, (Subsingleton.elim a 0) ▸ Nat.mod_lt _ (by decide)⟩

/-- The lane numbers. -/
def laneI : IVec S16 32 := iota .scVector S16 32 [0] iota_S16_d0_w32_scVector

/-- The sixteen entries of trip `n`. -/
def vecAt {e : EltTy} (G : Vec F S16384 e) (n : ℕ) : Vec F S16 e := fun x => G (at16384 (16 * n + (x 0).val))

/-- The part of a flat array that vector subcore `w` fetches: 16384 entries from `o + 16384 w`. -/
def chunkP (P : FVec F S1572864 .f32) (o w : ℕ) : FVec F S16384 .f32 := fun i => P (at1572864 (o + 16384 * w + (i 0).val))
def chunkQ {e : EltTy} (X : Vec F S524288 e) (w : ℕ) : Vec F S16384 e := fun i => X (at524288 (16384 * w + (i 0).val))

/-- A scatter-add of sixteen lanes into the table (the table itself should an index lie outside it). -/
def addAt (A : FVec F S6144 .f32) (v : IVec S16 32) (w : FVec F S16 .f32) : FVec F S6144 .f32 :=
  if h : ∀ (a : Fin 1) x, ((![v] : Fin 1 → IVec S16 32) a x).toNat < S6144.size a then storeIdx (F := F) (e := .f32) A ![v] w (fun _ => 1#1) true h else A

/-- One trip on the table: the three moments and the three coordinates of sixteen atoms added in. -/
def stepA (A : FVec F S6144 .f32) (x y z q : FVec F S16 .f32) (b : IVec S16 32) : FVec F S6144 .f32 :=
  addAt (addAt (addAt (addAt (addAt (addAt A (k0_pay2 (F := F) laneI b) (k0_pay3 x q)) (k0_pay4 (k0_pay2 (F := F) laneI b)) (k0_pay5 y q))
    (k0_pay6 (k0_pay2 (F := F) laneI b)) (k0_pay7 z q)) (k0_pay8 (k0_pay2 (F := F) laneI b)) x) (k0_pay9 (k0_pay2 (F := F) laneI b)) y) (k0_pay10 (k0_pay2 (F := F) laneI b)) z

/-- The table and the charge sums after `n` trips. -/
def accN (X Y Z Q : FVec F S16384 .f32) (B : IVec S16384 32) : ℕ → FVec F S6144 .f32
  | 0 => fun _ => Scalar.ofBits .f32 0x00000000#32
  | n + 1 => stepA (accN X Y Z Q B n) (vecAt (F := F) (e := .f32) X n) (vecAt (F := F) (e := .f32) Y n) (vecAt (F := F) (e := .f32) Z n) (vecAt (F := F) (e := .f32) Q n) (vecAt (F := F) (e := .i32) B n)
def qsumN (Q : FVec F S16384 .f32) : ℕ → FVec F S16 .f32
  | 0 => k0_pay1
  | n + 1 => k0_pay11 (qsumN Q n) (vecAt (F := F) (e := .f32) Q n)

end Cert.Proof.Pol

end
-- ==== Proof.Loops.lean ====
/-
  The loops of a vector subcore's task: the table zeroed, and the trips that add sixteen atoms into it.
-/
module

public import proofs.«01_k».proof.Proof.Vals

@[expose] public section

noncomputable section

namespace Cert.Proof.Pol

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
variable (d : Dev nD) (L : grid0.Coords)
local notation "WP" => wp frame (wpE (defs₀ (F := F)) 𝒱₀ (th d L) none) Set.univ

/-! ## Scratch held in part -/

/-- The entries `S` of a scratch array, held at the values `g`. -/
def heldS {e : EltTy} (m : Memref sig .scVector .vmem S16384 e) (g : Vec F S16384 e) (S : Finset S16384.Idx) : sProp 𝕄 :=
  iprop(∃ G : Buf (Elt F) (m.view.loc (th d L)), ⌜∀ i ∈ S, m.view.read (Elt F) G i = g i⌝ ∗ (m.view.loc (th d L) ↦[m.view.setOn S]{fullShare} G))

theorem emb_in {s : Shape} (r : Rect s) (x : r.shape.Idx) : r.emb x ∈ r.set := by
  rw [← Rect.map_emb_univ]; exact Finset.mem_map_of_mem _ (Finset.mem_univ x)

theorem vec_load {α : Type} {e : EltTy} {m : Memref sig .scVector .vmem S16384 e} {g : Vec F S16384 e} {S : Finset S16384.Idx} {n : ℕ}
    {off : Fin 1 → ℕ} (hoff : off = ![16 * n]) (hn : n < 1024) (hS : ∀ i : S16384.Idx, 16 * n ≤ (i 0).val → (i 0).val < 16 * n + 16 → i ∈ S)
    {inb : ∀ a, off a + S16.size a ≤ S16384.size a} {hl} {Q : α → sProp 𝕄}
    {k : Vec F S16 e → Prog (TpuEff nD τ sig (Elt F) Λ₀ (th d L).2) α} :
    heldS d L m g S ⊢ iprop((heldS d L m g S -∗ WP (k (vecAt g n)) Q)
      -∗ WP (Prog.lift (.load m (Rect.unit (s := S16384) off S16.size inb).toLoadRect hl) >>= k) Q) := by
  subst hoff
  have hmem : ∀ i ∈ (Rect.unit (s := S16384) ![16 * n] S16.size inb).set, i ∈ S := by
    intro i hi
    obtain ⟨h1, h2⟩ := Rect.mem_set_unit.mp hi 0
    exact hS i h1 h2
  unfold heldS
  iintro ⟨%G, %hG, HG⟩ Hk
  iapply (wp_load 𝒱₀ (th d L) none Set.univ (m := m) (S := m.view.setOn S) (Finset.map_subset_map.mpr (fun i hi => hmem i hi))) $$ HG
  iintro HG
  have hv : m.view.readAt (Elt F) (Rect.unit (s := S16384) ![16 * n] S16.size inb).toLoadRect G = vecAt g n := by
    funext x
    have hx : (x 0).val < 16 := (x 0).isLt
    have hin : (Rect.unit (s := S16384) ![16 * n] S16.size inb).emb x ∈ (Rect.unit (s := S16384) ![16 * n] S16.size inb).set :=
      emb_in _ x
    rw [View.readAt_apply, show (Rect.unit (s := S16384) ![16 * n] S16.size inb).toLoadRect.idx x
      = (Rect.unit (s := S16384) ![16 * n] S16.size inb).emb x from rfl, hG _ (hmem _ hin)]
    show g _ = g _
    congr 1
    funext a
    obtain rfl : a = 0 := Subsingleton.elim _ _
    apply Fin.ext
    show 16 * n + 1 * (x 0).val = (16 * n + (x 0).val) % 16384
    omega
  rw [hv]
  iapply Hk
  iexists G; isplitr; · ipureintro; exact hG
  iexact HG

/-! ## The scatter-add -/

theorem add_wp {α : Type} {A : FVec F S6144 .f32} {v : IVec S16 32} {w : FVec F S16 .f32} {h : ∀ (a : Fin 1) x, ((![v] : Fin 1 → IVec S16 32) a x).toNat < S6144.size a} {hs}
    {Q : α → sProp 𝕄} {k : PUnit → Prog (TpuEff nD τ sig (Elt F) Λ₀ (th d L).2) α} :
    accPts d L A ⊢ iprop((accPts d L (addAt A v w) -∗ WP (k ⟨⟩) Q)
      -∗ WP (SparseCore.vectorStoreIdx aW ![v] w (fun _ => 1#1) true h hs >>= k) Q) := by
  have hA : addAt A v w = storeIdx (F := F) (e := .f32) A ![v] w (fun _ => 1#1) true h := dif_pos h
  rw [hA]
  unfold accPts
  iintro HA Hk
  ihave HA' := (Entails.of_eq (show ((aW).view.loc (th d L) ↦{fullShare} A : sProp 𝕄)
      = (((aW).access (.whole S6144)).loc (th d L) ↦[((aW).access (.whole S6144)).set]{fullShare} A) from by
        rw [show ((aW).access (.whole S6144)).set = Finset.univ from Memref.set_access_whole (cc0_scratch5 : Ref sig .scVector)])) $$ HA
  iapply (SparseCore.wp_vectorStoreIdx 𝒱₀ (th d L) none Set.univ (base := aW)) $$ HA'
  iintro HA
  iapply Hk
  have hr : ((aW).access (.whole S6144)).read (Elt F) A = A := Memref.read_access_whole (Elt F) cc0_scratch5 A
  rw [hr, show ((aW).access (.whole S6144)).set = Finset.univ from Memref.set_access_whole (cc0_scratch5 : Ref sig .scVector)]
  have hw : ∀ u : FVec F S6144 .f32, ((aW).access (.whole S6144)).write (Elt F) A u Finset.univ = u := fun u => Memref.write_access_whole_univ (Elt F) cc0_scratch5 A u
  rw [hw]
  iexact HA

/-! ## One trip of an accumulation loop -/

/-- Every graph number below 64 puts the six addresses of an atom inside the table. -/
theorem addr_lt (b : IVec S16 32) (hb : ∀ x, (b x).toNat < 64) (c : BitVec 32) (hc : c.toNat ≤ 5120) (x : S16.Idx) :
    (addi (k0_pay2 (F := F) laneI b) (broadcast S16 c) x).toNat = 16 * (b x).toNat + (x 0).val + c.toNat := by
  have hx : (x 0).val < 16 := (x 0).isLt
  have := hb x
  show (((b x) * 16#32 + BitVec.ofNat 32 (0 * 16 + (x 0).val)) + c).toNat = _
  simp only [BitVec.toNat_add, BitVec.toNat_mul, BitVec.toNat_ofNat]
  omega

theorem addr0 (b : IVec S16 32) (hb : ∀ x, (b x).toNat < 64) (x : S16.Idx) : (k0_pay2 (F := F) laneI b x).toNat = 16 * (b x).toNat + (x 0).val := by
  have hx : (x 0).val < 16 := (x 0).isLt
  have := hb x
  show ((b x) * 16#32 + BitVec.ofNat 32 (0 * 16 + (x 0).val)).toNat = _
  simp only [BitVec.toNat_add, BitVec.toNat_mul, BitVec.toNat_ofNat]
  omega

theorem chk0 (b : IVec S16 32) (hb : ∀ x, (b x).toNat < 64) : ∀ (a : Fin 1) x, ((![k0_pay2 (F := F) laneI b] : Fin 1 → IVec S16 32) a x).toNat < S6144.size a := by
  intro a x
  obtain rfl : a = 0 := Subsingleton.elim _ _
  have hx : (x 0).val < 16 := (x 0).isLt
  have := hb x
  show (k0_pay2 (F := F) laneI b x).toNat < 6144
  rw [addr0 b hb]; omega

theorem chkc (b : IVec S16 32) (hb : ∀ x, (b x).toNat < 64) (c : BitVec 32) (hc : c.toNat ≤ 5120) :
    ∀ (a : Fin 1) x, ((![addi (k0_pay2 (F := F) laneI b) (broadcast S16 c)] : Fin 1 → IVec S16 32) a x).toNat < S6144.size a := by
  intro a x
  obtain rfl : a = 0 := Subsingleton.elim _ _
  have hx : (x 0).val < 16 := (x 0).isLt
  have := hb x
  show (addi (k0_pay2 (F := F) laneI b) (broadcast S16 c) x).toNat < 6144
  rw [addr_lt b hb c hc]; omega

/-- The scratch arrays of the five fetched operands. -/
abbrev m6 : Memref sig .scVector .vmem S16384 .f32 := Memref.whole cc0_scratch0
abbrev m7 : Memref sig .scVector .vmem S16384 .f32 := Memref.whole cc0_scratch1
abbrev m8 : Memref sig .scVector .vmem S16384 .f32 := Memref.whole cc0_scratch2
abbrev m9 : Memref sig .scVector .vmem S16384 .f32 := Memref.whole cc0_scratch3
abbrev m10 : Memref sig .scVector .vmem S16384 .i32 := Memref.whole cc0_scratch4

/-- A trip at offset `off`: both loops' bodies are this. -/
def trip (off : Fin 1 → ℕ) (inb : ∀ a, off a + S16.size a ≤ S16384.size a) (acc : FVec F S16 .f32) :
    Prog (TpuEff nD τ sig (Elt F) Λ₀ (.scVector (cV L) (jV L))) (FVec F S16 .f32) := do
  let x : Vec F S16 .f32 ← Prog.lift (.load m6 (Rect.unit (s := S16384) off S16.size inb).toLoadRect (View.loadsAt_vmem h_S16))
  let y : Vec F S16 .f32 ← Prog.lift (.load m7 (Rect.unit (s := S16384) off S16.size inb).toLoadRect (View.loadsAt_vmem h_S16))
  let z : Vec F S16 .f32 ← Prog.lift (.load m8 (Rect.unit (s := S16384) off S16.size inb).toLoadRect (View.loadsAt_vmem h_S16))
  let q : Vec F S16 .f32 ← Prog.lift (.load m9 (Rect.unit (s := S16384) off S16.size inb).toLoadRect (View.loadsAt_vmem h_S16))
  let b : Vec F S16 .i32 ← Prog.lift (.load m10 (Rect.unit (s := S16384) off S16.size inb).toLoadRect (View.loadsAt_vmem h_S16))
  have v : IVec S16 32 := k0_pay2 (F := F) laneI b
  have h1 : k0_chk1 v := (← Prog.lift (TpuEff.assume (k0_chk1 v) (k0_chk1.dec v))).down
  SparseCore.vectorStoreIdx aW ![v] (k0_pay3 x q) (fun _ => 1#1) true (k0_idx1_inb v h1) (View.stores_vmem_bits_univ h_S6144 rfl)
  have v2 : IVec S16 32 := k0_pay4 v
  have h2 : k0_chk2 v2 := (← Prog.lift (TpuEff.assume (k0_chk2 v2) (k0_chk2.dec v2))).down
  SparseCore.vectorStoreIdx aW ![v2] (k0_pay5 y q) (fun _ => 1#1) true (k0_idx2_inb v2 h2) (View.stores_vmem_bits_univ h_S6144 rfl)
  have v3 : IVec S16 32 := k0_pay6 v
  have h3 : k0_chk3 v3 := (← Prog.lift (TpuEff.assume (k0_chk3 v3) (k0_chk3.dec v3))).down
  SparseCore.vectorStoreIdx aW ![v3] (k0_pay7 z q) (fun _ => 1#1) true (k0_idx3_inb v3 h3) (View.stores_vmem_bits_univ h_S6144 rfl)
  have v4 : IVec S16 32 := k0_pay8 v
  have h4 : k0_chk4 v4 := (← Prog.lift (TpuEff.assume (k0_chk4 v4) (k0_chk4.dec v4))).down
  SparseCore.vectorStoreIdx aW ![v4] x (fun _ => 1#1) true (k0_idx4_inb v4 h4) (View.stores_vmem_bits_univ h_S6144 rfl)
  have v5 : IVec S16 32 := k0_pay9 v
  have h5 : k0_chk5 v5 := (← Prog.lift (TpuEff.assume (k0_chk5 v5) (k0_chk5.dec v5))).down
  SparseCore.vectorStoreIdx aW ![v5] y (fun _ => 1#1) true (k0_idx5_inb v5 h5) (View.stores_vmem_bits_univ h_S6144 rfl)
  have v6 : IVec S16 32 := k0_pay10 v
  have h6 : k0_chk6 v6 := (← Prog.lift (TpuEff.assume (k0_chk6 v6) (k0_chk6.dec v6))).down
  SparseCore.vectorStoreIdx aW ![v6] z (fun _ => 1#1) true (k0_idx6_inb v6 h6) (View.stores_vmem_bits_univ h_S6144 rfl)
  pure (k0_pay11 acc q)

theorem t2_trip (k : Fin k0_t2_loop.trips) (acc v53 : FVec F S16 .f32) :
    k0_t2_body L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 laneI v53 k acc = trip L (k0_off9 k) (k0_off9_inb k) acc := rfl
theorem t3_trip (k : Fin k0_t3_loop.trips) (acc v53 v77 : FVec F S16 .f32) :
    k0_t3_body L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 laneI v53 v77 k acc = trip L (k0_off10 k) (k0_off10_inb k) acc := rfl

/-- The loops' state: the table at `A`, the entries `S` of the five scratch arrays at the fetched values. -/
def LS (A : FVec F S6144 .f32) (X Y Z Q : FVec F S16384 .f32) (B : IVec S16384 32) (S : Finset S16384.Idx) : sProp 𝕄 :=
  iprop(accPts d L A ∗ heldS d L m6 (e := .f32) X S ∗ heldS d L m7 (e := .f32) Y S ∗ heldS d L m8 (e := .f32) Z S ∗ heldS d L m9 (e := .f32) Q S ∗ heldS d L m10 (F := F) (e := .i32) B S)

theorem assume_wp {α : Type} {P : Prop} {dec : Decidable P} (h : P) {R : sProp 𝕄} {Q : α → sProp 𝕄}
    {k : PLift P → Prog (TpuEff nD τ sig (Elt F) Λ₀ (th d L).2) α} (hk : R ⊢ WP (k ⟨h⟩) Q) :
    R ⊢ WP (Prog.lift (TpuEff.assume P dec) >>= k) Q := by
  have : (Prog.lift (TpuEff.assume P dec) >>= k : Prog (TpuEff nD τ sig (Elt F) Λ₀ (th d L).2) α) = .op (.assume P dec) k := rfl
  rw [this, wp_assume_of _ _ _ _ h]; exact hk

variable {X Y Z Q : FVec F S16384 .f32} {B : IVec S16384 32}

theorem trip_wp (hB : ∀ i, (B i).toNat < 64) {A : FVec F S6144 .f32} {S : Finset S16384.Idx} {n : ℕ} (hn : n < 1024)
    (hS : ∀ i : S16384.Idx, 16 * n ≤ (i 0).val → (i 0).val < 16 * n + 16 → i ∈ S)
    {off : Fin 1 → ℕ} (hoff : off = ![16 * n]) (inb : ∀ a, off a + S16.size a ≤ S16384.size a) (acc : FVec F S16 .f32) :
    LS d L A X Y Z Q B S ⊢ WP (trip L off inb acc) fun r =>
      iprop(⌜r = k0_pay11 acc (vecAt (F := F) (e := .f32) Q n)⌝ ∗ LS d L (stepA A (vecAt (F := F) (e := .f32) X n) (vecAt (F := F) (e := .f32) Y n) (vecAt (F := F) (e := .f32) Z n) (vecAt (F := F) (e := .f32) Q n) (vecAt (F := F) (e := .i32) B n)) X Y Z Q B S) := by
  have hb : ∀ x, (vecAt (F := F) (e := .i32) B n x).toNat < 64 := fun x => hB _
  unfold LS trip
  iintro ⟨HA, HX, HY, HZ, HQ, HB⟩
  iapply (vec_load d L hoff hn hS) $$ HX; iintro HX
  iapply (vec_load d L hoff hn hS) $$ HY; iintro HY
  iapply (vec_load d L hoff hn hS) $$ HZ; iintro HZ
  iapply (vec_load d L hoff hn hS) $$ HQ; iintro HQ
  iapply (vec_load d L hoff hn hS) $$ HB; iintro HB
  iapply (assume_wp d L (chk0 _ hb) .rfl)
  iapply (add_wp d L) $$ HA; iintro HA
  iapply (assume_wp d L (chkc _ hb 1024#32 (by decide)) .rfl)
  iapply (add_wp d L) $$ HA; iintro HA
  iapply (assume_wp d L (chkc _ hb 2048#32 (by decide)) .rfl)
  iapply (add_wp d L) $$ HA; iintro HA
  iapply (assume_wp d L (chkc _ hb 3072#32 (by decide)) .rfl)
  iapply (add_wp d L) $$ HA; iintro HA
  iapply (assume_wp d L (chkc _ hb 4096#32 (by decide)) .rfl)
  iapply (add_wp d L) $$ HA; iintro HA
  iapply (assume_wp d L (chkc _ hb 5120#32 (by decide)) .rfl)
  iapply (add_wp d L) $$ HA; iintro HA
  rw [wp_pure]
  imodintro
  isplitr; · ipureintro; rfl
  isplitl [HA]; · iexact HA
  isplitl [HX]; · iexact HX
  isplitl [HY]; · iexact HY
  isplitl [HZ]; · iexact HZ
  isplitl [HQ] <;> iassumption

/-- The two halves of a scratch array. -/
abbrev half0 : Rect S16384 := Rect.unit (s := S16384) ![0] S8192.size inb_S16384_S8192_0
abbrev half1 : Rect S16384 := Rect.unit (s := S16384) ![8192] S8192.size inb_S16384_S8192_8192

theorem mem_half0 (i : S16384.Idx) : i ∈ half0.set ↔ (i 0).val < 8192 := by
  rw [Rect.mem_set_unit]
  constructor
  · intro h; obtain ⟨-, h2⟩ := h 0; exact h2.trans_eq (by decide)
  · intro h a
    obtain rfl : a = 0 := Subsingleton.elim _ _
    exact ⟨Nat.zero_le _, h.trans_eq (by decide)⟩
theorem mem_half1 (i : S16384.Idx) : i ∈ half1.set ↔ 8192 ≤ (i 0).val := by
  have hi : (i 0).val < 16384 := (i 0).isLt
  rw [Rect.mem_set_unit]
  constructor
  · intro h; exact (h 0).1
  · intro h a
    obtain rfl : a = 0 := Subsingleton.elim _ _
    exact ⟨h, hi.trans_eq (by decide)⟩

theorem t2_trips : k0_t2_loop.trips = 512 := by decide +kernel
theorem t3_trips : k0_t3_loop.trips = 512 := by decide +kernel
theorem t1_trips : k0_t1_loop.trips = 96 := by decide +kernel

/-- The first half's trips. -/
theorem t2_wp (hB : ∀ i, (B i).toNat < 64) {Φ : FVec F S16 .f32 → sProp 𝕄}
    (hΦ : LS d L (accN X Y Z Q B 512) X Y Z Q B half0.set ⊢ Φ (qsumN Q 512)) :
    LS d L (accN X Y Z Q B 0) X Y Z Q B half0.set
      ⊢ WP (Scf.Loop.for k0_t2_loop k0_t2_ok (k0_pay1 (F := F)) (k0_t2_body L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 laneI (k0_pay1 (F := F)))) Φ := by
  have hstep : ∀ (k : Fin k0_t2_loop.trips) acc, ((fun n acc => iprop(⌜acc = qsumN Q n⌝ ∗ LS d L (accN X Y Z Q B n) X Y Z Q B half0.set)) : ℕ → _ → sProp 𝕄) k acc ⊢ WP (k0_t2_body L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 laneI (k0_pay1 (F := F)) k acc) (((fun n acc => iprop(⌜acc = qsumN Q n⌝ ∗ LS d L (accN X Y Z Q B n) X Y Z Q B half0.set)) : ℕ → _ → sProp 𝕄) (k.val + 1)) := by
    intro k acc
    have hk : k.val < 512 := k.isLt.trans_eq t2_trips
    istart; iintro ⟨%hacc, H⟩; istop
    subst hacc
    rw [t2_trip]
    refine (trip_wp d L hB (n := k.val) (by omega) (fun i h1 h2 => (mem_half0 i).mpr (by omega)) (k0_off9_eq k) _ _)
  iintro H
  iapply (Scf.wp_for frame (wpE (defs₀ (F := F)) 𝒱₀ (th d L) none) Set.univ _ _ _ k0_t2_ok _ _
    (fun n acc => iprop(⌜acc = qsumN Q n⌝ ∗ LS d L (accN X Y Z Q B n) X Y Z Q B half0.set)) hstep)
  isplitl [H]
  · isplitr; · ipureintro; rfl
    iexact H
  · iintro %acc ⟨%hacc, H⟩
    rw [show Scf.trips k0_t2_loop.lb k0_t2_loop.ub k0_t2_loop.st = 512 from t2_trips] at hacc ⊢
    subst hacc
    iapply hΦ; iexact H

/-- The second half's trips. -/
theorem t3_wp (hB : ∀ i, (B i).toNat < 64) {Φ : FVec F S16 .f32 → sProp 𝕄}
    (hΦ : LS d L (accN X Y Z Q B 1024) X Y Z Q B half1.set ⊢ Φ (qsumN Q 1024)) :
    LS d L (accN X Y Z Q B 512) X Y Z Q B half1.set
      ⊢ WP (Scf.Loop.for k0_t3_loop k0_t3_ok (qsumN Q 512) (k0_t3_body L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 laneI (k0_pay1 (F := F)) (qsumN Q 512))) Φ := by
  have hstep : ∀ (k : Fin k0_t3_loop.trips) acc, ((fun n acc => iprop(⌜acc = qsumN Q (512 + n)⌝ ∗ LS d L (accN X Y Z Q B (512 + n)) X Y Z Q B half1.set)) : ℕ → _ → sProp 𝕄) k acc ⊢ WP (k0_t3_body L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 laneI (k0_pay1 (F := F)) (qsumN Q 512) k acc) (((fun n acc => iprop(⌜acc = qsumN Q (512 + n)⌝ ∗ LS d L (accN X Y Z Q B (512 + n)) X Y Z Q B half1.set)) : ℕ → _ → sProp 𝕄) (k.val + 1)) := by
    intro k acc
    have hk : k.val < 512 := k.isLt.trans_eq t3_trips
    istart; iintro ⟨%hacc, H⟩; istop
    subst hacc
    rw [t3_trip]
    refine (trip_wp d L hB (n := 512 + k.val) (by omega) (fun i h1 h2 => (mem_half1 i).mpr (by omega))
      ((k0_off10_eq k).trans (by congr 1; omega)) _ _)
  iintro H
  iapply (Scf.wp_for frame (wpE (defs₀ (F := F)) 𝒱₀ (th d L) none) Set.univ _ _ _ k0_t3_ok _ _
    (fun n acc => iprop(⌜acc = qsumN Q (512 + n)⌝ ∗ LS d L (accN X Y Z Q B (512 + n)) X Y Z Q B half1.set)) hstep)
  isplitl [H]
  · isplitr; · ipureintro; rfl
    iexact H
  · iintro %acc ⟨%hacc, H⟩
    rw [show Scf.trips k0_t3_loop.lb k0_t3_loop.ub k0_t3_loop.st = 512 from t3_trips] at hacc ⊢
    subst hacc
    iapply hΦ; iexact H

/-! ## The table zeroed -/

/-- The first `16 n` entries of the table zero. -/
def zeroTo (n : ℕ) : sProp 𝕄 :=
  iprop(∃ f : FVec F S6144 .f32, ⌜∀ i : S6144.Idx, (i 0).val < 16 * n → f i = Scalar.ofBits .f32 0x00000000#32⌝ ∗ accPts d L f)

theorem zero_pair {α : Type} (n : ℕ) {off : Fin 1 → ℕ} (hoff : off = ![16 * n]) {inb inb' : ∀ a, off a + S16.size a ≤ S6144.size a} {hl hx hm}
    {Φ : α → sProp 𝕄} {k : PUnit → Prog (TpuEff nD τ sig (Elt F) Λ₀ (th d L).2) α} (hk : zeroTo d L (n + 1) ⊢ WP (k ⟨⟩) Φ) :
    zeroTo d L n ⊢ WP (Prog.lift (.load aW (Rect.unit (s := S6144) off S16.size inb).toLoadRect hl) >>= fun (_ : Vec F S16 .f32) =>
      Prog.lift (.store aW (Rect.unit (s := S6144) off S16.size inb') (k0_pay1 (F := F)) Finset.univ hx hm) >>= k) Φ := by
  subst hoff
  unfold zeroTo accPts at hk ⊢
  iintro ⟨%f, %hf, Hr⟩
  iapply (wp_load 𝒱₀ (th d L) none Set.univ (m := aW) (S := Finset.univ) (Finset.subset_univ _)) $$ Hr
  iintro Hr
  iapply (wp_store 𝒱₀ (th d L) none Set.univ (m := aW) (r := Rect.unit (s := S6144) ![16 * n] S16.size inb')
    (Mk := Finset.univ) (S := Finset.univ) (Finset.subset_univ _)) $$ Hr
  iintro Hr
  iapply hk
  iexists (((aW).access (Rect.unit (s := S6144) ![16 * n] S16.size inb')).write (Elt F) f (k0_pay1 (F := F)) Finset.univ : FVec F S6144 .f32)
  isplitr
  · ipureintro
    intro i hi
    by_cases hlt : (i 0).val < 16 * n
    · rw [← hf i hlt]
      refine View.write_of_not_mem (v := (aW).access (Rect.unit (s := S6144) ![16 * n] S16.size inb')) (Val := Elt F) f (k0_pay1 (F := F)) Finset.univ (i := i) ?_
      intro hmem
      obtain ⟨x, -, hxe⟩ := Finset.mem_map.mp hmem
      have : (i 0).val = 16 * n + 1 * (x 0).val := by rw [← hxe]; rfl
      omega
    · have hl : (i 0).val - 16 * n < 16 := by omega
      have he : ((aW).access (Rect.unit (s := S6144) ![16 * n] S16.size inb')).emb (ix16 _ hl) = i := by
        refine funext fun (a : Fin 1) => ?_
        obtain rfl : a = 0 := Subsingleton.elim _ _
        apply Fin.ext
        show 16 * n + 1 * ((i 0).val - 16 * n) = (i 0).val
        omega
      have hb := View.write_emb_of_mem (v := (aW).access (Rect.unit (s := S6144) ![16 * n] S16.size inb')) (Val := Elt F)
        f (k0_pay1 (F := F)) (M := Finset.univ) (x := ix16 _ hl) (Finset.mem_univ _)
      rw [he] at hb
      exact hb
  iexact Hr

theorem t1_wp (v2 : BitVec 32) {Φ : BitVec 32 → sProp 𝕄}
    (hΦ : ∀ r, accPts d L (fun _ => Scalar.ofBits .f32 0x00000000#32) ⊢ Φ r) :
    zeroTo d L 0 ⊢ WP (Scf.Loop.for k0_t1_loop k0_t1_ok 0#32 (k0_t1_body (F := F) L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 v2)) Φ := by
  have hstep : ∀ (k : Fin k0_t1_loop.trips) acc, ((fun n _ => zeroTo d L (4 * n)) : ℕ → _ → sProp 𝕄) k acc ⊢ WP (k0_t1_body (F := F) L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 v2 k acc) (((fun n _ => zeroTo d L (4 * n)) : ℕ → _ → sProp 𝕄) (k.val + 1)) := by
    intro k acc
    have hk : k.val < 96 := k.isLt.trans_eq t1_trips
    unfold k0_t1_body
    refine zero_pair d L (4 * k.val) ((k0_off7_eq k).trans (by congr 1; omega)) ?_
    refine zero_pair d L (4 * k.val + 1) ((k0_off8_eq k 0).trans (by congr 1; show 64 * k.val + 16 * 0 + 16 = _; omega)) ?_
    refine zero_pair d L (4 * k.val + 2) ((k0_off8_eq k 1).trans (by congr 1; show 64 * k.val + 16 * 1 + 16 = _; omega)) ?_
    refine zero_pair d L (4 * k.val + 3) ((k0_off8_eq k 2).trans (by congr 1; show 64 * k.val + 16 * 2 + 16 = _; omega)) ?_
    rw [wp_pure]
    iintro H; imodintro
    iexact H
  iintro H
  iapply (Scf.wp_for frame (wpE (defs₀ (F := F)) 𝒱₀ (th d L) none) Set.univ _ _ _ k0_t1_ok _ _
    (fun n _ => zeroTo d L (4 * n)) hstep)
  isplitl [H]; · iexact H
  iintro %acc H
  rw [show Scf.trips k0_t1_loop.lb k0_t1_loop.ub k0_t1_loop.st = 96 from t1_trips]
  unfold zeroTo
  icases H with ⟨%f, %hf, H⟩
  iapply (hΦ acc)
  rw [show (fun _ => Scalar.ofBits .f32 0x00000000#32 : FVec F S6144 .f32) = f from
    funext fun i => (hf i (by have : (i 0).val < 6144 := (i 0).isLt; omega)).symm]
  iexact H

end Cert.Proof.Pol

end
-- ==== Proof.Fetch.lean ====
/-
  The transfers of a vector subcore's task: a fetch of half a scratch array started, and its wait.
-/
module

public import proofs.«01_k».proof.Proof.Loops

@[expose] public section

noncomputable section

namespace Cert.Proof.Pol

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
variable (d : Dev nD) (L : grid0.Coords)
local notation "WP" => wp frame (wpE (defs₀ (F := F)) 𝒱₀ (th d L) none) Set.univ

/-- A scratch array's entries `S`, at anything; a transfer semaphore's counter at zero. -/
def anyS {e : EltTy} (m : Memref sig .scVector .vmem S16384 e) (S : Finset S16384.Idx) : sProp 𝕄 :=
  iprop(∃ G : Buf (Elt F) (m.view.loc (th d L)), m.view.loc (th d L) ↦[m.view.setOn S]{fullShare} G)
def sem0 (s : DmaSem sig) : sProp 𝕄 := semVal (th d L, SemLoc.dma s) 0

/-- A fetch in flight: its semaphore's wait delivers the half `r` of the scratch array `m` at the values `g`. -/
def FlS {e : EltTy} (sem : DmaSem sig) (m : Memref sig .scVector .vmem S16384 e) (g : Vec F S16384 e) (off : Fin 1 → ℕ)
    (inb : ∀ a, off a + S8192.size a ≤ S16384.size a) : sProp 𝕄 :=
  Transfers.Flight countersEmb (th d L) (.dma sem) (none : HIx 1)
    ((m.slice (Rect.unit (s := S16384) off S8192.size inb) (fun _ => rfl)).view.amount (.dma sem)) (heldS d L m g (Rect.unit (s := S16384) off S8192.size inb).set)

theorem fetch_wp {α : Type} {e : EltTy} {src : Memref sig .scVector .hbm S8192 e} {m : Memref sig .scVector .vmem S16384 e}
    {off : Fin 1 → ℕ} {inb : ∀ a, off a + S8192.size a ≤ S16384.size a} {sem : DmaSem sig} (g : Vec F S16384 e)
    {fs : Buf (Elt F) (src.view.loc (th d L))} {q : PosShare TreeShare}
    (hg : ∀ x : S8192.Idx, src.view.read (Elt F) fs x = g ((Rect.unit (s := S16384) off S8192.size inb).emb x))
    {hsrc : src.view.WordExact} {hdst : (m.slice (Rect.unit (s := S16384) off S8192.size inb) (fun _ => rfl)).view.WordExact}
    {hsem : DmaTarget.Typed (nD := nD) Space.hbm (SemLoc.dma sem) (DmaTarget.here (p := (th d L).2) (m.slice (Rect.unit (s := S16384) off S8192.size inb) (fun _ => rfl)))} {Φ : α → sProp 𝕄}
    {k : PUnit → Prog (TpuEff nD τ sig (Elt F) Λ₀ (th d L).2) α} :
    iprop((src.view.loc (th d L) ↦{q} fs) ∗ anyS d L m (Rect.unit (s := S16384) off S8192.size inb).set ∗ sem0 d L sem)
      ⊢ iprop((FlS d L sem m g off inb -∗ WP (k ⟨⟩) Φ)
      -∗ WP (Prog.lift (.enqueueDma src (.here (m.slice (Rect.unit (s := S16384) off S8192.size inb) (fun _ => rfl))) (.dma sem) hsrc hdst hsem) >>= k) Φ) := by
  unfold anyS sem0
  iintro ⟨Hs, ⟨%G, Hd⟩, Hv⟩ Hk
  ihave Hs' := ((pointsTo_split_subset (Finset.subset_univ src.view.set)).1.trans sep_elim_left) $$ Hs
  iapply (Transfers.wp_dmaLocal countersEmb 𝒱₀ (th d L) none (none : HIx 1) _ rfl (View.amount_pos _ _ (show 0 < S8192.numel by decide))
    (src := src) (dst := m.slice (Rect.unit (s := S16384) off S8192.size inb) (fun _ => rfl)) (sm := .dma sem)
    (Sd := m.view.setOn (Rect.unit (s := S16384) off S8192.size inb).set) (le_of_eq (View.set_slice _ _))) $$ [Hs' Hd Hv]
  · isplitl [Hs']; · iexact Hs'
    isplitl [Hd] <;> iassumption
  iintro Hfl
  iapply Hk
  unfold FlS
  iapply (Transfers.Flight_mono countersEmb (th d L) (D' := heldS d L m g (Rect.unit (s := S16384) off S8192.size inb).set) ?_) $$ Hfl
  unfold heldS
  iintro ⟨Hd, -⟩
  iexists ((m.slice (Rect.unit (s := S16384) off S8192.size inb) (fun _ => rfl)).view.write (Elt F) G (src.view.read (Elt F) fs) Finset.univ)
  isplitr
  · ipureintro
    intro i hi
    rw [← Rect.map_emb_univ] at hi
    obtain ⟨x, -, rfl⟩ := Finset.mem_map.mp hi
    exact (View.read_slice_write_emb (v := m.view) (Val := Elt F) (Rect.unit (s := S16384) off S8192.size inb) G (src.view.read (Elt F) fs) (Finset.mem_univ x)).trans (hg x)
  iexact Hd

/-- What the thread owes, some waits of its own recorded. -/
def OW (O : CellTallies nD τ sig (HIx 1)) (W : Waits sig (HIx 1)) : sProp 𝕄 :=
  iprop(∃ W', ⌜∀ p ∈ W', p ∈ W ∨ p.2 = none⌝ ∗ owes (th d L) O W')

theorem OW_elim {O : CellTallies nD τ sig (HIx 1)} {W : Waits sig (HIx 1)} :
    (OW d L O W : sProp 𝕄) ⊢ iprop(∃ W', ⌜∀ p ∈ W', p ∈ W ∨ p.2 = none⌝ ∗ owes (th d L) O W') := by
  unfold OW; exact .rfl

theorem OW_insert {O : CellTallies nD τ sig (HIx 1)} {W W' : Waits sig (HIx 1)} {sem : DmaSem sig} (h : ∀ p ∈ W', p ∈ W ∨ p.2 = none) :
    (owes (th d L) O (insert (SemLoc.dma sem, (none : HIx 1)) W') : sProp 𝕄) ⊢ OW d L O W := by
  unfold OW
  iintro H
  iexists _; isplitr
  · ipureintro
    swap
    · exact (insert (SemLoc.dma sem, (none : HIx 1)) W')
    · intro p hp
      rcases Finset.mem_insert.mp hp with hp | hp
      · exact .inr (hp ▸ rfl)
      · exact h p hp
  · iexact H

/-- A fetch's wait. -/
theorem arrive_wp {α : Type} {e : EltTy} {s' : Shape} {e' : EltTy} {sp' : Space} {srcw : Memref sig .scVector sp' s' e'} {m : Memref sig .scVector .vmem S16384 e}
    {off : Fin 1 → ℕ} {inb : ∀ a, off a + S8192.size a ≤ S16384.size a} {sem : DmaSem sig} {g : Vec F S16384 e}
    {O : CellTallies nD τ sig (HIx 1)} {W : Waits sig (HIx 1)} (hO : ∀ x, O x none = 0)
    {hsrc : srcw.view.WordExact} {hdst : (m.slice (Rect.unit (s := S16384) off S8192.size inb) (fun _ => rfl)).view.WordExact} {Φ : α → sProp 𝕄}
    {k : PUnit → Prog (TpuEff nD τ sig (Elt F) Λ₀ (th d L).2) α} :
    iprop(levAts (K (F := F)).L (K (F := F)).lev ∗ FlS d L sem m g off inb ∗ OW d L O W)
      ⊢ iprop((iprop(heldS d L m g (Rect.unit (s := S16384) off S8192.size inb).set ∗ sem0 d L sem ∗ OW d L O W) -∗ WP (k ⟨⟩) Φ)
      -∗ WP (Prog.lift (.waitDma2 sem srcw (m.slice (Rect.unit (s := S16384) off S8192.size inb) (fun _ => rfl)) hsrc hdst) >>= k) Φ) := by
  unfold FlS sem0
  iintro ⟨#Hlv, Hfl, HO⟩ Hk
  ihave HO' := (OW_elim d L) $$ HO
  icases HO' with ⟨%W', %hW', HO⟩
  ihave Hmw := ((K (F := F)).mayWait_none (thr := th d L) (SemLoc.dma sem) hO) $$ Hlv
  iapply (Transfers.wp_waitLocalO countersEmb 𝒱₀ (th d L) none (none : HIx 1) rfl) $$ [Hfl HO Hmw]
  · isplitl [Hfl]; · iexact Hfl
    isplitl [HO] <;> iassumption
  iintro ⟨Hd, Hv, HO⟩
  iapply Hk
  isplitl [Hd]; · iexact Hd
  isplitl [Hv]; · iexact Hv
  iapply (OW_insert d L hW'); iexact HO

end Cert.Proof.Pol

end
-- ==== Proof.Tail.lean ====
/-
  The reduction walked group by group: from the end of the trips, through the twenty-four groups of lane sums, the four of
  the total charge and the four of zeros, to the copy of the finished row.
-/
module

public import proofs.«01_k».proof.Proof.Steps

@[expose] public section

noncomputable section

namespace Cert.Proof.Pol

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
variable (d : Dev nD) (L : grid0.Coords)
variable {A : FVec F S6144 .f32} {qs : FVec F S16 .f32} {n : ℕ} {α : Type}
local notation "WP" => wp frame (wpE (defs₀ (F := F)) 𝒱₀ (th d L) none) Set.univ

/-- The total charge as the result row's four groups hold it: the sixteen lanes of the charge sums added up. -/
def qsRow (v99 : FVec F S16 .f32) : FVec F S16 .f32 := k0_pay469 v99 (k0_pay467 v99) (k0_pay468 v99)

set_option maxHeartbeats 40000000 in
theorem body_walk {Pre R : sProp 𝕄} {Q : PUnit → sProp 𝕄} (q : FVec F S16 .f32)
    (hhead : Pre ⊢ WP (k0_part1 L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0) fun v2 => WP (k0_part2 L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 v2) fun x =>
      WP (k0_part3 L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 x.1 x.2) fun v77 => WP (k0_part4 L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 x.1 x.2 v77) fun y =>
      iprop(⌜x.2 = k0_pay1 ∧ y = ⟨q, k0_pay22, k0_pay31 k0_pay1 (gatv A k0_pay23) (gatv A k0_pay24) (gatv A k0_pay25) (gatv A k0_pay26)
        (gatv A k0_pay27) (gatv A k0_pay28) (gatv A k0_pay29) (gatv A k0_pay30), 8#32⟩⌝ ∗ H d L A (qsRow q) R 0))
    (hend : H d L A (qsRow q) R 32 ⊢ WP (do
      Prog.lift (.enqueueDma (Memref.whole cc0_scratch6) (.here (((Memref.whole main_v2_scv).slice (Rect.unit (s := S32x512) (k0_off11 L) S1x512.size (k0_off11_inb L)) (fun _ => rfl)).squeeze S512 squeezes_S1x512_S512))
        (.dma cc0_scoped0.sem) (Memref.isWhole_whole _).wordExact ((View.wordExact_bits rfl).reshape _ _) ⟨Or.inl rfl, trivial⟩)
      Prog.lift (.waitDma2 cc0_scoped0.sem (Memref.whole cc0_scratch6) (((Memref.whole main_v2_scv).slice (Rect.unit (s := S32x512) (k0_off11 L) S1x512.size (k0_off11_inb L)) (fun _ => rfl)).squeeze S512 squeezes_S1x512_S512)
        (Memref.isWhole_whole _).wordExact ((View.wordExact_bits rfl).reshape _ _))
      pure ⟨⟩) Q) :
    Pre ⊢ WP (cc0__tec_body L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0) Q := by
  rw [cc0__tec_body_eq_skeleton]; unfold cc0__tec_body_skel
  rw [wp_bind]
  refine hhead.trans (wp_mono _ _ _ fun v2 => ?_)
  rw [wp_bind]
  refine wp_mono _ _ _ fun x => ?_
  obtain ⟨v52, v53⟩ := x
  rw [wp_bind]
  refine wp_mono _ _ _ fun v77 => ?_
  rw [wp_bind]
  refine wp_mono _ _ _ fun y => ?_
  istart
  iintro ⟨%hx, H⟩
  obtain ⟨h1, h2⟩ := hx
  istop
  subst h1 h2
  repeat (first
    | ((with_reducible refine assume_step d L ?_ ?_); · exact chk_step _ (by decide))
    | (with_reducible refine gather_step d L ?_)
    | (with_reducible refine load_step d L fun _ => ?_)
    | ((with_reducible refine store_step d L _ ?_ ?_ ?_); decide; exact rfl)
    | (with_reducible refine pure_step d L ?_)
    | ((with_reducible refine bind_step d L ?_); first
      | (rw [k0_part5_eq_skeleton]; unfold k0_part5_skel)
      | (rw [k0_part6_eq_skeleton]; unfold k0_part6_skel)
      | (rw [k0_part7_eq_skeleton]; unfold k0_part7_skel)
      | (rw [k0_part8_eq_skeleton]; unfold k0_part8_skel)
      | (rw [k0_part9_eq_skeleton]; unfold k0_part9_skel)
      | (rw [k0_part10_eq_skeleton]; unfold k0_part10_skel)
      | (rw [k0_part11_eq_skeleton]; unfold k0_part11_skel)
      | (rw [k0_part12_eq_skeleton]; unfold k0_part12_skel)
      | (rw [k0_part13_eq_skeleton]; unfold k0_part13_skel)
      | (rw [k0_part14_eq_skeleton]; unfold k0_part14_skel)
      | (rw [k0_part15_eq_skeleton]; unfold k0_part15_skel)
      | (rw [k0_part16_eq_skeleton]; unfold k0_part16_skel)
      | (rw [k0_part17_eq_skeleton]; unfold k0_part17_skel)
      | (rw [k0_part18_eq_skeleton]; unfold k0_part18_skel)
      | (rw [k0_part19_eq_skeleton]; unfold k0_part19_skel)
      | (rw [k0_part20_eq_skeleton]; unfold k0_part20_skel)
      | (rw [k0_part21_eq_skeleton]; unfold k0_part21_skel)
      | (rw [k0_part22_eq_skeleton]; unfold k0_part22_skel)
      | (rw [k0_part23_eq_skeleton]; unfold k0_part23_skel)
      | (rw [k0_part24_eq_skeleton]; unfold k0_part24_skel)
      | (rw [k0_part25_eq_skeleton]; unfold k0_part25_skel)
      | (rw [k0_part26_eq_skeleton]; unfold k0_part26_skel)
      | (rw [k0_part27_eq_skeleton]; unfold k0_part27_skel)
      | (rw [k0_part28_eq_skeleton]; unfold k0_part28_skel)
      | (rw [k0_part29_eq_skeleton]; unfold k0_part29_skel)
      | (rw [k0_part30_eq_skeleton]; unfold k0_part30_skel)
      | (rw [k0_part31_eq_skeleton]; unfold k0_part31_skel)
      | (rw [k0_part32_eq_skeleton]; unfold k0_part32_skel)
      | (rw [k0_part33_eq_skeleton]; unfold k0_part33_skel)
      | (rw [k0_part34_eq_skeleton]; unfold k0_part34_skel)
      | (rw [k0_part35_eq_skeleton]; unfold k0_part35_skel)
      | (rw [k0_part36_eq_skeleton]; unfold k0_part36_skel)
      | (rw [k0_part37_eq_skeleton]; unfold k0_part37_skel)
      | (rw [k0_part38_eq_skeleton]; unfold k0_part38_skel)
      | (rw [k0_part39_eq_skeleton]; unfold k0_part39_skel)
      | (rw [k0_part40_eq_skeleton]; unfold k0_part40_skel)
      | (rw [k0_part41_eq_skeleton]; unfold k0_part41_skel)
      | (rw [k0_part42_eq_skeleton]; unfold k0_part42_skel)
      | (rw [k0_part43_eq_skeleton]; unfold k0_part43_skel)
      | (rw [k0_part44_eq_skeleton]; unfold k0_part44_skel)))
  exact hend

end Cert.Proof.Pol
end
-- ==== Proof.Body.lean ====
/-
  A vector subcore's task: the ten fetches, the table zeroed, the two accumulation loops, the walk over the groups, and
  the result row sent out.
-/
module

public import proofs.«01_k».proof.Proof.Fetch
public import proofs.«01_k».proof.Proof.Tail

@[expose] public section

noncomputable section

namespace Cert.Proof.Pol

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
variable (d : Dev nD) (L : grid0.Coords)
local notation "WP" => wp frame (wpE (defs₀ (F := F)) 𝒱₀ (th d L) none) Set.univ

/-! ## The fetched values -/

theorem readP {o h a : ℕ} {off : Fin 1 → ℕ} (P : FVec F S1572864 .f32) (w : ℕ) (hoff : off = ![a]) (ha : a = o + 16384 * w + h) (hb : o + 16384 * w + h + 8192 ≤ 1572864) (hh : h + 8192 ≤ 16384)
    {inb : ∀ a, off a + S8192.size a ≤ S1572864.size a} {inb' : ∀ a, (![h] : Fin 1 → ℕ) a + S8192.size a ≤ S16384.size a} (x : S8192.Idx) :
    ((Memref.whole main_v1_scv : Memref sig .scVector .hbm S1572864 .f32).slice (Rect.unit (s := S1572864) off S8192.size inb) (fun _ => rfl)).view.read (Elt F) P x
      = chunkP P o w ((Rect.unit (s := S16384) ![h] S8192.size inb').emb x) := by
  subst hoff ha
  have hx : (x 0).val < 8192 := (x 0).isLt
  show P _ = P _
  congr 1
  refine funext fun (b : Fin 1) => ?_
  obtain rfl : b = 0 := Subsingleton.elim _ _
  apply Fin.ext
  show o + 16384 * w + h + 1 * (x 0).val = (o + 16384 * w + (h + 1 * (x 0).val)) % 1572864
  omega

theorem readQ {h a : ℕ} {off : Fin 1 → ℕ} (P : FVec F S524288 .f32) (w : ℕ) (hoff : off = ![a]) (ha : a = 16384 * w + h) (hb : 16384 * w + h + 8192 ≤ 524288) (hh : h + 8192 ≤ 16384)
    {inb : ∀ a, off a + S8192.size a ≤ S524288.size a} {inb' : ∀ a, (![h] : Fin 1 → ℕ) a + S8192.size a ≤ S16384.size a} (x : S8192.Idx) :
    ((Memref.whole main_arg1_scv : Memref sig .scVector .hbm S524288 .f32).slice (Rect.unit (s := S524288) off S8192.size inb) (fun _ => rfl)).view.read (Elt F) P x
      = chunkQ (F := F) (e := .f32) P w ((Rect.unit (s := S16384) ![h] S8192.size inb').emb x) := by
  subst hoff ha
  have hx : (x 0).val < 8192 := (x 0).isLt
  show P _ = P _
  congr 1
  refine funext fun (b : Fin 1) => ?_
  obtain rfl : b = 0 := Subsingleton.elim _ _
  apply Fin.ext
  show 16384 * w + h + 1 * (x 0).val = (16384 * w + (h + 1 * (x 0).val)) % 524288
  omega

theorem readB {h a : ℕ} {off : Fin 1 → ℕ} (P : IVec S524288 32) (w : ℕ) (hoff : off = ![a]) (ha : a = 16384 * w + h) (hb : 16384 * w + h + 8192 ≤ 524288) (hh : h + 8192 ≤ 16384)
    {inb : ∀ a, off a + S8192.size a ≤ S524288.size a} {inb' : ∀ a, (![h] : Fin 1 → ℕ) a + S8192.size a ≤ S16384.size a} (x : S8192.Idx) :
    ((Memref.whole main_arg2_scv : Memref sig .scVector .hbm S524288 .i32).slice (Rect.unit (s := S524288) off S8192.size inb) (fun _ => rfl)).view.read (Elt F) P x
      = chunkQ (F := F) (e := .i32) P w ((Rect.unit (s := S16384) ![h] S8192.size inb').emb x) := by
  subst hoff ha
  have hx : (x 0).val < 8192 := (x 0).isLt
  show P _ = P _
  congr 1
  refine funext fun (b : Fin 1) => ?_
  obtain rfl : b = 0 := Subsingleton.elim _ _
  apply Fin.ext
  show 16384 * w + h + 1 * (x 0).val = (16384 * w + (h + 1 * (x 0).val)) % 524288
  omega

/-- The subcore's number among the 32. -/
abbrev wid : ℕ := 16 * (L 0).val + (L 1).val
theorem wid_lt : wid L < 32 := by
  have h0 : (L 0).val < 2 := (L 0).isLt
  have h1 : (L 1).val < 16 := (L 1).isLt
  show 16 * (L 0).val + (L 1).val < 32
  omega

/-! ## The first four parts -/

section Head

variable (P : FVec F S1572864 .f32) (Qa : FVec F S524288 .f32) (Ba : IVec S524288 32)

abbrev Xw (w : ℕ) := chunkP P 0 w
abbrev Yw (w : ℕ) := chunkP P 524288 w
abbrev Zw (w : ℕ) := chunkP P 1048576 w
abbrev Qw (w : ℕ) : FVec F S16384 .f32 := chunkQ (F := F) (e := .f32) Qa w
abbrev Bw (w : ℕ) : IVec S16384 32 := chunkQ (F := F) (e := .i32) Ba w

/-- The table and the charge sums subcore `w` ends with. -/
def accW (w : ℕ) : FVec F S6144 .f32 := accN (Xw P w) (Yw P w) (Zw P w) (Qw Qa w) (Bw (F := F) Ba w) 1024
def qsumW (w : ℕ) : FVec F S16 .f32 := qsumN (Qw Qa w) 1024

abbrev vP := (Memref.whole main_v1_scv : Memref sig .scVector .hbm S1572864 .f32)
abbrev vQ := (Memref.whole main_arg1_scv : Memref sig .scVector .hbm S524288 .f32)
abbrev vB := (Memref.whole main_arg2_scv : Memref sig .scVector .hbm S524288 .i32)

/-- A share of each of the three arrays fetched from. -/
def srcP (q : PosShare TreeShare) : sProp 𝕄 := (vP).view.loc (th d L) ↦{q} P
def srcQ (q : PosShare TreeShare) : sProp 𝕄 := (vQ).view.loc (th d L) ↦{q} Qa
def srcB (q : PosShare TreeShare) : sProp 𝕄 := (vB).view.loc (th d L) ↦{q} Ba

variable (O : CellTallies nD τ sig (HIx 1)) (W : Waits sig (HIx 1))

omit [FloatOps F] in
theorem pure_sep {φ : Prop} (h : φ) {A : sProp 𝕄} : A ⊢ iprop(⌜φ⌝ ∗ A) := by
  iintro H; isplitr; · ipureintro; exact h
  iexact H

theorem bind_wp {α β : Type} {A : sProp 𝕄} {p : Prog (TpuEff nD τ sig (Elt F) Λ₀ (th d L).2) α} {Φ : α → sProp 𝕄} (hp : A ⊢ WP p Φ)
    {k : α → Prog (TpuEff nD τ sig (Elt F) Λ₀ (th d L).2) β} {Ψ : β → sProp 𝕄} :
    A ⊢ iprop((∀ r, Φ r -∗ WP (k r) Ψ) -∗ WP (p >>= k) Ψ) := by
  rw [wp_bind]
  iintro HA Hk
  ihave HW := hp $$ HA
  iapply (wp_wand_r frame _ _)
  isplitl [HW] <;> iassumption

/-- The ten fetch semaphores' counters at zero. -/
def sems10 : sProp 𝕄 := iprop(sem0 (F := F) d L cc0_scratch7.sem ∗ sem0 (F := F) d L cc0_scratch8.sem ∗ sem0 (F := F) d L cc0_scratch9.sem ∗ sem0 (F := F) d L cc0_scratch10.sem ∗ sem0 (F := F) d L cc0_scratch11.sem ∗ sem0 (F := F) d L cc0_scratch12.sem ∗ sem0 (F := F) d L cc0_scratch13.sem ∗ sem0 (F := F) d L cc0_scratch14.sem ∗ sem0 (F := F) d L cc0_scratch15.sem ∗ sem0 (F := F) d L cc0_scratch16.sem)

/-- The ten halves at the fetched values. -/
def heldAll (w : ℕ) : sProp 𝕄 :=
  iprop(heldS d L m6 (e := .f32) (Xw P w) half0.set ∗ heldS d L m7 (e := .f32) (Yw P w) half0.set ∗ heldS d L m8 (e := .f32) (Zw P w) half0.set ∗ heldS d L m9 (e := .f32) (Qw Qa w) half0.set ∗ heldS d L m10 (e := .i32) (Bw (F := F) Ba w) half0.set ∗ heldS d L m6 (e := .f32) (Xw P w) half1.set ∗ heldS d L m7 (e := .f32) (Yw P w) half1.set ∗ heldS d L m8 (e := .f32) (Zw P w) half1.set ∗ heldS d L m9 (e := .f32) (Qw Qa w) half1.set ∗ heldS d L m10 (e := .i32) (Bw (F := F) Ba w) half1.set)

/-- What rides along while the groups are walked. -/
def RideOn (R : sProp 𝕄) : sProp 𝕄 := iprop(heldAll d L P Qa Ba (wid L) ∗ sems10 (F := F) d L ∗ OW (F := F) d L O W ∗ R)

set_option maxHeartbeats 4000000 in
theorem head_wp {R : sProp 𝕄} (hO : ∀ x, O x none = 0) (hB : ∀ i, (Ba i).toNat < 64) {p0 p1 p2 p3 p4 p5 q0 q1 b0 b1 : PosShare TreeShare} :
    iprop(levAts (K (F := F)).L (K (F := F)).lev ∗ srcP d L P p0 ∗ srcP d L P p1 ∗ srcP d L P p2 ∗ srcP d L P p3 ∗ srcP d L P p4 ∗ srcP d L P p5 ∗ srcQ d L Qa q0 ∗ srcQ d L Qa q1 ∗ srcB d L Ba b0 ∗ srcB d L Ba b1 ∗ anyS (F := F) d L m6 half0.set ∗ anyS (F := F) d L m6 half1.set ∗ anyS (F := F) d L m7 half0.set ∗ anyS (F := F) d L m7 half1.set ∗ anyS (F := F) d L m8 half0.set ∗ anyS (F := F) d L m8 half1.set ∗ anyS (F := F) d L m9 half0.set ∗ anyS (F := F) d L m9 half1.set ∗ anyS (F := F) d L m10 half0.set ∗ anyS (F := F) d L m10 half1.set ∗ zeroTo (F := F) d L 0 ∗ (∃ r, resPts (F := F) d L r) ∗ sems10 (F := F) d L ∗ OW (F := F) d L O W ∗  R) ⊢ WP (k0_part1 L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0) fun v2 => WP (k0_part2 L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 v2) fun x =>
      WP (k0_part3 L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 x.1 x.2) fun v77 => WP (k0_part4 L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0 x.1 x.2 v77) fun y =>
      iprop(⌜x.2 = k0_pay1 ∧ y = ⟨qsumW Qa (wid L), k0_pay22, k0_pay31 k0_pay1 (gatv (accW P Qa Ba (wid L)) k0_pay23) (gatv (accW P Qa Ba (wid L)) k0_pay24) (gatv (accW P Qa Ba (wid L)) k0_pay25)
        (gatv (accW P Qa Ba (wid L)) k0_pay26) (gatv (accW P Qa Ba (wid L)) k0_pay27) (gatv (accW P Qa Ba (wid L)) k0_pay28) (gatv (accW P Qa Ba (wid L)) k0_pay29) (gatv (accW P Qa Ba (wid L)) k0_pay30), 8#32⟩⌝
        ∗ H d L (accW P Qa Ba (wid L)) (qsRow (qsumW Qa (wid L))) (RideOn d L P Qa Ba O W R) 0) := by
  have hw := wid_lt L
  have hwd : wid L = 16 * (L 0).val + (L 1).val := rfl
  have hBw : ∀ i, (Bw (F := F) Ba (wid L) i).toNat < 64 := fun i => hB _
  have h0 : (L 0).val < 2 := (L 0).isLt
  have h1 : (L 1).val < 16 := (L 1).isLt
  unfold sems10 srcP srcQ srcB
  iintro ⟨#Hlv, HP0, HP1, HP2, HP3, HP4, HP5, HQ0, HQ1, HB0, HB1, Hm6a, Hm6b, Hm7a, Hm7b, Hm8a, Hm8b, Hm9a, Hm9b, Hm10a, Hm10b, Hz, ⟨%r0, Hr⟩, ⟨Hs7, Hs8, Hs9, Hs10, Hs11, Hs12, Hs13, Hs14, Hs15, Hs16⟩, HO, HR⟩
  rw [k0_part1_eq_skeleton]; unfold k0_part1_skel
  iapply (fetch_wp d L (Xw P (wid L)) (fs := P) (fun x => readP (o := 0) P (wid L) (k0_off1_eq L) (by show _ = _; omega) (by omega) (by omega) x)) $$ [HP0 Hm6a Hs7]
  · isplitl [HP0]; · iexact HP0
    isplitl [Hm6a] <;> iassumption
  iintro Hf7
  iapply (fetch_wp d L (Yw P (wid L)) (fs := P) (fun x => readP (o := 524288) P (wid L) (k0_off2_eq L 0) (by show _ = _; omega) (by omega) (by omega) x)) $$ [HP1 Hm7a Hs8]
  · isplitl [HP1]; · iexact HP1
    isplitl [Hm7a] <;> iassumption
  iintro Hf8
  iapply (fetch_wp d L (Zw P (wid L)) (fs := P) (fun x => readP (o := 1048576) P (wid L) (k0_off2_eq L 1) (by show _ = _; omega) (by omega) (by omega) x)) $$ [HP2 Hm8a Hs9]
  · isplitl [HP2]; · iexact HP2
    isplitl [Hm8a] <;> iassumption
  iintro Hf9
  iapply (fetch_wp d L (Qw Qa (wid L)) (fs := Qa) (fun x => readQ Qa (wid L) (k0_off3_eq L) (by omega) (by omega) (by omega) x)) $$ [HQ0 Hm9a Hs10]
  · isplitl [HQ0]; · iexact HQ0
    isplitl [Hm9a] <;> iassumption
  iintro Hf10
  iapply (fetch_wp d L (Bw (F := F) Ba (wid L)) (fs := Ba) (fun x => readB Ba (wid L) (k0_off3_eq L) (by omega) (by omega) (by omega) x)) $$ [HB0 Hm10a Hs11]
  · isplitl [HB0]; · iexact HB0
    isplitl [Hm10a] <;> iassumption
  iintro Hf11
  iapply (fetch_wp d L (Xw P (wid L)) (fs := P) (fun x => readP (o := 0) P (wid L) (k0_off4_eq L) (by show _ = _; omega) (by omega) (by omega) x)) $$ [HP3 Hm6b Hs12]
  · isplitl [HP3]; · iexact HP3
    isplitl [Hm6b] <;> iassumption
  iintro Hf12
  rw [wp_pure]; imodintro
  rw [k0_part2_eq_skeleton]; unfold k0_part2_skel
  iapply (fetch_wp d L (Yw P (wid L)) (fs := P) (fun x => readP (o := 524288) P (wid L) (k0_off5_eq L 0) (by show _ = _; omega) (by omega) (by omega) x)) $$ [HP4 Hm7b Hs13]
  · isplitl [HP4]; · iexact HP4
    isplitl [Hm7b] <;> iassumption
  iintro Hf13
  iapply (fetch_wp d L (Zw P (wid L)) (fs := P) (fun x => readP (o := 1048576) P (wid L) (k0_off5_eq L 1) (by show _ = _; omega) (by omega) (by omega) x)) $$ [HP5 Hm8b Hs14]
  · isplitl [HP5]; · iexact HP5
    isplitl [Hm8b] <;> iassumption
  iintro Hf14
  iapply (fetch_wp d L (Qw Qa (wid L)) (fs := Qa) (fun x => readQ Qa (wid L) (k0_off6_eq L) (by omega) (by omega) (by omega) x)) $$ [HQ1 Hm9b Hs15]
  · isplitl [HQ1]; · iexact HQ1
    isplitl [Hm9b] <;> iassumption
  iintro Hf15
  iapply (fetch_wp d L (Bw (F := F) Ba (wid L)) (fs := Ba) (fun x => readB Ba (wid L) (k0_off6_eq L) (by omega) (by omega) (by omega) x)) $$ [HB1 Hm10b Hs16]
  · isplitl [HB1]; · iexact HB1
    isplitl [Hm10b] <;> iassumption
  iintro Hf16
  iapply (bind_wp d L (t1_wp d L _ (fun _ => .rfl))) $$ Hz
  iintro %r HA
  iapply (arrive_wp d L hO) $$ [Hf7 HO]
  · isplitr; · iexact Hlv
    isplitl [Hf7] <;> iassumption
  iintro ⟨Hm6a, Hs7, HO⟩
  iapply (arrive_wp d L hO) $$ [Hf8 HO]
  · isplitr; · iexact Hlv
    isplitl [Hf8] <;> iassumption
  iintro ⟨Hm7a, Hs8, HO⟩
  rw [wp_pure]; imodintro
  rw [k0_part3_eq_skeleton]; unfold k0_part3_skel
  iapply (arrive_wp d L hO) $$ [Hf9 HO]
  · isplitr; · iexact Hlv
    isplitl [Hf9] <;> iassumption
  iintro ⟨Hm8a, Hs9, HO⟩
  iapply (arrive_wp d L hO) $$ [Hf10 HO]
  · isplitr; · iexact Hlv
    isplitl [Hf10] <;> iassumption
  iintro ⟨Hm9a, Hs10, HO⟩
  iapply (arrive_wp d L hO) $$ [Hf11 HO]
  · isplitr; · iexact Hlv
    isplitl [Hf11] <;> iassumption
  iintro ⟨Hm10a, Hs11, HO⟩
  iapply (bind_wp d L (t2_wp d L (X := Xw P (wid L)) (Y := Yw P (wid L)) (Z := Zw P (wid L)) (Q := Qw Qa (wid L)) (B := Bw (F := F) Ba (wid L)) hBw
    (Φ := fun r => iprop(⌜r = qsumN (Qw Qa (wid L)) 512⌝ ∗ LS d L (accN (Xw P (wid L)) (Yw P (wid L)) (Zw P (wid L)) (Qw Qa (wid L)) (Bw (F := F) Ba (wid L)) 512)
      (Xw P (wid L)) (Yw P (wid L)) (Zw P (wid L)) (Qw Qa (wid L)) (Bw (F := F) Ba (wid L)) half0.set)) (pure_sep rfl))) $$ [HA Hm6a Hm7a Hm8a Hm9a Hm10a]
  · unfold LS
    isplitl [HA]; · iexact HA
    isplitl [Hm6a]; · iexact Hm6a
    isplitl [Hm7a]; · iexact Hm7a
    isplitl [Hm8a]; · iexact Hm8a
    isplitl [Hm9a] <;> iassumption
  iintro %r ⟨%hr, HLS⟩
  subst hr
  unfold LS
  icases HLS with ⟨HA, Hm6a, Hm7a, Hm8a, Hm9a, Hm10a⟩
  iapply (arrive_wp d L hO) $$ [Hf12 HO]
  · isplitr; · iexact Hlv
    isplitl [Hf12] <;> iassumption
  iintro ⟨Hm6b, Hs12, HO⟩
  iapply (arrive_wp d L hO) $$ [Hf13 HO]
  · isplitr; · iexact Hlv
    isplitl [Hf13] <;> iassumption
  iintro ⟨Hm7b, Hs13, HO⟩
  iapply (arrive_wp d L hO) $$ [Hf14 HO]
  · isplitr; · iexact Hlv
    isplitl [Hf14] <;> iassumption
  iintro ⟨Hm8b, Hs14, HO⟩
  iapply (arrive_wp d L hO) $$ [Hf15 HO]
  · isplitr; · iexact Hlv
    isplitl [Hf15] <;> iassumption
  iintro ⟨Hm9b, Hs15, HO⟩
  rw [wp_pure]; imodintro
  rw [k0_part4_eq_skeleton]; unfold k0_part4_skel
  iapply (arrive_wp d L hO) $$ [Hf16 HO]
  · isplitr; · iexact Hlv
    isplitl [Hf16] <;> iassumption
  iintro ⟨Hm10b, Hs16, HO⟩
  iapply (bind_wp d L (t3_wp d L (X := Xw P (wid L)) (Y := Yw P (wid L)) (Z := Zw P (wid L)) (Q := Qw Qa (wid L)) (B := Bw (F := F) Ba (wid L)) hBw
    (Φ := fun r => iprop(⌜r = qsumN (Qw Qa (wid L)) 1024⌝ ∗ LS d L (accN (Xw P (wid L)) (Yw P (wid L)) (Zw P (wid L)) (Qw Qa (wid L)) (Bw (F := F) Ba (wid L)) 1024)
      (Xw P (wid L)) (Yw P (wid L)) (Zw P (wid L)) (Qw Qa (wid L)) (Bw (F := F) Ba (wid L)) half1.set)) (pure_sep rfl))) $$ [HA Hm6b Hm7b Hm8b Hm9b Hm10b]
  · unfold LS
    isplitl [HA]; · iexact HA
    isplitl [Hm6b]; · iexact Hm6b
    isplitl [Hm7b]; · iexact Hm7b
    isplitl [Hm8b]; · iexact Hm8b
    isplitl [Hm9b] <;> iassumption
  iintro %r ⟨%hr, HLS⟩
  subst hr
  unfold LS
  icases HLS with ⟨HA, Hm6b, Hm7b, Hm8b, Hm9b, Hm10b⟩
  ihave HH : H d L (accW P Qa Ba (wid L)) (qsRow (qsumW Qa (wid L))) (RideOn d L P Qa Ba O W R) 0 $$ [HA Hr Hm6a Hm7a Hm8a Hm9a Hm10a Hm6b Hm7b Hm8b Hm9b Hm10b Hs7 Hs8 Hs9 Hs10 Hs11 Hs12 Hs13 Hs14 Hs15 Hs16 HO HR]
  · unfold H
    isplitl [HA]; · iexact HA
    isplitl [Hr]
    · iexists r0; isplitr
      · ipureintro; intro i hi; omega
      · iexact Hr
    unfold RideOn heldAll sems10
    isplitl [Hm6a Hm7a Hm8a Hm9a Hm10a Hm6b Hm7b Hm8b Hm9b Hm10b]
    · isplitl [Hm6a]; · iexact Hm6a
      isplitl [Hm7a]; · iexact Hm7a
      isplitl [Hm8a]; · iexact Hm8a
      isplitl [Hm9a]; · iexact Hm9a
      isplitl [Hm10a]; · iexact Hm10a
      isplitl [Hm6b]; · iexact Hm6b
      isplitl [Hm7b]; · iexact Hm7b
      isplitl [Hm8b]; · iexact Hm8b
      isplitl [Hm9b] <;> iassumption
    isplitl [Hs7 Hs8 Hs9 Hs10 Hs11 Hs12 Hs13 Hs14 Hs15 Hs16]
    · isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15] <;> iassumption
    isplitl [HO] <;> iassumption
  istop
  refine sep_elim_right.trans ?_
  repeat (first
    | ((with_reducible refine assume_step d L ?_ ?_); · exact chk_step _ (by decide))
    | (with_reducible refine gather_step d L ?_))
  rw [wp_pure]
  iintro HH; imodintro
  isplitr; · ipureintro; exact ⟨rfl, rfl⟩
  iexact HH

end Head

end Cert.Proof.Pol

end
-- ==== Proof.Tile.lean ====
/-
  The end of a vector subcore's task, its result row sent out, and the task as a whole.
-/
module

public import proofs.«01_k».proof.Proof.Body

@[expose] public section

noncomputable section

namespace Cert.Proof.Pol

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (ownBufs ownSems0 ownCells ownRefs mem_ownCells mem_ownRefs)
open Idealize.ShloMosaic.Tactic

variable {F : FTy → Type} [FloatOps F]

local notation "𝕄" => MT nD τ sig (HIx 1) (Elt F) ℕ UU ℕ
variable (d : Dev nD) (L : grid0.Coords)
local notation "WP" => wp frame (wpE (defs₀ (F := F)) 𝒱₀ (th d L) none) Set.univ

/-! ## The result row -/

/-- Row `wid L` of the result array, as the task's last transfer names it. -/
abbrev outRow : Memref sig .scVector .hbm S512 .f32 :=
  ((Memref.whole main_v2_scv).slice (Rect.unit (s := S32x512) (k0_off11 L) S1x512.size (k0_off11_inb L)) (fun _ => rfl)).squeeze S512 squeezes_S1x512_S512

/-- The entries of row `w`. -/
def rowS (w : ℕ) : Finset S32x512.Idx := Finset.univ.filter fun i => (i 0).val = w

/-- Every task's result row, in one array. -/
def outOf (P : FVec F S1572864 .f32) (Qa : FVec F S524288 .f32) (Ba : Vec F S524288 .i32) : FVec F S32x512 .f32 := fun i =>
  resOf (accW P Qa Ba (i 0).val) (qsRow (qsumW Qa (i 0).val)) (ix512 (i 1).val (i 1).isLt)

theorem outRow_set : (outRow L).view.set = rowS (wid L) := by
  have e : (outRow L).view.set = (Rect.unit (s := S32x512) (k0_off11 L) S1x512.size (k0_off11_inb L)).set :=
    (View.set_reshape _ _).trans ((View.set_slice _ _).trans (Finset.map_refl))
  rw [e]
  ext i
  rw [Rect.mem_set_unit, k0_off11_eq]
  simp only [rowS, Finset.mem_filter, Finset.mem_univ, true_and]
  have h1 : (i 1).val < 512 := (i 1).isLt
  constructor
  · intro h
    have h0 := h 0
    have : 16 * (L 0).val + (L 1).val ≤ (i 0).val ∧ (i 0).val < 16 * (L 0).val + (L 1).val + 1 := h0
    show (i 0).val = 16 * (L 0).val + (L 1).val
    omega
  · intro h
    have h' : (i 0).val = 16 * (L 0).val + (L 1).val := h
    intro a
    match a with
    | 0 => exact show 16 * (L 0).val + (L 1).val ≤ (i 0).val ∧ (i 0).val < 16 * (L 0).val + (L 1).val + 1 from by omega
    | 1 => exact show 0 ≤ (i 1).val ∧ (i 1).val < 0 + 512 from by omega

theorem outRow_emb (x : S512.Idx) : ((outRow L).view.emb x 0).val = wid L ∧ ((outRow L).view.emb x 1).val = (x 0).val := by
  have e : (outRow L).view.emb x = (Rect.unit (s := S32x512) (k0_off11 L) S1x512.size (k0_off11_inb L)).emb
      (Shape.reshapeEquiv (by decide) x : S1x512.Idx) := rfl
  rw [e, show (Shape.reshapeEquiv (by decide) x : S1x512.Idx) = Fin.cons ⟨0, by decide⟩ x from Shape.reshapeEquiv_cons_one _ x]
  constructor
  · show k0_off11 L 0 + 1 * 0 = _
    rw [k0_off11_eq]; rfl
  · show k0_off11 L 1 + 1 * (x 0).val = _
    rw [k0_off11_eq]; show 0 + 1 * (x 0).val = _; omega

/-- The row sent out is that row of the whole result. -/
theorem row_lands (P : FVec F S1572864 .f32) (Qa : FVec F S524288 .f32) (Ba : Vec F S524288 .i32) (f0 : Buf (Elt F) ((outRow L).view.loc (th d L)))
    (r : FVec F S512 .f32) (hr : ∀ i, r i = resOf (accW P Qa Ba (wid L)) (qsRow (qsumW Qa (wid L))) i) (i : S32x512.Idx) (hi : i ∈ rowS (wid L)) :
    (outRow L).view.write (Elt F) f0 r Finset.univ i = outOf P Qa Ba i := by
  rw [← outRow_set] at hi
  obtain ⟨x, -, rfl⟩ := Finset.mem_map.mp hi
  refine (View.write_emb_of_mem (v := (outRow L).view) (Val := Elt F) f0 r (Finset.mem_univ x)).trans ?_
  obtain ⟨e0, e1⟩ := outRow_emb L x
  show r x = _
  rw [hr]
  unfold outOf
  rw [e0]
  congr 1
  refine funext fun (b : Fin 1) => ?_
  obtain rfl : b = 0 := Subsingleton.elim _ _
  exact Fin.ext e1.symm

/-- The result array of device `d`. -/
abbrev oLoc : Loc nD τ sig := (SparseCore.T d).loc main_v2

/-- What a task is handed: read shares of the three inputs, and its row of the result array at anything; and what it hands back. -/
def tileIn (P : FVec F S1572864 .f32) (Qa : FVec F S524288 .f32) (Ba : Vec F S524288 .i32) (q : PosShare TreeShare) (w : ℕ) (f0 : FVec F S32x512 .f32) : sProp 𝕄 :=
  iprop(((SparseCore.T d).loc main_v1 ↦{q} P) ∗ ((SparseCore.T d).loc main_arg1 ↦{q} Qa) ∗ ((SparseCore.T d).loc main_arg2 ↦{q} Ba) ∗ (oLoc d ↦[rowS w]{fullShare} f0))
def tileOut (P : FVec F S1572864 .f32) (Qa : FVec F S524288 .f32) (Ba : Vec F S524288 .i32) (w : ℕ) : sProp 𝕄 :=
  oLoc d ↦[rowS w]{fullShare} outOf P Qa Ba

theorem H_elim {A : FVec F S6144 .f32} {qs : FVec F S16 .f32} {R : sProp 𝕄} : (H d L A qs R 32 : sProp 𝕄) ⊢ iprop(accPts d L A ∗ (∃ r, ⌜∀ i, (i 0).val < 16 * 32 → r i = resOf A qs i⌝ ∗ resPts d L r) ∗ R) := by
  unfold H; exact .rfl

theorem ret_wp {Q : PUnit → sProp 𝕄} : Q ⟨⟩ ⊢ WP ((Prog.ret PUnit.unit : Prog (TpuEff nD τ sig (Elt F) Λ₀ (th d L).2) PUnit).bind fun _ => pure PUnit.unit) Q := by
  show Q ⟨⟩ ⊢ WP (pure PUnit.unit) Q
  rw [wp_pure]; exact fupd_intro

/-- The last transfer and its wait. -/
theorem send_wp (P : FVec F S1572864 .f32) (Qa : FVec F S524288 .f32) (Ba : Vec F S524288 .i32) {f0 : FVec F S32x512 .f32}
    {O : CellTallies nD τ sig (HIx 1)} {W : Waits sig (HIx 1)} (hO : ∀ x, O x none = 0) {R : sProp 𝕄} :
    H d L (accW P Qa Ba (wid L)) (qsRow (qsumW Qa (wid L)))
        (RideOn d L P Qa Ba O W iprop(levAts (K (F := F)).L (K (F := F)).lev ∗ (oLoc d ↦[rowS (wid L)]{fullShare} f0) ∗ sem0 d L cc0_scoped0.sem ∗ R)) 32
      ⊢ WP (do
      Prog.lift (.enqueueDma (Memref.whole cc0_scratch6) (.here (outRow L)) (.dma cc0_scoped0.sem) (Memref.isWhole_whole _).wordExact ((View.wordExact_bits rfl).reshape _ _) ⟨Or.inl rfl, trivial⟩)
      Prog.lift (.waitDma2 cc0_scoped0.sem (Memref.whole cc0_scratch6) (outRow L) (Memref.isWhole_whole _).wordExact ((View.wordExact_bits rfl).reshape _ _))
      pure ⟨⟩) fun (_ : PUnit) => iprop(tileOut d P Qa Ba (wid L) ∗ (∃ A, accPts (F := F) d L A) ∗ (∃ r, resPts (F := F) d L r) ∗ heldAll d L P Qa Ba (wid L)
        ∗ sems10 (F := F) d L ∗ sem0 (F := F) d L cc0_scoped0.sem ∗ OW (F := F) d L O W ∗ R) := by
  unfold RideOn
  iintro H
  ihave H := (H_elim d L) $$ H
  icases H with ⟨HA, ⟨%r, %hr, Hr⟩, Hh, Hs, HO, #Hlv, Hrow, Hv, HR⟩
  have hr' : ∀ i, r i = resOf (accW P Qa Ba (wid L)) (qsRow (qsumW Qa (wid L))) i := fun i => hr i (i 0).isLt
  have hset : (rW : Memref sig .scVector .vmem S512 .f32).view.set = Finset.univ := View.set_whole _
  unfold sem0
  ihave Hr' := (Entails.of_eq (show (resPts d L r : sProp 𝕄) = (rW.view.loc (th d L) ↦[rW.view.set]{fullShare} r) by rw [hset]; first | done | rfl)) $$ Hr
  ihave Hd := (Entails.of_eq (show ((oLoc d ↦[rowS (wid L)]{fullShare} f0 : sProp 𝕄)) = ((outRow L).view.loc (th d L) ↦[(outRow L).view.set]{fullShare} f0) by rw [outRow_set])) $$ Hrow
  iapply (Transfers.wp_dmaLocal countersEmb 𝒱₀ (th d L) none (none : HIx 1) _ rfl (View.amount_pos _ _ (show 0 < S512.numel by decide))
    (src := Memref.whole cc0_scratch6) (dst := outRow L) (sm := .dma cc0_scoped0.sem)
    (Sd := (outRow L).view.set) (Finset.Subset.refl _)) $$ [Hr' Hd Hv]
  · isplitl [Hr']; · iexact Hr'
    isplitl [Hd] <;> iassumption
  iintro Hfl
  ihave HO' := (OW_elim d L) $$ HO
  icases HO' with ⟨%W', %hW', HO⟩
  ihave Hmw := ((K (F := F)).mayWait_none (thr := th d L) (SemLoc.dma cc0_scoped0.sem) hO) $$ Hlv
  iapply (Transfers.wp_waitLocalO countersEmb 𝒱₀ (th d L) none (none : HIx 1) rfl) $$ [Hfl HO Hmw]
  · isplitl [Hfl]; · iexact Hfl
    isplitl [HO] <;> iassumption
  iintro ⟨⟨Hd, Hr⟩, Hv, HO⟩
  iapply (ret_wp d L)
  isplitl [Hd]
  · ihave Hd' := (Entails.of_eq (pointsTo_congr fun i hi => row_lands d L P Qa Ba f0 r hr' i (by rw [← outRow_set]; exact hi))) $$ Hd
    unfold tileOut
    rw [← outRow_set]
    iexact Hd'
  isplitl [HA]; · iexists _; iexact HA
  isplitl [Hr]
  · iexists r
    iapply (Entails.of_eq (show (resPts d L r : sProp 𝕄) = (rW.view.loc (th d L) ↦[rW.view.set]{fullShare} r) by rw [hset]; first | done | rfl).symm)
    iexact Hr
  isplitl [Hh]; · iexact Hh
  isplitl [Hs]; · iexact Hs
  isplitl [Hv]; · iexact Hv
  isplitl [HO]; · iapply (OW_insert d L hW'); iexact HO
  iexact HR

/-! ## A scratch array as its halves -/

theorem halves : half0.set ∪ half1.set = (Finset.univ : Finset S16384.Idx) := by
  ext i; simp only [Finset.mem_union, Finset.mem_univ, iff_true]
  rw [mem_half0, mem_half1]; omega

theorem halves_disj : Disjoint half0.set half1.set := by
  rw [Finset.disjoint_left]; intro i
  rw [mem_half0, mem_half1]; omega

theorem setOn_halves {e : EltTy} (m : Memref sig .scVector .vmem S16384 e) (hm : m.view.set = Finset.univ) :
    m.view.setOn half0.set ∪ m.view.setOn half1.set = Finset.univ := by
  rw [← hm, ← View.setOn_univ, ← halves]; exact (Finset.map_union _ _).symm

theorem setOn_disj {e : EltTy} (m : Memref sig .scVector .vmem S16384 e) : Disjoint (m.view.setOn half0.set) (m.view.setOn half1.set) :=
  (Finset.disjoint_map _).mpr halves_disj

theorem split_half {e : EltTy} (m : Memref sig .scVector .vmem S16384 e) (hm : m.view.set = Finset.univ) :
    iprop(∃ f : Buf (Elt F) (m.view.loc (th d L)), m.view.loc (th d L) ↦{fullShare} f) ⊢ iprop(anyS (F := F) d L m half0.set ∗ anyS (F := F) d L m half1.set) := by
  unfold anyS
  iintro ⟨%f, H⟩
  ihave H' := (Entails.of_eq (show (m.view.loc (th d L) ↦{fullShare} f : sProp 𝕄)
    = (m.view.loc (th d L) ↦[m.view.setOn half0.set ∪ m.view.setOn half1.set]{fullShare} f) by rw [setOn_halves m hm])) $$ H
  ihave H'' := (pointsTo_union (setOn_disj m)).1 $$ H'
  icases H'' with ⟨Ha, Hb⟩
  isplitl [Ha] <;> (iexists f; iassumption)

theorem join_half {e : EltTy} (m : Memref sig .scVector .vmem S16384 e) (hm : m.view.set = Finset.univ) {g h : Vec F S16384 e} :
    iprop(heldS d L m g half0.set ∗ heldS d L m h half1.set) ⊢ iprop(∃ f : Buf (Elt F) (m.view.loc (th d L)), m.view.loc (th d L) ↦{fullShare} f) := by
  unfold heldS
  iintro ⟨⟨%f, -, H⟩, ⟨%f', -, H'⟩⟩
  ihave Hj := (pointsTo_join (ℓ := m.view.loc (th d L)) (setOn_disj m)) $$ [H H']
  · isplitl [H] <;> iassumption
  rw [setOn_halves m hm]
  iexists _; iexact Hj

/-! ## The subcore's own buffers and semaphores, the named ones apart -/

def semEmb : SemLoc sig ↪ GSem nD τ sig := ⟨fun s => (th d L, s), fun _ _ h => (Prod.mk.inj h).2⟩
def semList : Finset (SemLoc sig) :=
  {.dma cc0_scratch7.sem, .dma cc0_scratch8.sem, .dma cc0_scratch9.sem, .dma cc0_scratch10.sem, .dma cc0_scratch11.sem, .dma cc0_scratch12.sem,
    .dma cc0_scratch13.sem, .dma cc0_scratch14.sem, .dma cc0_scratch15.sem, .dma cc0_scratch16.sem, .dma cc0_scoped0.sem}
def restSems : sProp 𝕄 := bigSep (ownCells (th d L) \ semList.map (semEmb d L)) fun g => semVal g 0

theorem sep_last {A1 A2 A3 A4 A5 A6 A7 A8 A9 A10 A11 : sProp 𝕄} : iprop(A1 ∗ A2 ∗ A3 ∗ A4 ∗ A5 ∗ A6 ∗ A7 ∗ A8 ∗ A9 ∗ A10 ∗ A11) = (iprop((A1 ∗ A2 ∗ A3 ∗ A4 ∗ A5 ∗ A6 ∗ A7 ∗ A8 ∗ A9 ∗ A10) ∗ A11) : sProp 𝕄) := by
  have h1 : iprop(A1 ∗ A2 ∗ A3 ∗ A4 ∗ A5 ∗ A6 ∗ A7 ∗ A8 ∗ A9 ∗ A10 ∗ A11) ⊢ (iprop((A1 ∗ A2 ∗ A3 ∗ A4 ∗ A5 ∗ A6 ∗ A7 ∗ A8 ∗ A9 ∗ A10) ∗ A11) : sProp 𝕄) := by
    iintro ⟨H1, H2, H3, H4, H5, H6, H7, H8, H9, H10, H11⟩
    isplitr [H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    iexact H11
  have h2 : (iprop((A1 ∗ A2 ∗ A3 ∗ A4 ∗ A5 ∗ A6 ∗ A7 ∗ A8 ∗ A9 ∗ A10) ∗ A11) : sProp 𝕄) ⊢ iprop(A1 ∗ A2 ∗ A3 ∗ A4 ∗ A5 ∗ A6 ∗ A7 ∗ A8 ∗ A9 ∗ A10 ∗ A11) := by
    iintro ⟨⟨H1, H2, H3, H4, H5, H6, H7, H8, H9, H10⟩, H11⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  exact BI.equiv_iff.mp ⟨h1, h2⟩

theorem ownSems0_eq : (ownSems0 (th d L) : sProp 𝕄) = iprop((sems10 (F := F) d L ∗ sem0 (F := F) d L cc0_scoped0.sem) ∗ restSems (F := F) d L) := by
  have hsub : semList.map (semEmb d L) ⊆ ownCells (th d L) := by
    intro g hg
    obtain ⟨s, hs, rfl⟩ := Finset.mem_map.mp hg
    refine mem_ownCells.mpr ⟨rfl, ?_⟩
    show s.isScoped .scVector = true
    exact (show ∀ s ∈ semList, s.isScoped .scVector = true by decide) s hs
  unfold SparseCore.Cfg.ownSems0
  rw [SparseCore.bigSep_sdiff_split' hsub]
  refine congrArg₂ _ ?_ rfl
  rw [BI.bigSep_map]
  unfold semList
  repeat rw [SparseCore.bigSep_insert' (by decide)]
  rw [BI.bigSep_singleton]
  unfold sems10 sem0 semEmb
  exact sep_last

def refEmb : Ref sig .scVector ↪ DevRef τ sig := ⟨(Proc.scVector (cV L) (jV L)).devRef, Proc.devRef_injective _⟩
def refList : Finset (Ref sig .scVector) := {cc0_scratch0, cc0_scratch1, cc0_scratch2, cc0_scratch3, cc0_scratch4, cc0_scratch5, cc0_scratch6}
def restBufs : sProp 𝕄 := bigSep (ownRefs (τ := τ) (.scVector (cV L) (jV L)) \ refList.map (refEmb L)) fun b => iprop(∃ f, ((d, b) : Loc nD τ sig) ↦{fullShare} f)
def anyB (r : Ref sig .scVector) : sProp 𝕄 := iprop(∃ f, (th d L).loc r ↦{fullShare} f)

theorem ownBufs_eq : (ownBufs (th d L) : sProp 𝕄) = iprop((anyB (F := F) d L cc0_scratch0 ∗ anyB (F := F) d L cc0_scratch1 ∗ anyB (F := F) d L cc0_scratch2
    ∗ anyB (F := F) d L cc0_scratch3 ∗ anyB (F := F) d L cc0_scratch4 ∗ anyB (F := F) d L cc0_scratch5 ∗ anyB (F := F) d L cc0_scratch6) ∗ restBufs (F := F) d L) := by
  have hsub : refList.map (refEmb L) ⊆ ownRefs (τ := τ) (.scVector (cV L) (jV L)) := by
    intro g hg
    obtain ⟨s, hs, rfl⟩ := Finset.mem_map.mp hg
    refine SparseCore.Cfg.mem_ownRefs_of_owner ?_
    show ((Proc.scVector (cV L) (jV L)).devRef s).owner = _
    unfold refList at hs
    simp only [Finset.mem_insert, Finset.mem_singleton] at hs
    rcases hs with rfl | rfl | rfl | rfl | rfl | rfl | rfl <;> rfl
  unfold SparseCore.Cfg.ownBufs
  refine (SparseCore.bigSep_sdiff_split' hsub).trans ?_
  refine congrArg₂ _ ?_ rfl
  rw [BI.bigSep_map]
  unfold refList
  repeat rw [SparseCore.bigSep_insert' (by decide)]
  rw [BI.bigSep_singleton]
  rfl

/-! ## The task -/

theorem toks2 {ℓ : Loc nD τ sig} {f : Buf (Elt F) ℓ} (q : PosShare TreeShare) :
    (ℓ ↦{q} f : sProp 𝕄) ⊢ iprop((ℓ ↦{Transfers.shareTokN q 0} f) ∗ (ℓ ↦{Transfers.shareTokN q 1} f)) := by
  refine (Transfers.pointsTo_toks_range q 2).1.trans (sep_elim_right.trans ?_)
  rw [show Finset.range 2 = {0, 1} from rfl, SparseCore.bigSep_insert' (by decide), BI.bigSep_singleton]

theorem toks6 (P : FVec F S1572864 .f32) (q : PosShare TreeShare) :
    ((SparseCore.T d).loc main_v1 ↦{q} P : sProp 𝕄) ⊢ iprop(srcP d L P (Transfers.shareTokN q 0) ∗ srcP d L P (Transfers.shareTokN q 1) ∗ srcP d L P (Transfers.shareTokN q 2)
      ∗ srcP d L P (Transfers.shareTokN q 3) ∗ srcP d L P (Transfers.shareTokN q 4) ∗ srcP d L P (Transfers.shareTokN q 5)) := by
  refine (Transfers.pointsTo_toks_range q 6).1.trans (sep_elim_right.trans ?_)
  rw [show Finset.range 6 = {0, 1, 2, 3, 4, 5} from rfl]
  repeat rw [SparseCore.bigSep_insert' (by decide)]
  rw [BI.bigSep_singleton]
  exact .rfl

theorem zero_start : (iprop(∃ f, (th d L).loc cc0_scratch5 ↦{fullShare} f) : sProp 𝕄) ⊢ zeroTo d L 0 := by
  unfold zeroTo accPts
  iintro ⟨%f, H⟩
  iexists f
  isplitr; · ipureintro; exact fun i h => absurd h (by omega)
  iexact H

theorem OW_start {O : CellTallies nD τ sig (HIx 1)} {W : Waits sig (HIx 1)} : (owes (th d L) O W : sProp 𝕄) ⊢ OW d L O W := by
  unfold OW
  iintro H
  iexists W
  isplitr; · ipureintro; exact fun p hp => .inl hp
  iexact H

theorem heldAll_elim (P : FVec F S1572864 .f32) (Qa : FVec F S524288 .f32) (Ba : Vec F S524288 .i32) :
    (heldAll d L P Qa Ba (wid L) : sProp 𝕄) ⊢ iprop(anyB (F := F) d L cc0_scratch0 ∗ anyB (F := F) d L cc0_scratch1 ∗ anyB (F := F) d L cc0_scratch2
      ∗ anyB (F := F) d L cc0_scratch3 ∗ anyB (F := F) d L cc0_scratch4) := by
  unfold heldAll anyB
  iintro ⟨H0a, H1a, H2a, H3a, H4a, H0b, H1b, H2b, H3b, H4b⟩
  isplitl [H0a H0b]; · iapply (join_half d L m6 (View.set_whole _)) $$ [H0a H0b]; isplitl [H0a] <;> iassumption
  isplitl [H1a H1b]; · iapply (join_half d L m7 (View.set_whole _)) $$ [H1a H1b]; isplitl [H1a] <;> iassumption
  isplitl [H2a H2b]; · iapply (join_half d L m8 (View.set_whole _)) $$ [H2a H2b]; isplitl [H2a] <;> iassumption
  isplitl [H3a H3b]; · iapply (join_half d L m9 (View.set_whole _)) $$ [H3a H3b]; isplitl [H3a] <;> iassumption
  iapply (join_half d L m10 (View.set_whole _)) $$ [H4a H4b]; isplitl [H4a] <;> iassumption

theorem tile_open (P : FVec F S1572864 .f32) (Qa : FVec F S524288 .f32) (Ba : Vec F S524288 .i32) (q : PosShare TreeShare) (f0 : FVec F S32x512 .f32) (O : CellTallies nD τ sig (HIx 1)) (W : Waits sig (HIx 1)) :
    iprop(levAts (K (F := F)).L (K (F := F)).lev ∗ emp ∗ tileIn d P Qa Ba q (wid L) f0
      ∗ ((anyB (F := F) d L cc0_scratch0 ∗ anyB (F := F) d L cc0_scratch1 ∗ anyB (F := F) d L cc0_scratch2
        ∗ anyB (F := F) d L cc0_scratch3 ∗ anyB (F := F) d L cc0_scratch4 ∗ anyB (F := F) d L cc0_scratch5 ∗ anyB (F := F) d L cc0_scratch6) ∗ restBufs (F := F) d L)
      ∗ ((sems10 (F := F) d L ∗ sem0 (F := F) d L cc0_scoped0.sem) ∗ restSems (F := F) d L) ∗ owes (th d L) O W)
    ⊢ iprop(levAts (K (F := F)).L (K (F := F)).lev ∗ srcP d L P (Transfers.shareTokN q 0) ∗ srcP d L P (Transfers.shareTokN q 1) ∗ srcP d L P (Transfers.shareTokN q 2) ∗ srcP d L P (Transfers.shareTokN q 3) ∗ srcP d L P (Transfers.shareTokN q 4) ∗ srcP d L P (Transfers.shareTokN q 5) ∗ srcQ d L Qa (Transfers.shareTokN q 0) ∗ srcQ d L Qa (Transfers.shareTokN q 1) ∗ srcB d L Ba (Transfers.shareTokN q 0) ∗ srcB d L Ba (Transfers.shareTokN q 1) ∗ anyS (F := F) d L m6 half0.set ∗ anyS (F := F) d L m6 half1.set ∗ anyS (F := F) d L m7 half0.set ∗ anyS (F := F) d L m7 half1.set ∗ anyS (F := F) d L m8 half0.set ∗ anyS (F := F) d L m8 half1.set ∗ anyS (F := F) d L m9 half0.set ∗ anyS (F := F) d L m9 half1.set ∗ anyS (F := F) d L m10 half0.set ∗ anyS (F := F) d L m10 half1.set ∗ zeroTo (F := F) d L 0 ∗ (∃ r, resPts (F := F) d L r) ∗ sems10 (F := F) d L ∗ OW (F := F) d L O W ∗ levAts (K (F := F)).L (K (F := F)).lev ∗ (oLoc d ↦[rowS (wid L)]{fullShare} f0) ∗ sem0 d L cc0_scoped0.sem ∗ restSems (F := F) d L ∗ restBufs (F := F) d L) := by
  unfold tileIn
  unfold anyB resPts srcQ srcB
  iintro ⟨#Hlv, -, ⟨HP, HQ, HB, Hrow⟩, ⟨⟨H0, H1, H2, H3, H4, H5, H6⟩, Hbufs⟩, ⟨⟨Hs, Hv⟩, Hsems⟩, HO⟩
  ihave HP := (toks6 d L P q) $$ HP
  ihave HQ := (toks2 (ℓ := (SparseCore.T d).loc main_arg1) (f := Qa) q) $$ HQ
  ihave HB := (toks2 (ℓ := (SparseCore.T d).loc main_arg2) (f := Ba) q) $$ HB
  icases HP with ⟨HP0, HP1, HP2, HP3, HP4, HP5⟩
  icases HQ with ⟨HQ0, HQ1⟩
  icases HB with ⟨HB0, HB1⟩
  ihave H0 := (split_half d L m6 (View.set_whole _)) $$ H0
  ihave H1 := (split_half d L m7 (View.set_whole _)) $$ H1
  ihave H2 := (split_half d L m8 (View.set_whole _)) $$ H2
  ihave H3 := (split_half d L m9 (View.set_whole _)) $$ H3
  ihave H4 := (split_half d L m10 (View.set_whole _)) $$ H4
  icases H0 with ⟨H0a, H0b⟩
  icases H1 with ⟨H1a, H1b⟩
  icases H2 with ⟨H2a, H2b⟩
  icases H3 with ⟨H3a, H3b⟩
  icases H4 with ⟨H4a, H4b⟩
  isplitr; · iexact Hlv
  isplitl [HP0]; · iexact HP0
  isplitl [HP1]; · iexact HP1
  isplitl [HP2]; · iexact HP2
  isplitl [HP3]; · iexact HP3
  isplitl [HP4]; · iexact HP4
  isplitl [HP5]; · iexact HP5
  isplitl [HQ0]; · iexact HQ0
  isplitl [HQ1]; · iexact HQ1
  isplitl [HB0]; · iexact HB0
  isplitl [HB1]; · iexact HB1
  isplitl [H0a]; · iexact H0a
  isplitl [H0b]; · iexact H0b
  isplitl [H1a]; · iexact H1a
  isplitl [H1b]; · iexact H1b
  isplitl [H2a]; · iexact H2a
  isplitl [H2b]; · iexact H2b
  isplitl [H3a]; · iexact H3a
  isplitl [H3b]; · iexact H3b
  isplitl [H4a]; · iexact H4a
  isplitl [H4b]; · iexact H4b
  isplitl [H5]; · iapply (zero_start d L); iexact H5
  isplitl [H6]; · iexact H6
  isplitl [Hs]; · iexact Hs
  isplitl [HO]; · iapply (OW_start d L); iexact HO
  isplitr; · iexact Hlv
  isplitl [Hrow]; · iexact Hrow
  isplitl [Hv]; · iexact Hv
  isplitl [Hsems] <;> iassumption

theorem tile_close (P : FVec F S1572864 .f32) (Qa : FVec F S524288 .f32) (Ba : Vec F S524288 .i32) (O : CellTallies nD τ sig (HIx 1)) (W : Waits sig (HIx 1)) :
    iprop(tileOut d P Qa Ba (wid L) ∗ (∃ A, accPts (F := F) d L A) ∗ (∃ r, resPts (F := F) d L r) ∗ heldAll d L P Qa Ba (wid L)
        ∗ sems10 (F := F) d L ∗ sem0 (F := F) d L cc0_scoped0.sem ∗ OW (F := F) d L O W ∗ restSems (F := F) d L ∗ restBufs (F := F) d L)
    ⊢ iprop(tileOut d P Qa Ba (wid L) ∗ ((anyB (F := F) d L cc0_scratch0 ∗ anyB (F := F) d L cc0_scratch1 ∗ anyB (F := F) d L cc0_scratch2
        ∗ anyB (F := F) d L cc0_scratch3 ∗ anyB (F := F) d L cc0_scratch4 ∗ anyB (F := F) d L cc0_scratch5 ∗ anyB (F := F) d L cc0_scratch6) ∗ restBufs (F := F) d L)
      ∗ ((sems10 (F := F) d L ∗ sem0 (F := F) d L cc0_scoped0.sem) ∗ restSems (F := F) d L) ∗ ∃ W', ⌜∀ p ∈ W', p ∈ W ∨ p.2 = none⌝ ∗ owes (th d L) O W') := by
  iintro ⟨Hout, H5, H6, Hh, Hs, Hv, HO, Hsems, Hbufs⟩
  ihave Hh := (heldAll_elim d L P Qa Ba) $$ Hh
  icases Hh with ⟨H0, H1, H2, H3, H4⟩
  isplitl [Hout]; · iexact Hout
  isplitl [H0 H1 H2 H3 H4 H5 H6 Hbufs]
  · isplitr [Hbufs]
    · isplitl [H0]; · iexact H0
      isplitl [H1]; · iexact H1
      isplitl [H2]; · iexact H2
      isplitl [H3]; · iexact H3
      isplitl [H4]; · iexact H4
      isplitl [H5]; · unfold anyB accPts; iexact H5
      unfold anyB resPts; iexact H6
    iexact Hbufs
  isplitl [Hs Hv Hsems]
  · isplitr [Hsems]
    · isplitl [Hs] <;> iassumption
    iexact Hsems
  iapply (OW_elim d L); iexact HO

theorem tile_body (P : FVec F S1572864 .f32) (Qa : FVec F S524288 .f32) (Ba : Vec F S524288 .i32) (hB : ∀ i, (Ba i).toNat < 64) (q : PosShare TreeShare)
    (f0 : FVec F S32x512 .f32) (O : CellTallies nD τ sig (HIx 1)) (W : Waits sig (HIx 1)) (hO : ∀ g, O g none = 0) :
    iprop(levAts (K (F := F)).L (K (F := F)).lev ∗ emp ∗ tileIn d P Qa Ba q (wid L) f0
        ∗ scopedBufs (th d L) ∗ scopedSems0 (th d L) ∗ owes (th d L) O W)
      ⊢ WP (cc0__tec_body L (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0) fun _ => iprop(tileOut d P Qa Ba (wid L) ∗ scopedBufs (th d L) ∗ scopedSems0 (th d L)
            ∗ ∃ W', ⌜∀ p ∈ W', p ∈ W ∨ p.2 = none⌝ ∗ owes (th d L) O W') := by
  rw [(K (F := F)).scopedBufs_V facts d (cV L) (jV L), SparseCore.Cfg.scopedSems0_V (Val := Elt F) d (cV L) (jV L), ownSems0_eq, ownBufs_eq]
  refine (BI.Entails.trans ?_ (body_walk d L _ (head_wp d L P Qa Ba O W hO hB (R := iprop(levAts (K (F := F)).L (K (F := F)).lev ∗ (oLoc d ↦[rowS (wid L)]{fullShare} f0)
    ∗ sem0 d L cc0_scoped0.sem ∗ restSems (F := F) d L ∗ restBufs (F := F) d L)) (p0 := Transfers.shareTokN q 0) (p1 := Transfers.shareTokN q 1) (p2 := Transfers.shareTokN q 2)
    (p3 := Transfers.shareTokN q 3) (p4 := Transfers.shareTokN q 4) (p5 := Transfers.shareTokN q 5) (q0 := Transfers.shareTokN q 0) (q1 := Transfers.shareTokN q 1)
    (b0 := Transfers.shareTokN q 0) (b1 := Transfers.shareTokN q 1)) (send_wp d L P Qa Ba hO))).trans (wp_mono frame _ _ fun _ => ?_)
  · exact tile_open d L P Qa Ba q f0 O W
  · exact tile_close d L P Qa Ba O W

end Cert.Proof.Pol

end
-- ==== Proof.Sums.lean ====
/-
  The tables and the result rows at the extended reals: each entry of a worker's table is a sum over the worker's
  atoms, and each entry of its result row is such a sum over all sixteen lanes.
-/
module

public import proofs.«01_k».proof.Proof.Tile
public import Idealize.ShloMosaic.PureOps.Ideal.Laws

@[expose] public section

noncomputable section

namespace Cert.Proof.Pol

open Cert.KernelIdeal Cert.KernelIdeal.Gen
open Idealize.ShloMosaic

/-! ## One scatter-add -/

/-- A fold of conditional additions at one place is the place's first value and the sum of what lands there. -/
theorem fold_add {J K : Type} (land : K → J → Prop) [∀ k j, Decidable (land k j)] (w : K → EReal) (g : (J → EReal) → K → J → EReal)
    (hg : ∀ A k j, g A k j = if land k j then A j + w k else A j) (l : List K) (A : J → EReal) (j : J) :
    l.foldl g A j = A j + (l.map fun k => if land k j then w k else 0).sum := by
  induction l generalizing A with
  | nil => simp
  | cons k l ih =>
    rw [List.foldl_cons, ih, hg, List.map_cons, List.sum_cons]
    split_ifs
    · rw [add_assoc]
    · rw [zero_add]

/-- The scatter-add at the extended reals: each entry gains the lanes whose index it is. -/
theorem addAt_apply (A : FVec Ideal S6144 .f32) (v : IVec S16 32) (w : FVec Ideal S16 .f32) (hv : ∀ x, (v x).toNat < 6144)
    (n : ℕ) (hn : n < 6144) :
    (addAt A v w (ix6144 n hn) : EReal) = A (ix6144 n hn) + ∑ k : Fin 16, (if (v (ix16 k.val k.isLt)).toNat = n then (w (ix16 k.val k.isLt) : EReal) else 0) := by
  have h : ∀ (a : Fin 1) x, ((![v] : Fin 1 → IVec S16 32) a x).toNat < S6144.size a := by
    intro a x
    obtain rfl : a = 0 := Subsingleton.elim _ _
    exact hv x
  unfold addAt
  rw [dif_pos h]
  have key := fold_add (J := S6144.Idx) (K := Fin 16) (fun k j => ∀ a, (j a).val = (idxAt (s := S6144) ![v] h (ix16 k.val k.isLt) a).val)
    (fun k => (w (ix16 k.val k.isLt) : EReal))
    (fun g k j => if (∀ a, (j a).val = (idxAt (s := S6144) ![v] h (ix16 k.val k.isLt) a).val) then g (idxAt (s := S6144) ![v] h (ix16 k.val k.isLt)) + w (ix16 k.val k.isLt) else g j)
    (by
      intro B k j
      dsimp only
      split_ifs with hc
      · rw [show j = idxAt (s := S6144) ![v] h (ix16 k.val k.isLt) from funext fun a => Fin.ext (hc a)]
      · rfl)
    (List.finRange 16) A (ix6144 n hn)
  refine Eq.trans ?_ (key.trans ?_)
  · show storeIdx (F := Ideal) (e := .f32) A ![v] w (fun _ => 1#1) true h (ix6144 n hn) = _
    unfold storeIdx
    refine congrFun (congrArg (fun f => List.foldl f A (List.finRange 16)) ?_) (ix6144 n hn)
    funext g k
    exact (if_pos rfl).trans (funext fun j => by
      by_cases hc : ∀ a, (j a).val = (idxAt (s := S6144) ![v] h (ix16 k.val k.isLt) a).val
      · exact (if_pos hc).trans (if_pos hc).symm
      · exact (if_neg hc).trans (if_neg hc).symm)
  · congr 1
    rw [← List.ofFn_eq_map, List.sum_ofFn]
    refine Finset.sum_congr rfl fun k _ => ?_
    refine if_congr ⟨fun hc => (hc 0).symm, fun hc a => ?_⟩ rfl rfl
    obtain rfl : a = 0 := Subsingleton.elim _ _
    exact hc.symm

/-! ## One trip -/

/-- What one atom of lane `k` adds to each of the six tables: the three moments, then the three coordinates. -/
def val6 (x y z q : S16.Idx → EReal) (c : ℕ) : S16.Idx → EReal := fun i =>
  if c = 0 then q i * x i else if c = 1 then q i * y i else if c = 2 then q i * z i else if c = 3 then x i else if c = 4 then y i else z i

/-- The scatter-add of table `c` at entry `(c', g, l)`. -/
theorem add_at (A : FVec Ideal S6144 .f32) (v b : IVec S16 32) (w : FVec Ideal S16 .f32) (hb : ∀ x, (b x).toNat < 64) (c : ℕ) (hc : c < 6)
    (hv : ∀ x : S16.Idx, (v x).toNat = 16 * (b x).toNat + (x 0).val + 1024 * c) (c' g l : ℕ) (hc' : c' < 6) (hg : g < 64) (hl : l < 16) :
    (addAt A v w (ix6144 (1024 * c' + 16 * g + l) (by omega)) : EReal)
      = A (ix6144 (1024 * c' + 16 * g + l) (by omega)) + if c = c' ∧ (b (ix16 l hl)).toNat = g then (w (ix16 l hl) : EReal) else 0 := by
  rw [addAt_apply A v w (fun x => by have := hb x; have hx : (x 0).val < 16 := (x 0).isLt; rw [hv]; omega)]
  congr 1
  rw [Finset.sum_eq_single (⟨l, hl⟩ : Fin 16)]
  · refine if_congr ?_ rfl rfl
    rw [hv]
    have := hb (ix16 l hl)
    show 16 * (b (ix16 l hl)).toNat + l + 1024 * c = _ ↔ _
    constructor
    · intro h; constructor <;> omega
    · rintro ⟨rfl, h⟩; omega
  · intro k _ hk
    rw [if_neg]
    rw [hv]
    have := hb (ix16 k.val k.isLt)
    show ¬ (16 * (b (ix16 k.val k.isLt)).toNat + k.val + 1024 * c = _)
    intro h
    exact hk (Fin.ext (by have := k.isLt; show k.val = l; omega))
  · intro h; exact absurd (Finset.mem_univ _) h

theorem stepA_at (A : FVec Ideal S6144 .f32) (x y z q : FVec Ideal S16 .f32) (b : IVec S16 32) (hb : ∀ x, (b x).toNat < 64)
    (c g l : ℕ) (hc : c < 6) (hg : g < 64) (hl : l < 16) :
    (stepA A x y z q b (ix6144 (1024 * c + 16 * g + l) (by omega)) : EReal)
      = A (ix6144 (1024 * c + 16 * g + l) (by omega)) + if (b (ix16 l hl)).toNat = g then val6 x y z q c (ix16 l hl) else 0 := by
  unfold stepA k0_pay4 k0_pay6 k0_pay8 k0_pay9 k0_pay10
  dsimp only
  rw [add_at _ (addi (k0_pay2 (F := Ideal) laneI b) (broadcast S16 5120#32)) b _ hb 5 (by decide) (fun i => addr_lt b hb 5120#32 (by decide) i) c g l hc hg hl,
    add_at _ (addi (k0_pay2 (F := Ideal) laneI b) (broadcast S16 4096#32)) b _ hb 4 (by decide) (fun i => addr_lt b hb 4096#32 (by decide) i) c g l hc hg hl,
    add_at _ (addi (k0_pay2 (F := Ideal) laneI b) (broadcast S16 3072#32)) b _ hb 3 (by decide) (fun i => addr_lt b hb 3072#32 (by decide) i) c g l hc hg hl,
    add_at _ (addi (k0_pay2 (F := Ideal) laneI b) (broadcast S16 2048#32)) b _ hb 2 (by decide) (fun i => addr_lt b hb 2048#32 (by decide) i) c g l hc hg hl,
    add_at _ (addi (k0_pay2 (F := Ideal) laneI b) (broadcast S16 1024#32)) b _ hb 1 (by decide) (fun i => addr_lt b hb 1024#32 (by decide) i) c g l hc hg hl,
    add_at _ _ b _ hb 0 (by decide) (fun i => addr0 b hb i) c g l hc hg hl]
  have h6 : c = 0 ∨ c = 1 ∨ c = 2 ∨ c = 3 ∨ c = 4 ∨ c = 5 := by omega
  by_cases hbl : (b (ix16 l hl)).toNat = g
  · rcases h6 with rfl | rfl | rfl | rfl | rfl | rfl <;> simp [hbl, val6] <;> rfl
  · simp [hbl]

/-! ## A worker's tables and charge sums -/

theorem at0 (n : ℕ) (h : n < 16) (i : ℕ) (hi : i < 1024) : at16384 (16 * i + (ix16 n h 0).val) = at16384 (16 * i + n) := rfl

/-- The atom's six values, from the flat chunks. -/
def val6c (X Y Z Q : S16384.Idx → EReal) (c : ℕ) : S16384.Idx → EReal := fun i =>
  if c = 0 then Q i * X i else if c = 1 then Q i * Y i else if c = 2 then Q i * Z i else if c = 3 then X i else if c = 4 then Y i else Z i

theorem zero_f32 : (Scalar.ofBits (F := Ideal) .f32 0x00000000#32 : EReal) = 0 := Ideal.ofBits_zero_f32

theorem accN_at (X Y Z Q : FVec Ideal S16384 .f32) (B : IVec S16384 32) (hB : ∀ i, (B i).toNat < 64) (c g l : ℕ) (hc : c < 6)
    (hg : g < 64) (hl : l < 16) (n : ℕ) :
    (accN X Y Z Q B n (ix6144 (1024 * c + 16 * g + l) (by omega)) : EReal)
      = ∑ t ∈ Finset.range n, if (B (at16384 (16 * t + l))).toNat = g then val6c X Y Z Q c (at16384 (16 * t + l)) else 0 := by
  induction n with
  | zero => rw [Finset.sum_range_zero]; exact zero_f32
  | succ n ih =>
    rw [Finset.sum_range_succ, ← ih]
    exact stepA_at _ _ _ _ _ _ (fun x => hB _) c g l hc hg hl

theorem qsumN_at (Q : FVec Ideal S16384 .f32) (l : ℕ) (hl : l < 16) (n : ℕ) :
    (qsumN Q n (ix16 l hl) : EReal) = ∑ t ∈ Finset.range n, (Q (at16384 (16 * t + l)) : EReal) := by
  induction n with
  | zero => rw [Finset.sum_range_zero]; exact zero_f32
  | succ n ih => rw [Finset.sum_range_succ, ← ih]; rfl

/-! ## The result row -/

theorem rowSum_at (A : FVec Ideal S6144 .f32) (n : ℕ) (hn : n < 24) (j : ℕ) (hj : j < 16) :
    (rowSum A n (ix16 j hj) : EReal) = ∑ l : Fin 16, (A (ix6144 (16 * (16 * n + j) + l.val) (by omega)) : EReal) := by
  have hcol : ∀ l : ℕ, (hl : l < 16) → (gatv A (colIdx n l) (ix16 j hj) : EReal) = A (ix6144 (16 * (16 * n + j) + l) (by omega)) := by
    intro l hl
    unfold gatv
    congr 1
    funext a
    apply Fin.ext
    show (BitVec.ofNat 32 (0 * 16 + j) * 16#32 + BitVec.ofNat 32 (256 * n + l)).toNat % 6144 = _
    simp only [BitVec.toNat_add, BitVec.toNat_mul, BitVec.toNat_ofNat]
    show _ = 16 * (16 * n + j) + l
    omega
  have hfold : ∀ (ls : List ℕ) (s : FVec Ideal S16 .f32), (ls.foldl (fun s l => addf s (gatv A (colIdx n l))) s (ix16 j hj) : EReal)
      = s (ix16 j hj) + (ls.map fun l => (gatv A (colIdx n l) (ix16 j hj) : EReal)).sum := by
    intro ls
    induction ls with
    | nil => intro s; simp
    | cons l ls ih =>
      intro s
      rw [List.foldl_cons, ih, List.map_cons, List.sum_cons, ← add_assoc]
      rfl
  unfold rowSum
  rw [hfold, show (k0_pay1 (F := Ideal) (ix16 j hj) : EReal) = 0 from zero_f32, zero_add]
  rw [show [0, 1, 2, 3, 4, 5, 6, 7, 8, 9, 10, 11, 12, 13, 14, 15] = (List.finRange 16).map (fun k : Fin 16 => k.val) from by decide,
    List.map_map, ← List.ofFn_eq_map, List.sum_ofFn]
  exact Finset.sum_congr rfl fun l _ => hcol l.val l.isLt

theorem qsRow_at (v : FVec Ideal S16 .f32) (j : S16.Idx) :
    (qsRow v j : EReal) = ∑ l : Fin 16, (v (ix16 l.val l.isLt) : EReal) := by
  have h : ∀ k (hk : k < 16) (hs : S16.Slices ![k] S1), (extractAt ![0] (extractStridedSlice S1 ![k] v hs) inpos_S1_p0 : EReal) = v (ix16 k hk) := by
    intro k hk hs
    show (v _ : EReal) = v _
    congr 1
    funext a
    obtain rfl : a = 0 := Subsingleton.elim _ _
    exact Fin.ext (by simp)
  simp only [Fin.sum_univ_succ, Finset.univ_eq_empty, Finset.sum_empty]
  unfold qsRow k0_pay469 k0_pay468 k0_pay467
  dsimp only
  show (Scalar.addf (F := Ideal) (φ := .f32) _ _ : EReal) = _
  simp only [h 0 (by decide), h 1 (by decide), h 2 (by decide), h 3 (by decide), h 4 (by decide), h 5 (by decide), h 6 (by decide), h 7 (by decide), h 8 (by decide), h 9 (by decide), h 10 (by decide), h 11 (by decide), h 12 (by decide), h 13 (by decide), h 14 (by decide), h 15 (by decide)]
  simp only [Ideal.scalar_addf_def, add_assoc, add_zero]
  rfl

end Cert.Proof.Pol

end
-- ==== Proof.Launch.lean ====
/-
  The launch: what the call hands each task and takes back, and the task's obligation.
-/
module

public import proofs.«01_k».proof.Proof.Tile

@[expose] public section

noncomputable section

namespace Cert.Proof.Pol

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (ownBufs ownSems0 ownCells ownRefs mem_ownCells mem_ownRefs)
open Idealize.ShloMosaic.StableHlo
open Idealize.ShloMosaic.Rounds
open Idealize.ShloMosaic.Tactic

variable {F : FTy → Type} [FloatOps F]

local notation "𝕄" => MT nD τ sig (HIx 1) (Elt F) ℕ UU ℕ
variable (m : (ℓ : Loc nD τ sig) → Buf (Elt F) ℓ) (ρ : Dev nD → PrngReg)

/-! ## @main's host operations -/

/-- Before the call and after it. -/
def ops1 : List (HloOp τ sig (Elt F)) := [
    StableHlo.unary main_arg0 main_v0 ((transpose S3x524288 [1, 0] · transposes_S524288x3_S3x524288_1_0) : (⟨S524288x3, .f32⟩ : BufTy).Contents (Elt F) → (⟨S3x524288, .f32⟩ : BufTy).Contents (Elt F)),
    StableHlo.reshape main_v0 main_v1 (rfl : (.f32 : EltTy) = .f32) shapeCasts_S3x524288_S1572864]
def ops2 : List (HloOp τ sig (Elt F)) := [
    StableHlo.nullary main_cst (constant S_ .f32 0x00000000#32),
    StableHlo.binary main_v2 main_cst main_v3 ((fun x v => Host.reduceAdd x v reducesTo_S32x512_S512_d0 h_S_) : (⟨S32x512, .f32⟩ : BufTy).Contents (Elt F) → (⟨S_, .f32⟩ : BufTy).Contents (Elt F) → (⟨S512, .f32⟩ : BufTy).Contents (Elt F)),
    StableHlo.reshape main_v3 main_v4 (rfl : (.f32 : EltTy) = .f32) shapeCasts_S512_S8x64,
    StableHlo.unary main_v4 main_v5 ((extractStridedSlice S3x64 ![0, 0] · slices_S8x64_S3x64_0_0) : (⟨S8x64, .f32⟩ : BufTy).Contents (Elt F) → (⟨S3x64, .f32⟩ : BufTy).Contents (Elt F)),
    StableHlo.unary main_v4 main_v6 ((extractStridedSlice S1x64 ![6, 0] · slices_S8x64_S1x64_6_0) : (⟨S8x64, .f32⟩ : BufTy).Contents (Elt F) → (⟨S1x64, .f32⟩ : BufTy).Contents (Elt F)),
    StableHlo.reshape main_v6 main_v7 (rfl : (.f32 : EltTy) = .f32) shapeCasts_S1x64_S64,
    StableHlo.nullary main_cst_0 (constant S_ .f32 0x36000000#32),
    StableHlo.unary main_cst_0 main_v8 (broadcastInDim S64 ![] bcast_S_S64 : (⟨S_, .f32⟩ : BufTy).Contents (Elt F) → (⟨S64, .f32⟩ : BufTy).Contents (Elt F)),
    StableHlo.binary main_v7 main_v8 main_v9 (mulf : (⟨S64, .f32⟩ : BufTy).Contents (Elt F) → (⟨S64, .f32⟩ : BufTy).Contents (Elt F) → (⟨S64, .f32⟩ : BufTy).Contents (Elt F)),
    StableHlo.unary main_v4 main_v10 ((extractStridedSlice S3x64 ![3, 0] · slices_S8x64_S3x64_3_0) : (⟨S8x64, .f32⟩ : BufTy).Contents (Elt F) → (⟨S3x64, .f32⟩ : BufTy).Contents (Elt F)),
    StableHlo.unary main_v9 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S3x64 ![0, 1] bcast_S1x64_S3x64_0_1 : (⟨S1x64, .f32⟩ : BufTy).Contents (Elt F) → (⟨S3x64, .f32⟩ : BufTy).Contents (Elt F)),
    StableHlo.binary main_v12 main_v10 main_v13 (mulf : (⟨S3x64, .f32⟩ : BufTy).Contents (Elt F) → (⟨S3x64, .f32⟩ : BufTy).Contents (Elt F) → (⟨S3x64, .f32⟩ : BufTy).Contents (Elt F)),
    StableHlo.binary main_v5 main_v13 main_v14 (subf : (⟨S3x64, .f32⟩ : BufTy).Contents (Elt F) → (⟨S3x64, .f32⟩ : BufTy).Contents (Elt F) → (⟨S3x64, .f32⟩ : BufTy).Contents (Elt F)),
    StableHlo.unary main_v14 main_v15 ((transpose S64x3 [1, 0] · transposes_S3x64_S64x3_1_0) : (⟨S3x64, .f32⟩ : BufTy).Contents (Elt F) → (⟨S64x3, .f32⟩ : BufTy).Contents (Elt F)),
    StableHlo.nullary main_cst_1 (constant S_ .f32 0x3DD7D247#32),
    StableHlo.unary main_cst_1 main_v16 (broadcastInDim S64x3 ![] bcast_S_S64x3 : (⟨S_, .f32⟩ : BufTy).Contents (Elt F) → (⟨S64x3, .f32⟩ : BufTy).Contents (Elt F)),
    StableHlo.binary main_v15 main_v16 main_v17 (mulf : (⟨S64x3, .f32⟩ : BufTy).Contents (Elt F) → (⟨S64x3, .f32⟩ : BufTy).Contents (Elt F) → (⟨S64x3, .f32⟩ : BufTy).Contents (Elt F))]

theorem main_eq (d : Dev nD) : main (F := F) d = (seq (ops1 (F := F)) >>= fun _ => (sc (F := F)).run d 0 >>= fun _ => seq (ops2 (F := F)) >>= fun _ => pure ⟨⟩) := by
  rw [seq_bind_seqK, seq_bind_seqK]
  rfl

/-! ## What the call hands each task and takes back -/

abbrev x' : DevRef τ sig := Proc.devRef .tc (main_v1 : Ref sig .tc)
abbrev q' : DevRef τ sig := Proc.devRef .tc (main_arg1 : Ref sig .tc)
abbrev b' : DevRef τ sig := Proc.devRef .tc (main_arg2 : Ref sig .tc)
abbrev o' : DevRef τ sig := Proc.devRef .tc (main_v2 : Ref sig .tc)

/-- The launch valuation, and the one the call meets. -/
def V0 (d : Dev nD) : Valuation τ sig (Elt F) := fun b => m (d, b)
def V1 (d : Dev nD) : Valuation τ sig (Elt F) := after ops1 (V0 m d)

/-- The coordinates the call reads, the weights and the segment numbers. -/
def Pv (d : Dev nD) : FVec F S1572864 .f32 := V1 m d x'
def Qv (d : Dev nD) : FVec F S524288 .f32 := V1 m d q'
def Bv (d : Dev nD) : Vec F S524288 .i32 := V1 m d b'

/-- The read share of tile `i` of SparseCore `c`. -/
def tk (c i : ℕ) : PosShare TreeShare := Transfers.shareTokN (Transfers.shareTokN fullShare c) i

def goAt (d : Dev nD) (c i : ℕ) : sProp 𝕄 := tileIn d (Pv m d) (Qv m d) (Bv m d) (tk c i) (16 * c + i) (V1 m d o')
def tdAt (d : Dev nD) (c i : ℕ) : sProp 𝕄 := tileOut d (Pv m d) (Qv m d) (Bv m d) (16 * c + i)

instance goAt_storable (d : Dev nD) (c i : ℕ) : BI.Storable (upEmb : UEmb _ 𝕄) (goAt m d c i) := by unfold goAt tileIn; infer_instance
instance tdAt_storable (d : Dev nD) (c i : ℕ) : BI.Storable (upEmb : UEmb _ 𝕄) (tdAt m d c i) := by unfold tdAt tileOut; infer_instance

/-- A SparseCore is handed its tiles' shares and hands back their rows. -/
def P : (K (F := F)).Pay (nD := nD) (Val := Elt F) (Name := ℕ) (U := UU) where
  st := fun q d c => bigSep Finset.univ fun i : Fin ((K (F := F)).nSub q) => goAt m d c.val i.val
  dn := fun q d c => bigSep Finset.univ fun i : Fin ((K (F := F)).nSub q) => tdAt m d c.val i.val
  go := fun _ d c i => goAt m d c.val i.val
  td := fun _ d c i => tdAt m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

theorem vecSplit : (K (F := F)).VecSplit' (P m) 0 := by
  intro d c
  show iprop(bigSep Finset.univ fun i : Fin ((K (F := F)).nSub 0) => goAt m d c.val i.val) ⊢ |={Set.univ}=> iprop(
      (bigSep Finset.univ fun i : Fin ((K (F := F)).nSub 0) => goAt m d c.val i.val)
      ∗ ((bigSep Finset.univ fun i : Fin ((K (F := F)).nSub 0) => tdAt m d c.val i.val)
          -∗ bigSep Finset.univ fun i : Fin ((K (F := F)).nSub 0) => tdAt m d c.val i.val))
  iintro H; imodintro
  isplitl [H]; · iexact H
  iintro H; iexact H

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__tec_body (coordsV c s) (Memref.whole main_v1_scv) (Memref.isWhole_whole _) (Memref.whole main_arg1_scv) (Memref.isWhole_whole _) (Memref.whole main_arg2_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'; isplitr
  · ipureintro; exact fun p hp => (h p hp).imp_right Or.inl
  · iexact HO

set_option maxRecDepth 1024 in
theorem tileObl (hB : ∀ d i, (Bv m d i).toNat < 64) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (Pv m d) (Qv m d) (Bv m d) (hB d) (tk c.val i.val) (V1 m d o') O W hO).trans
    (wp_mono frame _ _ fun _ => obl_post)

/-! ## The launch element: the handshakes' rounds; nothing of the kernel's own -/

def u₀ : UU := (initOf (K (F := F)).hsCells (K (F := F)).hsToks, 1)

omit [FloatOps F] in
theorem sep_of_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [sep_of_emp]; iempintro
  unfold P; dsimp only
  rw [show (bigSep Finset.univ fun _ : Thread nD τ => bigSep Finset.univ fun _ : Fin 1 => (iprop(emp) : sProp 𝕄)) = iprop(emp) from by
    rw [bigSep_congr fun _ _ => sep_of_emp _, sep_of_emp]]
  iempintro

end Cert.Proof.Pol

end
-- ==== Proof.Main.lean ====
/-
  @main on the TensorCore, what its final assertion reads off the memory, and the whole program's run.
-/
module

public import proofs.«01_k».proof.Proof.Launch
public import Idealize.ShloMosaic.Lib.Pipeline.Frame

@[expose] public section

noncomputable section

namespace Cert.Proof.Pol

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (ownBufs ownSems0 ownCells ownRefs mem_ownCells mem_ownRefs)
open Idealize.ShloMosaic.StableHlo
open Idealize.ShloMosaic.Rounds
open Idealize.ShloMosaic.Tactic

variable {F : FTy → Type} [FloatOps F]

local notation "𝕄" => MT nD τ sig (HIx 1) (Elt F) ℕ UU ℕ
variable (m : (ℓ : Loc nD τ sig) → Buf (Elt F) ℓ) (ρ : Dev nD → PrngReg)

/-! ## The buffers the call touches -/

abbrev UC : Finset (DevRef τ sig) := Pipeline.ucRefs τ sig
abbrev T4 : Finset (DevRef τ sig) := {x', q', b', o'}
abbrev T3 : Finset (DevRef τ sig) := {x', q', b'}

abbrev a0' : DevRef τ sig := Proc.devRef .tc (main_arg0 : Ref sig .tc)
abbrev a3' : DevRef τ sig := Proc.devRef .tc (main_arg3 : Ref sig .tc)
abbrev r' : DevRef τ sig := Proc.devRef .tc (main_v17 : Ref sig .tc)
abbrev E3 : Finset (DevRef τ sig) := {a0', a3', r'}

theorem mem_UC (r : Ref sig .tc) (h : r.isScoped = false) : (Proc.devRef .tc r : DevRef τ sig) ∈ UC :=
  Finset.mem_filter.mpr ⟨devRef_mem_tcRefs r, by rw [show (Proc.devRef .tc r : DevRef τ sig).isScoped = r.isScoped from rfl, h]; decide⟩

theorem T4_sub : T4 ⊆ UC := by
  intro b hb
  simp only [Finset.mem_insert, Finset.mem_singleton] at hb
  rcases hb with rfl | rfl | rfl | rfl <;> exact mem_UC _ (by decide)

theorem o_mem : o' ∈ UC \ T3 := Finset.mem_sdiff.mpr ⟨mem_UC _ (by decide), by decide⟩

theorem E3_sub : E3 ⊆ UC \ T3 := by
  intro b hb
  simp only [Finset.mem_insert, Finset.mem_singleton] at hb
  rcases hb with rfl | rfl | rfl <;> exact Finset.mem_sdiff.mpr ⟨mem_UC _ (by decide), by decide⟩

theorem rest_eq : (UC \ T3).erase o' = UC \ T4 := by
  ext b; simp only [Finset.mem_erase, Finset.mem_sdiff, Finset.mem_insert, Finset.mem_singleton]; tauto

section
omit [FloatOps F]

theorem held_T4 (d : Dev nD) (W : Valuation τ sig (Elt F)) :
    (held (SparseCore.T d) T4 W : sProp 𝕄) = iprop(((SparseCore.T d).loc main_v1 ↦{fullShare} W x') ∗ ((SparseCore.T d).loc main_arg1 ↦{fullShare} W q')
      ∗ ((SparseCore.T d).loc main_arg2 ↦{fullShare} W b') ∗ oLoc d ↦{fullShare} W o') := by
  unfold held
  rw [SparseCore.bigSep_insert' (by decide), SparseCore.bigSep_insert' (by decide), SparseCore.bigSep_insert' (by decide), bigSep_singleton]

theorem held_E3 (d : Dev nD) (W : Valuation τ sig (Elt F)) :
    (held (SparseCore.T d) E3 W : sProp 𝕄) = iprop(((SparseCore.T d).loc main_arg0 ↦{fullShare} W a0') ∗ ((SparseCore.T d).loc main_arg3 ↦{fullShare} W a3')
      ∗ (SparseCore.T d).loc main_v17 ↦{fullShare} W r') := by
  unfold held
  rw [SparseCore.bigSep_insert' (by decide), SparseCore.bigSep_insert' (by decide), bigSep_singleton]

/-- The result array put back beside the buffers the call did not touch. -/
theorem held_back (d : Dev nD) (W : Valuation τ sig (Elt F)) (f : FVec F S32x512 .f32) :
    (held (SparseCore.T d) (UC \ T3) (Function.update W o' f) : sProp 𝕄)
      = iprop((oLoc d ↦{fullShare} f) ∗ held (SparseCore.T d) (UC \ T4) W) := by
  have h : (held (SparseCore.T d) (UC \ T4) (Function.update W o' f) : sProp 𝕄) = held (SparseCore.T d) (UC \ T4) W :=
    held_congr _ fun b hb => Function.update_of_ne (fun e => (Finset.mem_sdiff.mp hb).2 (by rw [e]; decide)) _ _
  rw [← h]
  unfold held
  rw [SparseCore.bigSep_erase' o_mem, rest_eq, Function.update_self]

/-! ## Shares of the inputs, rows of the output -/

/-- A whole array split into what stays and a read share for every tile. -/
theorem shares (ℓ : Loc nD τ sig) (f : Buf (Elt F) ℓ) :
    (ℓ ↦{fullShare} f : sProp 𝕄) ⊢ iprop((ℓ ↦{Transfers.shareDrop fullShare 2} f)
      ∗ bigSep Finset.univ fun c : Fin 2 => bigSep Finset.univ fun i : Fin 16 => ℓ ↦{tk c.val i.val} f) := by
  refine (Transfers.pointsTo_toks_split fullShare 2).trans (sep_mono_right (bigSep_mono fun c _ => ?_))
  exact (Transfers.pointsTo_toks_split _ 16).trans sep_elim_right

theorem rows_cover : (Finset.univ : Finset (Fin 2 × Fin 16)).biUnion (fun p => rowS (16 * p.1.val + p.2.val)) = Finset.univ := by
  ext j
  simp only [Finset.mem_biUnion, Finset.mem_univ, true_and, iff_true, rowS, Finset.mem_filter]
  have h : (j 0).val < 32 := (j 0).isLt
  exact ⟨(⟨(j 0).val / 16, by omega⟩, ⟨(j 0).val % 16, by omega⟩), by show (j 0).val = 16 * ((j 0).val / 16) + (j 0).val % 16; omega⟩

theorem rows_disjoint : ∀ p ∈ (Finset.univ : Finset (Fin 2 × Fin 16)), ∀ p' ∈ (Finset.univ : Finset (Fin 2 × Fin 16)), p ≠ p' →
    Disjoint (rowS (16 * p.1.val + p.2.val)) (rowS (16 * p'.1.val + p'.2.val)) := by
  intro p _ p' _ hne
  rw [Finset.disjoint_left]
  intro j hj hj'
  simp only [rowS, Finset.mem_filter, Finset.mem_univ, true_and] at hj hj'
  refine hne (Prod.ext (Fin.ext ?_) (Fin.ext ?_))
  · have := p.2.isLt; have := p'.2.isLt; omega
  · have := p.2.isLt; have := p'.2.isLt; omega

theorem rows (d : Dev nD) (f : FVec F S32x512 .f32) :
    (oLoc d ↦{fullShare} f : sProp 𝕄)
      = bigSep Finset.univ fun c : Fin 2 => bigSep Finset.univ fun i : Fin 16 => oLoc d ↦[rowS (16 * c.val + i.val)]{fullShare} f := by
  have h := pointsTo_biUnion (Val := Elt F) (Ix := HIx 1) (Name := ℕ) (U := UU) (Lvl := ℕ) (ℓ := oLoc d) (q := fullShare) (f := f)
    (Finset.univ : Finset (Fin 2 × Fin 16)) (fun p => rowS (16 * p.1.val + p.2.val)) rows_disjoint
  rw [rows_cover, BI.bigSep_univ_prod] at h
  exact h

end

/-- What the call is handed, from the four arrays whole. -/
theorem st0 (d : Dev nD) :
    iprop(((SparseCore.T d).loc main_v1 ↦{fullShare} Pv m d) ∗ ((SparseCore.T d).loc main_arg1 ↦{fullShare} Qv m d)
        ∗ ((SparseCore.T d).loc main_arg2 ↦{fullShare} Bv m d) ∗ oLoc d ↦{fullShare} V1 m d o')
      ⊢ iprop((bigSep Finset.univ fun c : Fin ((K (F := F)).nCore 0) => (P m).st 0 d c)
        ∗ ((SparseCore.T d).loc main_arg1 ↦{Transfers.shareDrop fullShare 2} Qv m d) ∗ ((SparseCore.T d).loc main_arg2 ↦{Transfers.shareDrop fullShare 2} Bv m d)) := by
  show _ ⊢ iprop((bigSep (Finset.univ : Finset (Fin 2)) fun c => bigSep (Finset.univ : Finset (Fin 16)) fun i => goAt m d c.val i.val) ∗ _)
  unfold goAt tileIn
  simp only [bigSep_sep']
  rw [← rows]
  iintro ⟨Hx, Hq, Hb, Ho⟩
  ihave Hx := (shares _ _) $$ Hx
  ihave Hq := (shares _ _) $$ Hq
  ihave Hb := (shares _ _) $$ Hb
  icases Hx with ⟨-, Hx⟩
  icases Hq with ⟨Hqk, Hq⟩
  icases Hb with ⟨Hbk, Hb⟩
  isplitr [Hqk Hbk]
  · isplitl [Hx]; · iexact Hx
    isplitl [Hq]; · iexact Hq
    isplitl [Hb]; · iexact Hb
    iexact Ho
  isplitl [Hqk]; · iexact Hqk
  iexact Hbk

/-- The 32 rows after the call, the result array whole. -/
abbrev outV (d : Dev nD) : FVec F S32x512 .f32 := outOf (Pv m d) (Qv m d) (Bv m d)

theorem dn0 (d : Dev nD) : (bigSep Finset.univ fun c : Fin ((K (F := F)).nCore 0) => (P m).dn 0 d c) = (oLoc d ↦{fullShare} outV m d : sProp 𝕄) := by
  show (bigSep (Finset.univ : Finset (Fin 2)) fun c => bigSep (Finset.univ : Finset (Fin 16)) fun i => tdAt m d c.val i.val) = _
  unfold tdAt tileOut
  rw [← rows]

/-! ## @main on the TensorCore -/

/-- The valuation the operations after the call start from, and the kernel's result. -/
def V2 (d : Dev nD) : Valuation τ sig (Elt F) := Function.update (V1 m d) o' (outV m d)
def V3 (d : Dev nD) : Valuation τ sig (Elt F) := after ops2 (V2 m d)

/-- The set of a list of references, as an operation's own set is written. -/
def toF : List (Ref sig .tc) → Finset (DevRef τ sig)
  | [] => ∅
  | [r] => {Proc.devRef .tc r}
  | r :: r' :: l => insert (Proc.devRef .tc r) (toF (r' :: l))

theorem mem_toF (b : DevRef τ sig) : ∀ l : List (Ref sig .tc), b ∈ toF l → ∃ r ∈ l, b = Proc.devRef .tc r
  | [], h => absurd h (Finset.notMem_empty _)
  | [r], h => ⟨r, List.mem_cons_self, Finset.mem_singleton.mp h⟩
  | r :: r' :: l, h => by
    rcases Finset.mem_insert.mp h with h | h
    · exact ⟨r, List.mem_cons_self, h⟩
    · obtain ⟨x, hx, e⟩ := mem_toF b (r' :: l) h
      exact ⟨x, List.mem_cons_of_mem _ hx, e⟩

/-- The references the operations before and after the call name. -/
def refs1 : List (List (Ref sig .tc)) := [[main_arg0, main_v0], [main_v0, main_v1]]
def refs2 : List (List (Ref sig .tc)) := [[main_cst],
    [main_v2, main_cst, main_v3],
    [main_v3, main_v4],
    [main_v4, main_v5],
    [main_v4, main_v6],
    [main_v6, main_v7],
    [main_cst_0],
    [main_cst_0, main_v8],
    [main_v7, main_v8, main_v9],
    [main_v4, main_v10],
    [main_v9, main_v11],
    [main_v11, main_v12],
    [main_v12, main_v10, main_v13],
    [main_v5, main_v13, main_v14],
    [main_v14, main_v15],
    [main_cst_1],
    [main_cst_1, main_v16],
    [main_v15, main_v16, main_v17]]

theorem ops1_bufs : (ops1 (F := F)).map HloOp.bufs = refs1.map toF := rfl
theorem ops2_bufs : (ops2 (F := F)).map HloOp.bufs = refs2.map toF := rfl

/-- An operation's buffers are those of its list. -/
theorem of_refs {ops : List (HloOp τ sig (Elt F))} {refs : List (List (Ref sig .tc))} (h : ops.map HloOp.bufs = refs.map toF) {op : HloOp τ sig (Elt F)}
    (ho : op ∈ ops) {b : DevRef τ sig} (hb : b ∈ op.bufs) : ∃ l ∈ refs, ∃ r ∈ l, b = Proc.devRef .tc r := by
  have hm : op.bufs ∈ refs.map toF := h ▸ List.mem_map_of_mem ho
  obtain ⟨l, hl, e⟩ := List.mem_map.mp hm
  exact ⟨l, hl, mem_toF b l (e ▸ hb)⟩

/-- A reference that is none of the call's inputs is none of them on the device. -/
theorem not_T3 (r : Ref sig .tc) (h : r ≠ main_v1 ∧ r ≠ main_arg1 ∧ r ≠ main_arg2) : (Proc.devRef .tc r : DevRef τ sig) ∉ T3 := by
  simp only [Finset.mem_insert, Finset.mem_singleton, not_or]
  exact ⟨devRef_ne_of_ne h.1, devRef_ne_of_ne h.2.1, devRef_ne_of_ne h.2.2⟩

theorem ops1_sub : ∀ op ∈ ops1 (F := F), op.bufs ⊆ UC := by
  have hu : ∀ l ∈ refs1, ∀ r ∈ l, r.isScoped = false := by decide
  intro op ho b hb
  obtain ⟨l, hl, r, hr, rfl⟩ := of_refs ops1_bufs ho hb
  exact mem_UC r (hu l hl r hr)

theorem ops2_sub : ∀ op ∈ ops2 (F := F), op.bufs ⊆ UC \ T3 := by
  have hu : ∀ l ∈ refs2, ∀ r ∈ l, r.isScoped = false := by decide
  have hd : ∀ l ∈ refs2, ∀ r ∈ l, r ≠ main_v1 ∧ r ≠ main_arg1 ∧ r ≠ main_arg2 := by decide
  intro op ho b hb
  obtain ⟨l, hl, r, hr, rfl⟩ := of_refs ops2_bufs ho hb
  exact Finset.mem_sdiff.mpr ⟨mem_UC r (hu l hl r hr), not_T3 r (hd l hl r hr)⟩

theorem ops1_fresh : ∀ op ∈ ops1 (F := F), op.fresh = ∅ := List.forall_iff_forall_mem.mp (forall_fresh_of_map rfl)
theorem ops2_fresh : ∀ op ∈ ops2 (F := F), op.fresh = ∅ := List.forall_iff_forall_mem.mp (forall_fresh_of_map rfl)

/-- The buffers the operations after the call write. -/
def rw2 : List (Ref sig .tc) := [main_cst, main_v3, main_v4, main_v5, main_v6, main_v7, main_cst_0, main_v8, main_v9, main_v10, main_v11, main_v12, main_v13, main_v14, main_v15, main_cst_1, main_v16, main_v17]

/-- The operations write none of the arguments. -/
theorem V1_keep (d : Dev nD) (r : Ref sig .tc) (h : r ∉ [main_v0, main_v1]) : V1 m d (Proc.devRef .tc r) = m (d, Proc.devRef .tc r) :=
  after_of_writes_sub (W := [main_v0, main_v1]) ops1 _ (forall_writes_sub_of_map rfl) h
theorem V3_keep (d : Dev nD) (r : Ref sig .tc) (h : r ∉ rw2) : V3 m d (Proc.devRef .tc r) = V2 m d (Proc.devRef .tc r) :=
  after_of_writes_sub (W := rw2) ops2 _ (forall_writes_sub_of_map rfl) h

theorem Qv_eq (d : Dev nD) : Qv m d = m ((SparseCore.T d).loc main_arg1) := V1_keep m d _ (by decide)
theorem Bv_eq (d : Dev nD) : Bv m d = m ((SparseCore.T d).loc main_arg2) := V1_keep m d _ (by decide)
theorem V3_a0 (d : Dev nD) : V3 m d a0' = m ((SparseCore.T d).loc main_arg0) :=
  (V3_keep m d _ (by decide)).trans ((Function.update_of_ne (by decide) _ _).trans (V1_keep m d _ (by decide)))
theorem V3_a3 (d : Dev nD) : V3 m d a3' = m ((SparseCore.T d).loc main_arg3) :=
  (V3_keep m d _ (by decide)).trans ((Function.update_of_ne (by decide) _ _).trans (V1_keep m d _ (by decide)))

/-- What @main leaves the claim: the arguments at their launch contents, the result at its value. -/
def FIN (d : Dev nD) : sProp 𝕄 :=
  iprop(((SparseCore.T d).loc main_arg0 ↦{fullShare} V3 m d a0') ∗ ((SparseCore.T d).loc main_arg3 ↦{fullShare} V3 m d a3')
    ∗ ((SparseCore.T d).loc main_v17 ↦{fullShare} V3 m d r')
    ∗ ((SparseCore.T d).loc main_arg1 ↦{Transfers.shareDrop fullShare 2} Qv m d) ∗ ((SparseCore.T d).loc main_arg2 ↦{Transfers.shareDrop fullShare 2} Bv m d))

theorem held_end (d : Dev nD) : (held (SparseCore.T d) (UC \ T3) (V3 m d) : sProp 𝕄)
    ⊢ iprop(((SparseCore.T d).loc main_arg0 ↦{fullShare} V3 m d a0') ∗ ((SparseCore.T d).loc main_arg3 ↦{fullShare} V3 m d a3')
      ∗ ((SparseCore.T d).loc main_v17 ↦{fullShare} V3 m d r')) := by
  rw [held_sub_split _ E3_sub, held_E3]
  exact sep_elim_left

theorem held_start (d : Dev nD) : (held (SparseCore.T d) UC (V1 m d) : sProp 𝕄)
    ⊢ iprop((bigSep Finset.univ fun c : Fin ((K (F := F)).nCore 0) => (P m).st 0 d c)
        ∗ (((SparseCore.T d).loc main_arg1 ↦{Transfers.shareDrop fullShare 2} Qv m d) ∗ ((SparseCore.T d).loc main_arg2 ↦{Transfers.shareDrop fullShare 2} Bv m d))
        ∗ held (SparseCore.T d) (UC \ T4) (V1 m d)) := by
  rw [held_sub_split _ T4_sub, held_T4]
  refine (sep_mono_left (st0 m d)).trans ?_
  iintro ⟨⟨H1, H2⟩, H3⟩
  isplitl [H1]; · iexact H1
  isplitl [H2]; · iexact H2
  iexact H3

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) UC (V0 m d) from Pipeline.unscopedBufs_held d (V0 m d), main_eq]
  iintro ⟨#Hctx, Hst, ⟨Hb, Hheld, Hts, -⟩, -⟩
  iapply (wp_seq 𝒱 none Set.univ d UC _ ops1 ops1_sub ops1_fresh (V0 m d)) $$ [Hb Hheld]
  · isplitl [Hb]; · iexact Hb
    iexact Hheld
  iintro ⟨Hb, Hheld⟩
  ihave Hh := (show (held (d.tc : Thread nD τ) UC (after ops1 (V0 m d)) : sProp 𝕄) ⊢ _ from held_start m d) $$ Hheld
  icases Hh with ⟨Hgo, Hk, Hrest⟩
  rw [wp_bind]
  iapply ((K (F := F)).wp_run (D (F := F)) 𝒱 (EH := EH) (P := P m) κ d 0) $$ [Hst Hgo Hk Hrest Hb Hts]
  isplitr; · iexact Hctx
  isplitl [Hst]; · iexact Hst
  isplitl [Hgo]; · iexact Hgo
  iintro ⟨Hst, Hdn⟩
  ihave Hdn := (Entails.of_eq (dn0 m d)) $$ Hdn
  iapply (wp_seq 𝒱 none Set.univ d (UC \ T3) _ ops2 ops2_sub ops2_fresh (V2 m d)) $$ [Hb Hdn Hrest]
  · isplitl [Hb]; · iexact Hb
    unfold V2
    rw [held_back]
    isplitl [Hdn]; · iexact Hdn
    iexact Hrest
  iintro ⟨Hb, Hheld⟩
  ihave Hh := (show (held (d.tc : Thread nD τ) (UC \ T3) (after ops2 (V2 m d)) : sProp 𝕄) ⊢ _ from held_end m d) $$ Hheld
  rw [wp_pure]; imodintro
  isplitl [Hst]; · iexact Hst
  isplitr [Hb Hts]
  · unfold FIN
    icases Hh with ⟨H0, H3, Hr⟩
    icases Hk with ⟨H1, H2⟩
    isplitl [H0]; · iexact H0
    isplitl [H3]; · iexact H3
    isplitl [Hr]; · iexact Hr
    isplitl [H1]; · iexact H1
    iexact H2
  isplitl [Hb] <;> iassumption

/-! ## The final memory -/

/-- The result is the value computed, the arguments are untouched. -/
def fq (d : Dev nD) (s : MemSt nD τ sig (Elt F)) : Prop :=
  s.mem ((SparseCore.T d).loc main_v17) = V3 m d r' ∧ s.mem ((SparseCore.T d).loc main_arg0) = m ((SparseCore.T d).loc main_arg0)
    ∧ s.mem ((SparseCore.T d).loc main_arg1) = m ((SparseCore.T d).loc main_arg1) ∧ s.mem ((SparseCore.T d).loc main_arg2) = m ((SparseCore.T d).loc main_arg2)
    ∧ s.mem ((SparseCore.T d).loc main_arg3) = m ((SparseCore.T d).loc main_arg3)

omit [FloatOps F] in
/-- A buffer held is what the memory has. -/
theorem read_off (s : Phys nD τ sig (Elt F)) (ℓ : Loc nD τ sig) (q : PosShare TreeShare) (f : Buf (Elt F) ℓ) :
    iprop((ℓ ↦{q} f) ∗ SI s) ⊢ (iprop(⌜s.mem.mem ℓ = f⌝ ∗ SI s) : sProp 𝕄) := by
  iintro ⟨H, HSI⟩
  ihave H := (persistent_entails_right (SI_pointsTo_agree (st := s) (ℓ := ℓ) (I := Finset.univ) (q := q) (f := f))) $$ [HSI H]
  · isplitl [HSI] <;> iassumption
  icases H with ⟨%h, HSI, -⟩
  isplitr
  · ipureintro; exact funext fun i => h i (Finset.mem_univ i)
  · iexact HSI

theorem hfin (d : Dev nD) (s : Phys nD τ sig (Elt F)) : iprop(FIN m d ∗ SI s) ⊢ (⌜fq m d s.mem⌝ : sProp 𝕄) := by
  unfold FIN
  iintro ⟨⟨H0, H3, Hr, H1, H2⟩, HSI⟩
  ihave H := (read_off s _ _ _) $$ [HSI H0]
  · isplitl [H0] <;> iassumption
  icases H with ⟨%h0, HSI⟩
  ihave H := (read_off s _ _ _) $$ [HSI H3]
  · isplitl [H3] <;> iassumption
  icases H with ⟨%h3, HSI⟩
  ihave H := (read_off s _ _ _) $$ [HSI Hr]
  · isplitl [Hr] <;> iassumption
  icases H with ⟨%hr, HSI⟩
  ihave H := (read_off s _ _ _) $$ [HSI H1]
  · isplitl [H1] <;> iassumption
  icases H with ⟨%h1, HSI⟩
  ihave H := (read_off s _ _ _) $$ [HSI H2]
  · isplitl [H2] <;> iassumption
  icases H with ⟨%h2, -⟩
  ipureintro
  exact ⟨hr, h0.trans (V3_a0 m d), h1.trans (Qv_eq m d), h2.trans (Bv_eq m d), h3.trans (V3_a3 m d)⟩

/-- The whole program's run, the segment numbers in range. -/
theorem run_main [∀ e, Nonempty (Elt F e)] (hB : ∀ (d : Dev nD) (i : S524288.Idx), (m ((SparseCore.T d).loc main_arg2) i).toNat < 64) :
    θ_run (Cert.KernelIdeal.defs (F := F)) (Cert.KernelIdeal.threads (F := F)) ⟨m, fun _ => 0, ρ⟩
      (fun r => (∀ d : Dev nD, fq m d r.2) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m fun d i => by rw [Bv_eq]; exact hB d i)
    (fun q _ => match q with | 0 => SparseCore.Cfg.VecSplit.of_plain (vecSplit m))
    m ρ main (fun _ => iprop(emp)) (FIN m) (u₀ (F := F)) (sep_elim_left.trans (hu₀ m)) (hmain m ρ) (fun d s => fq m d s.mem) (hfin m) _ (fun _ h hz => ⟨h, hz⟩)

end Cert.Proof.Pol

end
-- ==== Proof.HostTail.lean ====
/-
  The host's operations around the call, read entry by entry at the extended reals: the flattened coordinates the call
  takes, and the result the tail computes from the workers' rows.
-/
module

public import proofs.«01_k».proof.Proof.Main
public import Idealize.ShloMosaic.Lib.Pointwise
public import Idealize.ShloMosaic.Lib.StableHlo.Run

@[expose] public section

noncomputable section

namespace Cert.Proof.Pol

open Cert.KernelIdeal Cert.KernelIdeal.Gen
open Idealize.ShloMosaic Idealize.ShloMosaic.StableHlo

section Terms
variable {F : FTy → Type} [FloatOps F]

/-- The workers' rows added up, one row per column of the six tables and of the charge. -/
def colsOf (o : FVec F S32x512 .f32) : FVec F S8x64 .f32 :=
  shapeCast S8x64 (Host.reduceAdd o (constant S_ .f32 0x00000000#32) reducesTo_S32x512_S512_d0 h_S_) shapeCasts_S512_S8x64

/-- What the tail computes from the workers' rows. -/
def tailOf (o : FVec F S32x512 .f32) : FVec F S64x3 .f32 :=
  mulf (transpose S64x3 [1, 0] (subf (extractStridedSlice S3x64 ![0, 0] (colsOf o) slices_S8x64_S3x64_0_0)
      (mulf (broadcastInDim S3x64 ![0, 1] bcast_S1x64_S3x64_0_1 (broadcastInDim S1x64 ![1] bcast_S64_S1x64_1
          (mulf (shapeCast S64 (extractStridedSlice S1x64 ![6, 0] (colsOf o) slices_S8x64_S1x64_6_0) shapeCasts_S1x64_S64)
            (broadcastInDim S64 ![] bcast_S_S64 (constant S_ .f32 0x36000000#32)))))
        (extractStridedSlice S3x64 ![3, 0] (colsOf o) slices_S8x64_S3x64_3_0))) transposes_S3x64_S64x3_1_0)
    (broadcastInDim S64x3 ![] bcast_S_S64x3 (constant S_ .f32 0x3DD7D247#32))

variable (m : (ℓ : Loc nD τ sig) → Buf (Elt F) ℓ) (d : Dev nD)

set_option maxHeartbeats 2000000 in
theorem V3_result : V3 m d r' = tailOf (outV m d) := by
  unfold V3 ops2
  after_results <;> first | rfl | (unfold V2; rw [Function.update_self]; rfl)

theorem Pv_eq : Pv m d = shapeCast S1572864 (transpose S3x524288 [1, 0] (m ((SparseCore.T d).loc main_arg0)) transposes_S524288x3_S3x524288_1_0) shapeCasts_S3x524288_S1572864 := by
  unfold Pv V1 ops1
  after_results <;> rfl

end Terms

/-! ## At the extended reals -/

theorem colsOf_at (o : FVec Ideal S32x512 .f32) (c : Fin 8) (g : Fin 64) :
    (colsOf o (ValueIdx.ix2 c g) : EReal) = ∑ w : Fin 32, (o (ValueIdx.ix2 w ⟨c.val * 64 + g.val, by omega⟩) : EReal) := by
  pointwise [colsOf]
  rfl

theorem tailOf_at (o : FVec Ideal S32x512 .f32) (g : Fin 64) (k : Fin 3) :
    (tailOf o (ValueIdx.ix2 g k) : EReal) = (colsOf o (ValueIdx.ix2 ⟨k.val, by omega⟩ g)
      - colsOf o (ValueIdx.ix2 6 g) * Ideal.ofBits .f32 0x36000000#32 * colsOf o (ValueIdx.ix2 ⟨3 + k.val, by omega⟩ g)) * Ideal.ofBits .f32 0x3DD7D247#32 := by
  unfold tailOf
  generalize colsOf o = C
  pointwise
  rfl

/-- The flattened coordinates: coordinate `k` of atom `n`. -/
theorem Pv_at (m : (ℓ : Loc nD τ sig) → Buf (Elt Ideal) ℓ) (d : Dev nD) (k : Fin 3) (n : Fin 524288) (p : ℕ) (hp : p = 524288 * k.val + n.val) :
    (Pv m d (at1572864 p) : EReal) = (m ((SparseCore.T d).loc main_arg0) : S524288x3.Idx → EReal) (ValueIdx.ix2 n k) := by
  rw [Pv_eq]
  have e : at1572864 p = ix1 (⟨524288 * k.val + n.val, by omega⟩ : Fin 1572864) := by
    funext a
    obtain rfl : a = 0 := Subsingleton.elim _ _
    exact Fin.ext (by show p % 1572864 = 524288 * k.val + n.val; omega)
  rw [e]
  pointwise
  rfl

end Cert.Proof.Pol

end
-- ==== Proof.Totals.lean ====
/-
  The workers' rows added up at the extended reals: each column of the six tables is the sum over all the atoms of its
  graph, and the charge column is the sum of all the charges.
-/
module

public import proofs.«01_k».proof.Proof.Sums
public import proofs.«01_k».proof.Proof.HostTail

@[expose] public section

noncomputable section

namespace Cert.Proof.Pol

open Cert.KernelIdeal Cert.KernelIdeal.Gen
open Idealize.ShloMosaic

/-! ## Sums by blocks -/

/-- A sum over a range is the sum over its blocks. -/
theorem sum_blocks (f : ℕ → EReal) (m n : ℕ) : ∑ i ∈ Finset.range (m * n), f i = ∑ t ∈ Finset.range n, ∑ l ∈ Finset.range m, f (m * t + l) := by
  induction n with
  | zero => simp
  | succ n ih => rw [Nat.mul_succ, Finset.sum_range_add, ih, Finset.sum_range_succ]

/-- The order of the kernel's sums: over workers, lanes and trips; all the atoms are met once. -/
theorem sum_atoms (f : ℕ → EReal) :
    ∑ w : Fin 32, ∑ l : Fin 16, ∑ t ∈ Finset.range 1024, f (16384 * w.val + (16 * t + l.val)) = ∑ n ∈ Finset.range 524288, f n := by
  rw [show 524288 = 16384 * 32 from rfl, sum_blocks, ← Fin.sum_univ_eq_sum_range (fun w => ∑ l ∈ Finset.range 16384, f (16384 * w + l)) 32]
  refine Finset.sum_congr rfl fun w _ => ?_
  rw [show 16384 = 16 * 1024 from rfl, sum_blocks (fun i => f (16 * 1024 * w.val + i)), Finset.sum_comm]
  refine Finset.sum_congr rfl fun t _ => ?_
  exact Fin.sum_univ_eq_sum_range (fun l => f (16 * 1024 * w.val + (16 * t + l))) 16

/-! ## One worker's row -/

variable (P : FVec Ideal S1572864 .f32) (Q : FVec Ideal S524288 .f32) (B : IVec S524288 32)

/-- What atom `n` adds to each of the six tables. -/
def valF (c n : ℕ) : EReal :=
  if c < 3 then (Q (at524288 n) : EReal) * P (at1572864 (524288 * c + n)) else P (at1572864 (524288 * (c - 3) + n))

theorem val_chunk (w c n : ℕ) (hc : c < 6) (hn : n < 16384) :
    val6c (Xw P w) (Yw P w) (Zw P w) (Qw Q w) c (at16384 n) = valF P Q c (16384 * w + n) := by
  have hm : n % 16384 = n := Nat.mod_eq_of_lt hn
  have hP : ∀ o, (chunkP P o w (at16384 n) : EReal) = P (at1572864 (o + (16384 * w + n))) := by
    intro o
    show (P (at1572864 (o + 16384 * w + n % 16384)) : EReal) = _
    rw [hm, Nat.add_assoc]
  have hQ : (Qw Q w (at16384 n) : EReal) = Q (at524288 (16384 * w + n)) := by
    show (Q (at524288 (16384 * w + n % 16384)) : EReal) = _
    rw [hm]
  have h6 : c = 0 ∨ c = 1 ∨ c = 2 ∨ c = 3 ∨ c = 4 ∨ c = 5 := by omega
  unfold val6c valF
  rcases h6 with rfl | rfl | rfl | rfl | rfl | rfl <;> simp [hP, hQ]

theorem graph_chunk (w n : ℕ) (hn : n < 16384) : Bw (F := Ideal) B w (at16384 n) = B (at524288 (16384 * w + n)) := by
  show B (at524288 (16384 * w + n % 16384)) = _
  rw [Nat.mod_eq_of_lt hn]

theorem row_group (A : FVec Ideal S6144 .f32) (q : FVec Ideal S16 .f32) (n : ℕ) (hn : n < 512) :
    resOf A q (ix512 n hn) = rowOf A q (n / 16) (ix16 (n % 16) (Nat.mod_lt _ (by decide))) := rfl

/-- Column `(c, g)` of worker `w`'s row. -/
theorem out_table (hB : ∀ i, (B i).toNat < 64) (w : Fin 32) (c g : ℕ) (hc : c < 6) (hg : g < 64) :
    (outOf P Q B (ValueIdx.ix2 w ⟨c * 64 + g, by omega⟩) : EReal)
      = ∑ l : Fin 16, ∑ t ∈ Finset.range 1024, if (B (at524288 (16384 * w.val + (16 * t + l.val)))).toNat = g then valF P Q c (16384 * w.val + (16 * t + l.val)) else 0 := by
  show (resOf (accW P Q B w.val) (qsRow (qsumW Q w.val)) (ix512 (c * 64 + g) (by omega)) : EReal) = _
  rw [row_group]
  unfold rowOf
  rw [if_pos (by omega), rowSum_at _ _ (by omega)]
  refine Finset.sum_congr rfl fun l _ => ?_
  have hl := l.isLt
  have e : ix6144 (16 * (16 * ((c * 64 + g) / 16) + (c * 64 + g) % 16) + l.val) (by omega) = ix6144 (1024 * c + 16 * g + l.val) (by omega) :=
    funext fun a => Fin.ext (by show 16 * (16 * ((c * 64 + g) / 16) + (c * 64 + g) % 16) + l.val = 1024 * c + 16 * g + l.val; omega)
  rw [e]
  unfold accW
  rw [accN_at (Xw P w.val) (Yw P w.val) (Zw P w.val) (Qw Q w.val) (Bw (F := Ideal) B w.val) (fun i => hB _) c g l.val hc hg hl]
  refine Finset.sum_congr rfl fun t ht => ?_
  have ht' := Finset.mem_range.1 ht
  rw [graph_chunk B w.val _ (by omega), val_chunk P Q w.val c _ hc (by omega)]

/-- The charge column of worker `w`'s row. -/
theorem out_charge (w : Fin 32) (g : ℕ) (hg : g < 64) :
    (outOf P Q B (ValueIdx.ix2 w ⟨6 * 64 + g, by omega⟩) : EReal)
      = ∑ l : Fin 16, ∑ t ∈ Finset.range 1024, (Q (at524288 (16384 * w.val + (16 * t + l.val))) : EReal) := by
  show (resOf (accW P Q B w.val) (qsRow (qsumW Q w.val)) (ix512 (6 * 64 + g) (by omega)) : EReal) = _
  rw [row_group]
  unfold rowOf
  rw [if_neg (by omega), if_pos (by omega), qsRow_at]
  refine Finset.sum_congr rfl fun l _ => ?_
  have hl := l.isLt
  unfold qsumW
  rw [qsumN_at _ _ hl]
  refine Finset.sum_congr rfl fun t ht => ?_
  have ht' := Finset.mem_range.1 ht
  show (Q (at524288 (16384 * w.val + (16 * t + l.val) % 16384)) : EReal) = _
  rw [Nat.mod_eq_of_lt (by omega)]

/-! ## All the workers -/

theorem cols_table (hB : ∀ i, (B i).toNat < 64) (c : Fin 8) (hc : c.val < 6) (g : Fin 64) :
    (colsOf (outOf P Q B) (ValueIdx.ix2 c g) : EReal)
      = ∑ n ∈ Finset.range 524288, if (B (at524288 n)).toNat = g.val then valF P Q c.val n else 0 := by
  rw [colsOf_at, ← sum_atoms]
  exact Finset.sum_congr rfl fun w _ => out_table P Q B hB w c.val g.val hc g.isLt

theorem cols_charge (g : Fin 64) :
    (colsOf (outOf P Q B) (ValueIdx.ix2 6 g) : EReal) = ∑ n ∈ Finset.range 524288, (Q (at524288 n) : EReal) := by
  rw [colsOf_at, ← sum_atoms (fun n => (Q (at524288 n) : EReal))]
  exact Finset.sum_congr rfl fun w _ => out_charge P Q B w g.val g.isLt

/-! ## Over the atoms by index -/

theorem at_fin (n : Fin 524288) : at524288 n.val = ix1 n := by
  funext a
  obtain rfl : a = 0 := Subsingleton.elim _ _
  exact Fin.ext (Nat.mod_eq_of_lt n.isLt)

theorem moment_at (hB : ∀ i, (B i).toNat < 64) (k : Fin 3) (g : Fin 64) :
    (colsOf (outOf P Q B) (ValueIdx.ix2 ⟨k.val, by omega⟩ g) : EReal)
      = ∑ n : Fin 524288, (if (B (ix1 n)).toNat = g.val then Q (ix1 n) * P (at1572864 (524288 * k.val + n.val)) else 0 : EReal) := by
  have hk := k.isLt
  rw [cols_table P Q B hB ⟨k.val, by omega⟩ (by show k.val < 6; omega) g,
    ← Fin.sum_univ_eq_sum_range (fun n => if (B (at524288 n)).toNat = g.val then valF P Q k.val n else 0)]
  refine Finset.sum_congr rfl fun n _ => ?_
  rw [at_fin]
  unfold valF
  rw [if_pos hk, at_fin]

theorem coord_at (hB : ∀ i, (B i).toNat < 64) (k : Fin 3) (g : Fin 64) :
    (colsOf (outOf P Q B) (ValueIdx.ix2 ⟨3 + k.val, by omega⟩ g) : EReal)
      = ∑ n : Fin 524288, (if (B (ix1 n)).toNat = g.val then P (at1572864 (524288 * k.val + n.val)) else 0 : EReal) := by
  have hk := k.isLt
  rw [cols_table P Q B hB ⟨3 + k.val, by omega⟩ (by show 3 + k.val < 6; omega) g,
    ← Fin.sum_univ_eq_sum_range (fun n => if (B (at524288 n)).toNat = g.val then valF P Q (3 + k.val) n else 0)]
  refine Finset.sum_congr rfl fun n _ => ?_
  rw [at_fin]
  unfold valF
  rw [if_neg (show ¬ 3 + k.val < 3 by omega), show 3 + k.val - 3 = k.val from by omega]

theorem charge_at (g : Fin 64) :
    (colsOf (outOf P Q B) (ValueIdx.ix2 6 g) : EReal) = ∑ n : Fin 524288, (Q (ix1 n) : EReal) := by
  rw [cols_charge, ← Fin.sum_univ_eq_sum_range (fun n => (Q (at524288 n) : EReal))]
  exact Finset.sum_congr rfl fun n _ => by rw [at_fin]

end Cert.Proof.Pol

end
-- ==== Proof.RefValue.lean ====
/-
  The reference's result read entry by entry at the extended reals: at graph `g` and coordinate `k` it is the scaled sum,
  over the atoms of the graph, of the charge less the mean charge times the coordinate.
-/
module

public import proofs.«01_k».proof.Proof.Gen.ReferenceIdeal.Run
public import Idealize.ShloMosaic.Lib.Pointwise

@[expose] public section

noncomputable section

namespace Cert.Proof.Pol.Ref

open Cert.ReferenceIdeal Cert.ReferenceIdeal.Gen
open Idealize.ShloMosaic

/-- What the reference adds up: the centred charge times the coordinate. -/
def updOf (a0 : FVec Ideal S524288x3 .f32) (a1 : FVec Ideal S524288 .f32) : FVec Ideal S524288x3 .f32 :=
  mulf (broadcastInDim S524288x3 ![0, 1] bcast_S524288x1_S524288x3_0_1 (subf (broadcastInDim S524288x1 ![0] bcast_S524288_S524288x1_0 a1)
    (broadcastInDim S524288x1 ![0, 1] bcast_S1x1_S524288x1_0_1 (Host.divf (broadcastInDim S1x1 ![1] bcast_S1_S1x1_1
      (Host.reduceAdd (broadcastInDim S524288x1 ![0] bcast_S524288_S524288x1_0 a1) (constant S_ .f32 0x00000000#32) reducesTo_S524288x1_S1_d0 h_S_))
      (broadcastInDim S1x1 ![] bcast_S_S1x1 (constant S_ .f32 0x49000000#32)))))) a0

/-- The reference's result. -/
def refOf (a0 : FVec Ideal S524288x3 .f32) (a1 : FVec Ideal S524288 .f32) (a2 : IVec S524288 32) : FVec Ideal S64x3 .f32 :=
  mulf (Host.scatterAdd scatter_S64x3_S524288x1_S524288x3_1_0_0_1 (broadcastInDim S64x3 ![] bcast_S_S64x3 (constant S_ .f32 0x00000000#32))
    (broadcastInDim S524288x1 ![0] bcast_S524288_S524288x1_0 a2) (updOf a0 a1)) (broadcastInDim S64x3 ![] bcast_S_S64x3 (constant S_ .f32 0x3DD7D247#32))

theorem updOf_at (a0 : FVec Ideal S524288x3 .f32) (a1 : FVec Ideal S524288 .f32) (n : Fin 524288) (k : Fin 3) :
    (updOf a0 a1 (ix2 n k) : EReal) = (a1 (ix1 n) - Ideal.div (∑ i : Fin 524288, (a1 (ix1 i) : EReal)) (Ideal.ofBits .f32 0x49000000#32)) * a0 (ix2 n k) := by
  pointwise [updOf]

/-- Where an update lands: row by the atom's graph, column by its own. -/
theorem lands (idx : IVec S524288x1 32) (n : Fin 524288) (k' : Fin 3) (g : Fin 64) (k : Fin 3) (hr : (idx (ix2 n 0)).toNat < 64) :
    scatter_S64x3_S524288x1_S524288x3_1_0_0_1.resultIdx? (ix2 n k') idx = some (ix2 g k) ↔ (idx (ix2 n 0)).toNat = g.val ∧ k' = k := by
  have hs0 : scatter_S64x3_S524288x1_S524288x3_1_0_0_1.start (ix2 n k') idx 0 = ((idx (ix2 n 0)).toNat : Int) := by
    have e : scatter_S64x3_S524288x1_S524288x3_1_0_0_1.start (ix2 n k') idx 0 = (idx (ix2 n 0)).toInt := by
      unfold ScatterDims.start
      rw [dif_pos (by decide)]
      congr 2
      funext a
      fin_cases a <;> rfl
    rw [e, BitVec.toInt_eq_toNat_of_lt (by omega)]
  have hs1 : scatter_S64x3_S524288x1_S524288x3_1_0_0_1.start (ix2 n k') idx 1 = 0 := rfl
  have hw0 : scatter_S64x3_S524288x1_S524288x3_1_0_0_1.window (ix2 n k') 0 = 0 := rfl
  have hw1 : scatter_S64x3_S524288x1_S524288x3_1_0_0_1.window (ix2 n k') 1 = k'.val := rfl
  have hin : ∀ a, 0 ≤ scatter_S64x3_S524288x1_S524288x3_1_0_0_1.start (ix2 n k') idx a + scatter_S64x3_S524288x1_S524288x3_1_0_0_1.window (ix2 n k') a ∧
      scatter_S64x3_S524288x1_S524288x3_1_0_0_1.start (ix2 n k') idx a + scatter_S64x3_S524288x1_S524288x3_1_0_0_1.window (ix2 n k') a < S64x3.size a := by
    intro a
    match a with
    | ⟨0, _⟩ => show 0 ≤ scatter_S64x3_S524288x1_S524288x3_1_0_0_1.start (ix2 n k') idx 0 + scatter_S64x3_S524288x1_S524288x3_1_0_0_1.window (ix2 n k') 0 ∧ scatter_S64x3_S524288x1_S524288x3_1_0_0_1.start (ix2 n k') idx 0 + scatter_S64x3_S524288x1_S524288x3_1_0_0_1.window (ix2 n k') 0 < (64 : Int)
                rw [hs0, hw0]; omega
    | ⟨1, _⟩ => show 0 ≤ scatter_S64x3_S524288x1_S524288x3_1_0_0_1.start (ix2 n k') idx 1 + scatter_S64x3_S524288x1_S524288x3_1_0_0_1.window (ix2 n k') 1 ∧ scatter_S64x3_S524288x1_S524288x3_1_0_0_1.start (ix2 n k') idx 1 + scatter_S64x3_S524288x1_S524288x3_1_0_0_1.window (ix2 n k') 1 < (3 : Int)
                rw [hs1, hw1]; have := k'.isLt; omega
  unfold ScatterDims.resultIdx?
  rw [dif_pos hin, Option.some.injEq]
  constructor
  · intro h
    have h0 := congrArg Fin.val (congrFun h 0)
    have h1 := congrArg Fin.val (congrFun h 1)
    simp only [hs0, hs1, hw0, hw1] at h0 h1
    refine ⟨?_, Fin.ext ?_⟩
    · simpa using h0
    · simpa using h1
  · rintro ⟨h0, rfl⟩
    funext a
    match a with
    | ⟨0, _⟩ => apply Fin.ext
                show (scatter_S64x3_S524288x1_S524288x3_1_0_0_1.start (ix2 n k') idx 0 + scatter_S64x3_S524288x1_S524288x3_1_0_0_1.window (ix2 n k') 0).toNat = g.val
                rw [hs0, hw0]; omega
    | ⟨1, _⟩ => apply Fin.ext
                show (scatter_S64x3_S524288x1_S524288x3_1_0_0_1.start (ix2 n k') idx 1 + scatter_S64x3_S524288x1_S524288x3_1_0_0_1.window (ix2 n k') 1).toNat = k'.val
                rw [hs1, hw1]; omega

theorem refOf_at (a0 : FVec Ideal S524288x3 .f32) (a1 : FVec Ideal S524288 .f32) (a2 : IVec S524288 32) (hB : ∀ i, (a2 i).toNat < 64) (g : Fin 64) (k : Fin 3) :
    (refOf a0 a1 a2 (ix2 g k) : EReal) = (∑ n : Fin 524288, (if (a2 (ix1 n)).toNat = g.val then
        (a1 (ix1 n) - Ideal.div (∑ i : Fin 524288, (a1 (ix1 i) : EReal)) (Ideal.ofBits .f32 0x49000000#32)) * a0 (ix2 n k) else 0 : EReal)) * Ideal.ofBits .f32 0x3DD7D247#32 := by
  have hsc : (Host.scatterAdd scatter_S64x3_S524288x1_S524288x3_1_0_0_1 (broadcastInDim S64x3 ![] bcast_S_S64x3 (constant S_ .f32 0x00000000#32))
      (broadcastInDim S524288x1 ![0] bcast_S524288_S524288x1_0 a2) (updOf a0 a1) (ix2 g k) : EReal)
      = ∑ n : Fin 524288, (if (a2 (ix1 n)).toNat = g.val then updOf a0 a1 (ix2 n k) else 0 : EReal) := by
    show Ideal.hostScatterAdd _ _ _ _ _ = _
    unfold Ideal.hostScatterAdd
    rw [show (broadcastInDim S64x3 ![] bcast_S_S64x3 (constant (F := Ideal) S_ .f32 0x00000000#32) (ix2 g k) : EReal) = 0 from Ideal.ofBits_zero_f32, zero_add,
      Finset.sum_filter, ValueIdx.sum_idx2]
    refine Finset.sum_congr rfl fun n _ => ?_
    have hi : broadcastInDim S524288x1 ![0] bcast_S524288_S524288x1_0 a2 (ix2 n 0) = a2 (ix1 n) := by pointwise
    have hl := fun k' => lands (broadcastInDim S524288x1 ![0] bcast_S524288_S524288x1_0 a2) n k' g k (by rw [hi]; exact hB _)
    rw [hi] at hl
    rw [Finset.sum_eq_single k]
    · exact if_congr ((hl k).trans (and_iff_left rfl)) rfl rfl
    · intro k' _ hk
      exact if_neg fun h => hk ((hl k').1 h).2
    · intro h; exact absurd (Finset.mem_univ _) h
  unfold refOf
  show (_ * _ : EReal) = _
  rw [hsc]
  simp only [updOf_at]
  rfl

end Cert.Proof.Pol.Ref

end
-- ==== Proof.Frames.lean ====
/-
  What the two preconditions say of the launch memory, and the frames of the kernel and of the reference.
-/
module

public import proofs.«01_k».proof.Proof.Main
public import proofs.«01_k».proof.Proof.Gen.Kernel
public import proofs.«01_k».proof.Proof.Gen.ReferenceIdeal.Run
public import proofs.«01_k».proof.Proof.Gen.Pre_batch_in_range
public import proofs.«01_k».proof.Proof.Gen.Pre_finite_in_range
public import Idealize.ShloMosaic.Lib.ReduceAll

@[expose] public section

noncomputable section

namespace Cert.Proof.Pol

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (ownBufs ownSems0 ownCells ownRefs mem_ownCells mem_ownRefs)
open Idealize.ShloMosaic.StableHlo
open Idealize.ShloMosaic.Rounds
open Idealize.ShloMosaic.Tactic

/-! ## The preconditions -/

theorem andi_eq_one {a b : BitVec 1} (h : IntOp.andi a b = 1#1) : a = 1#1 ∧ b = 1#1 := by
  revert a b; decide

/-- A signed word at least 0 and below 64 is its own value, below 64. -/
theorem in_range (v : BitVec 32) (h : IntOp.andi (IntOp.cmpi .sge v 0#32) (IntOp.cmpi .slt v 64#32) = 1#1) : v.toNat < 64 := by
  obtain ⟨h1, h2⟩ := andi_eq_one h
  have one (p : Bool) : (BitVec.ofBool p = 1#1) ↔ p = true := by cases p <;> decide
  simp only [IntOp.cmpi, one, BitVec.sle_eq_decide, BitVec.slt_eq_decide,
    decide_eq_true_eq, BitVec.toInt_eq_toNat_cond, BitVec.toNat_ofNat, Nat.reducePow, Nat.reduceMod] at h1 h2
  omega

instance subsingleton_S_ : Subsingleton (Shape.Idx ⟨0, ![]⟩) := ⟨fun _ _ => funext fun a => a.elim0⟩

/-- `batch_in_range` bounds every segment number. -/
theorem range_of_batch {F : FTy → Type} [FloatOps F] (a0 : FVec F S524288x3 .f32) (a1 : FVec F S524288 .f32) (a2 : IVec S524288 32) (a3 : FVec F S64x3x3 .f32)
    (h : Cert.Pre_batch_in_range.fn a0 a1 a2 a3 = fun _ => 1#1) (i : S524288.Idx) : (a2 i).toNat < 64 := by
  have e := congrFun h (fun a => a.elim0)
  simp only [Cert.Pre_batch_in_range.fn] at e
  have := Host.reduce_andi_all _ _ _ _ _ e i
  simp only [andi, cmpi, broadcastInDim, constantI] at this
  exact in_range _ this

/-- `finite_in_range` bounds every segment number and every float's size. -/
theorem parts_of_finite {F : FTy → Type} [FloatOps F] (a0 : FVec F S524288x3 .f32) (a1 : FVec F S524288 .f32) (a2 : IVec S524288 32) (a3 : FVec F S64x3x3 .f32)
    (h : Cert.Pre_finite_in_range.fn a0 a1 a2 a3 = fun _ => 1#1) :
    (∀ i : S524288.Idx, (a2 i).toNat < 64)
      ∧ (∀ i : S524288x3.Idx, cmpf .olt (Host.absf a0) (fun _ => Scalar.ofBits .f32 0x7F800000#32) i = 1#1)
      ∧ (∀ i : S524288.Idx, cmpf .olt (Host.absf a1) (fun _ => Scalar.ofBits .f32 0x7F800000#32) i = 1#1) := by
  have e := congrFun h (fun a => a.elim0)
  simp only [Cert.Pre_finite_in_range.fn] at e
  obtain ⟨e, eq⟩ := andi_eq_one e
  obtain ⟨eb, ep⟩ := andi_eq_one e
  refine ⟨fun i => ?_, fun i => Host.reduce_andi_all _ _ _ _ _ ep i, fun i => Host.reduce_andi_all _ _ _ _ _ eq i⟩
  have := Host.reduce_andi_all _ _ _ _ _ eb i
  simp only [andi, cmpi, broadcastInDim, constantI] at this
  exact in_range _ this

/-! ## The frames -/

theorem frame_kernel : Cert.quiescent_Kernel := fun m ρ h =>
  (θ_run Cert.KernelIdeal.defs _ _).mono (fun _ h => ⟨fun c => (h.1 c).2, h.2⟩)
    (run_main (F := Bits) m ρ fun d i => range_of_batch _ _ _ _ (h d) i)

theorem frame_ideal : Cert.quiescent_KernelIdeal := fun m ρ h =>
  (θ_run Cert.KernelIdeal.defs _ _).mono (fun _ h => ⟨fun c => (h.1 c).2, h.2⟩)
    (run_main (F := Ideal) m ρ fun d i => range_of_batch _ _ _ _ (h d) i)

theorem frame_ideal_finite : Cert.quiescent_KernelIdeal_pre_finite_in_range := fun m ρ h =>
  (θ_run Cert.KernelIdeal.defs _ _).mono (fun _ h => ⟨fun c => (h.1 c).2, h.2⟩)
    (run_main (F := Ideal) m ρ fun d i => (parts_of_finite _ _ _ _ (h d)).1 i)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite_in_range := fun m ρ _ => frame_reference m ρ trivial

end Cert.Proof.Pol

end
-- ==== Proof.Algebra.lean ====
/-
  The value claim: at finite inputs the kernel's result, the moments less the mean charge times the coordinate sums, is
  the reference's, the sum of the centred charges times the coordinates.
-/
module

public import proofs.«01_k».proof.Proof.Totals
public import proofs.«01_k».proof.Proof.RefValue
public import proofs.«01_k».proof.Proof.Frames

@[expose] public section

noncomputable section

namespace Cert.Proof.Pol

open Cert.KernelIdeal Cert.KernelIdeal.Gen
open Idealize.ShloMosaic Idealize.SL.Sem

/-! ## The identity over the reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (x : ℝ) : (if p then (x : EReal) else 0) = ((if p then x else 0 : ℝ) : EReal) := by
  split_ifs <;> simp

/-- The words of the two scales: `2⁻¹⁹` and `2¹⁹`. -/
theorem word_inv : Ideal.ofBits .f32 0x36000000#32 = (((524288 : ℝ)⁻¹ : ℝ) : EReal) := by
  simp [Ideal.ofBits, Ideal.ieee, -EReal.coe_mul]; norm_num
theorem word_count : Ideal.ofBits .f32 0x49000000#32 = ((524288 : ℝ) : EReal) := by
  simp [Ideal.ofBits, Ideal.ieee, -EReal.coe_mul]; norm_num

/-- Centring before the sum, or after it. -/
theorem centre {ι : Type} [Fintype ι] (q x : ι → ℝ) (p : ι → Prop) [DecidablePred p] :
    (∑ n, (if p n then (q n : EReal) * (x n : EReal) else 0)) - (∑ n, (q n : EReal)) * Ideal.ofBits .f32 0x36000000#32 * (∑ n, if p n then (x n : EReal) else 0)
      = ∑ n, if p n then ((q n : EReal) - Ideal.div (∑ i, (q i : EReal)) (Ideal.ofBits .f32 0x49000000#32)) * (x n : EReal) else 0 := by
  have hN : (524288 : ℝ) ≠ 0 := by norm_num
  have hdiv : Ideal.div (∑ i, (q i : EReal)) (Ideal.ofBits .f32 0x49000000#32) = (((∑ i, q i) * (524288 : ℝ)⁻¹ : ℝ) : EReal) := by
    rw [word_count, ← coe_sum]
    unfold Ideal.div
    rw [if_neg (by simpa using hN), ← EReal.coe_inv, ← EReal.coe_mul]
  rw [hdiv, word_inv]
  simp only [← EReal.coe_mul, ← EReal.coe_sub, coe_ite, ← coe_sum]
  congr 1
  rw [Finset.mul_sum, ← Finset.sum_sub_distrib]
  refine Finset.sum_congr rfl fun n _ => ?_
  split_ifs <;> ring

theorem centre_of_real {ι : Type} [Fintype ι] (q x : ι → EReal) (hq : ∀ n, q n = (((q n).toReal : ℝ) : EReal)) (hx : ∀ n, x n = (((x n).toReal : ℝ) : EReal))
    (p : ι → Prop) [DecidablePred p] :
    (∑ n, (if p n then q n * x n else 0)) - (∑ n, q n) * Ideal.ofBits .f32 0x36000000#32 * (∑ n, if p n then x n else 0)
      = ∑ n, if p n then (q n - Ideal.div (∑ i, q i) (Ideal.ofBits .f32 0x49000000#32)) * x n else 0 := by
  have key := centre (fun n => (q n).toReal) (fun n => (x n).toReal) p
  simp only [← hq, ← hx] at key
  exact key

/-- A float below infinity in size is a real. -/
theorem real_of_abs_lt (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  have hlt : max x (-x) < ⊤ := by
    rw [ht] at h
    unfold Ideal.cmp at h
    by_contra hc
    simp [hc] at h
  refine (EReal.coe_toReal ?_ ?_).symm
  · rintro rfl; simp at hlt
  · rintro rfl; simp at hlt

/-! ## The two results -/

variable (m : (ℓ : Loc nD τ sig) → Buf (Elt Ideal) ℓ) (d : Dev nD)

/-- The kernel's result is the reference's function of the arguments. -/
theorem results_eq (a0 : FVec Ideal S524288x3 .f32) (a1 : FVec Ideal S524288 .f32) (a2 : IVec S524288 32)
    (h0 : a0 = m ((SparseCore.T d).loc main_arg0)) (h1 : a1 = m ((SparseCore.T d).loc main_arg1)) (h2 : a2 = m ((SparseCore.T d).loc main_arg2))
    (hB : ∀ i, (a2 i).toNat < 64) (hp : ∀ i, (a0 i : EReal) = (((a0 i : EReal).toReal : ℝ) : EReal)) (hq : ∀ i, (a1 i : EReal) = (((a1 i : EReal).toReal : ℝ) : EReal)) :
    tailOf (outV m d) = Ref.refOf a0 a1 a2 := by
  have hPv : ∀ (k : Fin 3) (n : Fin 524288), (Pv m d (at1572864 (524288 * k.val + n.val)) : EReal) = a0 (ix2 n k) := by
    intro k n; rw [Pv_at m d k n _ rfl, h0]; rfl
  have hQv : Qv m d = a1 := (Qv_eq m d).trans h1.symm
  have hBv : Bv m d = a2 := (Bv_eq m d).trans h2.symm
  have hout : outV m d = outOf (Pv m d) a1 a2 := by unfold outV; rw [hQv, hBv]
  rw [hout]
  funext j
  obtain ⟨g, k, rfl⟩ : ∃ (g : Fin 64) (k : Fin 3), j = ValueIdx.ix2 g k := ⟨j 0, j 1, ValueIdx.eq_ix2 j⟩
  have hr := Ref.refOf_at a0 a1 a2 hB g k
  rw [← show (ValueIdx.ix2 g k : S64x3.Idx) = ix2 g k from rfl] at hr
  rw [hr, tailOf_at, moment_at _ _ _ hB k g, coord_at _ _ _ hB k g, charge_at]
  simp only [hPv]
  exact congrArg (· * Ideal.ofBits .f32 0x3DD7D247#32) (centre_of_real (fun n : Fin 524288 => (a1 (ix1 n) : EReal)) (fun n => (a0 (ix2 n k) : EReal))
    (fun n => hq _) (fun n => hp _) (fun n => (a2 (ix1 n)).toNat = g.val))

/-- The value claim. -/
theorem algebraic : Cert.algebraic_KernelIdeal_ReferenceIdeal_pre_finite_in_range := by
  intro m g m' g' hpre hag
  have hparts := fun d => parts_of_finite _ _ _ _ (hpre d)
  refine ⟨fun d => tailOf (outV m d), ?_, ?_⟩
  · refine (θ_run Cert.KernelIdeal.defs _ _).mono (fun r h d => ?_) (run_main (F := Ideal) m g fun d i => (hparts d).1 i)
    exact ⟨(h.1 d).1.trans (V3_result m d), (h.1 d).2⟩
  · refine (θ_run Cert.ReferenceIdeal.defs _ _).mono (fun r h d => ?_) (Cert.ReferenceIdeal.Value.run (F := Ideal) m' g')
    refine ⟨(h d).1.trans (Eq.symm ?_), (h d).2⟩
    exact results_eq m d _ _ _ (hag d).1 (hag d).2.1 (hag d).2.2.1 (by rw [(hag d).2.2.1]; exact (hparts d).1)
      (fun i => real_of_abs_lt _ (by rw [(hag d).1]; exact (hparts d).2.1 i)) (fun i => real_of_abs_lt _ (by rw [(hag d).2.1]; exact (hparts d).2.2 i))

end Cert.Proof.Pol

end
-- ==== Proof.lean ====
module

public import proofs.«01_k».proof.Defs
public import proofs.«01_k».proof.Proof.Algebra
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_batch_in_range
public import proofs.«01_k».proof.Proof.Gen.Pre_finite_in_range
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_batch_in_range.Gen.facts, Cert.Pre_finite_in_range.Gen.facts,
    Pol.frame_kernel, Pol.frame_ideal, Pol.frame_ideal_finite, Pol.frame_reference, Pol.frame_reference_finite, trivial, Pol.algebraic⟩

end Cert.Proof

end
